-- ==== Defs.lean ====
def Pre_Kernel [hPre_rows_in_range : Cert.Pre_rows_in_range.Facts] (m : (ℓ : Loc Cert.Kernel.nD Cert.Kernel.τ Cert.Kernel.sig) → Buf (Elt Bits) ℓ) : Prop :=
  ∀ c : Dev Cert.Kernel.nD,
    (Cert.Pre_rows_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_rows_in_range : Cert.Pre_rows_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_rows_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rows_in_range [hPre_rows_in_range : Cert.Pre_rows_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rows_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] [hPre_rows_in_range : Cert.Pre_rows_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_rows_in_range : Cert.Pre_rows_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_rows_in_range [hReferenceIdeal : Cert.ReferenceIdeal.Facts] [hPre_rows_in_range : Cert.Pre_rows_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rows_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_rows_in_range : Cert.Pre_rows_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v7) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v2_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2_1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v17) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v3_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3_1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v17) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v44)) (v1 : (c : Dev Cert.Kernel6Ideal.nD) → Buf (Elt Ideal) ((c.tc : Thread Cert.Kernel6Ideal.nD Cert.Kernel6Ideal.τ).loc Cert.Kernel6Ideal.main_v51)) (v2 : (c : Dev Cert.Kernel6Ideal.nD) → Buf (Elt Ideal) ((c.tc : Thread Cert.Kernel6Ideal.nD Cert.Kernel6Ideal.τ).loc Cert.Kernel6Ideal.main_v46)) (v3 : (c : Dev Cert.Kernel6Ideal.nD) → Buf (Elt Ideal) ((c.tc : Thread Cert.Kernel6Ideal.nD Cert.Kernel6Ideal.τ).loc Cert.Kernel6Ideal.main_v56)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v44) = v0 c
          ∧ r.2.mem ((c.tc : Thread Cert.Kernel6Ideal.nD Cert.Kernel6Ideal.τ).loc Cert.Kernel6Ideal.main_v51) = v1 c
          ∧ r.2.mem ((c.tc : Thread Cert.Kernel6Ideal.nD Cert.Kernel6Ideal.τ).loc Cert.Kernel6Ideal.main_v46) = v2 c
          ∧ r.2.mem ((c.tc : Thread Cert.Kernel6Ideal.nD Cert.Kernel6Ideal.τ).loc Cert.Kernel6Ideal.main_v56) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v41) = v0 c
          ∧ r.2.mem ((c.tc : Thread Cert.Reference6Ideal.nD Cert.Reference6Ideal.τ).loc Cert.Reference6Ideal.main_v89) = v1 c
          ∧ r.2.mem ((c.tc : Thread Cert.Reference6Ideal.nD Cert.Reference6Ideal.τ).loc Cert.Reference6Ideal.main_v42) = v2 c
          ∧ r.2.mem ((c.tc : Thread Cert.Reference6Ideal.nD Cert.Reference6Ideal.τ).loc Cert.Reference6Ideal.main_v90) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)) →
    ∃ (v0 : (c : Dev Cert.Kernel7Ideal.nD) → Buf (Elt Ideal) ((c.tc : Thread Cert.Kernel7Ideal.nD Cert.Kernel7Ideal.τ).loc Cert.Kernel7Ideal.main_v9_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v9_1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v40) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v9_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v9_1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v23) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_rows_in_range : Cert.Pre_rows_in_range.Facts),
    quiescent_Kernel (hKernel := hKernel) (hPre_rows_in_range := hPre_rows_in_range)
    ∧ quiescent_KernelIdeal (hKernelIdeal := hKernelIdeal) (hPre_rows_in_range := hPre_rows_in_range)
    ∧ quiescent_ReferenceIdeal (hReferenceIdeal := hReferenceIdeal)
    ∧ quiescent_ReferenceIdeal_pre_rows_in_range (hReferenceIdeal := hReferenceIdeal) (hPre_rows_in_range := hPre_rows_in_range)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal (hKernelIdeal := hKernelIdeal) (hReferenceIdeal := hReferenceIdeal) (hPre_rows_in_range := hPre_rows_in_range)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Pre_rows_in_range.lean ====
abbrev S9216x2048 : Shape := ⟨2, ![9216, 2048]⟩
abbrev S88 : Shape := ⟨1, ![88]⟩
abbrev S22528 : Shape := ⟨1, ![22528]⟩
abbrev S1 : Shape := ⟨1, ![1]⟩
abbrev S4x16x2048x512 : Shape := ⟨4, ![4, 16, 2048, 512]⟩
abbrev S4x16x512x2048 : Shape := ⟨4, ![4, 16, 512, 2048]⟩
abbrev S_ : Shape := ⟨0, ![]⟩
abbrev S22616 : Shape := ⟨1, ![22616]⟩

class Facts : Prop where
  bcast_S_S88 : S_.BroadcastsInDim S88 (![] : Fin 0 → Fin S88.rank)
  bcast_S_S22528 : S_.BroadcastsInDim S22528 (![] : Fin 0 → Fin S22528.rank)
  concatenates_S88_S22528_S22616_d0 : Shape.Concatenates [S88, S22528] S22616 0

variable [Facts]

def fn {F : FTy → Type} [FloatOps F] (main_arg0 : FVec F S9216x2048 .f32) (main_arg1 : IVec S88 32) (main_arg2 : IVec S22528 32) (main_arg3 : IVec S1 32) (main_arg4 : FVec F S4x16x2048x512 .f32) (main_arg5 : FVec F S4x16x2048x512 .f32) (main_arg6 : FVec F S4x16x512x2048 .f32) : IVec S22616 1 :=
  let main_c : IVec S_ 32 := constantI S_ 32 0#32
  let main_v0 : IVec S88 32 := broadcastInDim S88 ![] bcast_S_S88 main_c
  let main_v1 : IVec S88 1 := cmpi .sge main_arg1 main_v0
  let main_c_0 : IVec S_ 32 := constantI S_ 32 16#32
  let main_v2 : IVec S88 32 := broadcastInDim S88 ![] bcast_S_S88 main_c_0
  let main_v3 : IVec S88 1 := cmpi .slt main_arg1 main_v2
  let main_v4 : IVec S88 1 := andi main_v1 main_v3
  let main_c_1 : IVec S_ 32 := constantI S_ 32 0#32
  let main_v5 : IVec S22528 32 := broadcastInDim S22528 ![] bcast_S_S22528 main_c_1
  let main_v6 : IVec S22528 1 := cmpi .sge main_arg2 main_v5
  let main_c_2 : IVec S_ 32 := constantI S_ 32 9216#32
  let main_v7 : IVec S22528 32 := broadcastInDim S22528 ![] bcast_S_S22528 main_c_2
  let main_v8 : IVec S22528 1 := cmpi .slt main_arg2 main_v7
  let main_v9 : IVec S22528 1 := andi main_v6 main_v8
  let main_v10 : IVec S22616 1 := (fun a b => concatenate S22616 0 [⟨S88, a⟩, ⟨S22528, b⟩] concatenates_S88_S22528_S22616_d0) main_v4 main_v9
  main_v10
-- ==== Kernel.lean ====
abbrev S9216x2048 : Shape := ⟨2, ![9216, 2048]⟩
abbrev S88 : Shape := ⟨1, ![88]⟩
abbrev S22528 : Shape := ⟨1, ![22528]⟩
abbrev S1 : Shape := ⟨1, ![1]⟩
abbrev S4x16x2048x512 : Shape := ⟨4, ![4, 16, 2048, 512]⟩
abbrev S4x16x512x2048 : Shape := ⟨4, ![4, 16, 512, 2048]⟩
abbrev S22528x2048 : Shape := ⟨2, ![22528, 2048]⟩
abbrev S1x1x2048x512 : Shape := ⟨4, ![1, 1, 2048, 512]⟩
abbrev S1x1x512x2048 : Shape := ⟨4, ![1, 1, 512, 2048]⟩
abbrev S256x2048 : Shape := ⟨2, ![256, 2048]⟩
abbrev S2x256x2048 : Shape := ⟨3, ![2, 256, 2048]⟩
abbrev S2048x512 : Shape := ⟨2, ![2048, 512]⟩
abbrev S512x2048 : Shape := ⟨2, ![512, 2048]⟩
abbrev S2 : Shape := ⟨1, ![2]⟩
abbrev S_ : Shape := ⟨0, ![]⟩
abbrev S1x256x2048 : Shape := ⟨3, ![1, 256, 2048]⟩
abbrev S1x2048 : Shape := ⟨2, ![1, 2048]⟩
abbrev S2048x256 : Shape := ⟨2, ![2048, 256]⟩
abbrev S256x256 : Shape := ⟨2, ![256, 256]⟩
abbrev S256x512 : Shape := ⟨2, ![256, 512]⟩
abbrev S512x1024 : Shape := ⟨2, ![512, 1024]⟩
abbrev S256x1024 : Shape := ⟨2, ![256, 1024]⟩

abbrev nBuf : Space → Nat
  | .hbm => 5
  | .vmem => 12
  | .smem => 3
  | _ => 0

abbrev bufTy : (tb : Table) → Fin (tcTables nBuf tb) → BufTy
  | .hbm, ⟨0, _⟩ => ⟨S9216x2048, .f32⟩
  | .hbm, ⟨1, _⟩ => ⟨S4x16x2048x512, .f32⟩
  | .hbm, ⟨2, _⟩ => ⟨S4x16x2048x512, .f32⟩
  | .hbm, ⟨3, _⟩ => ⟨S4x16x512x2048, .f32⟩
  | .hbm, ⟨4, _⟩ => ⟨S22528x2048, .f32⟩
  | .local _ .vmem, ⟨0, _⟩ => ⟨S1x1x2048x512, .f32⟩
  | .local _ .vmem, ⟨1, _⟩ => ⟨S1x1x2048x512, .f32⟩
  | .local _ .vmem, ⟨2, _⟩ => ⟨S1x1x2048x512, .f32⟩
  | .local _ .vmem, ⟨3, _⟩ => ⟨S1x1x2048x512, .f32⟩
  | .local _ .vmem, ⟨4, _⟩ => ⟨S1x1x512x2048, .f32⟩
  | .local _ .vmem, ⟨5, _⟩ => ⟨S1x1x512x2048, .f32⟩
  | .local _ .vmem, ⟨6, _⟩ => ⟨S256x2048, .f32⟩
  | .local _ .vmem, ⟨7, _⟩ => ⟨S256x2048, .f32⟩
  | .local _ .vmem, ⟨8, _⟩ => ⟨S2x256x2048, .f32⟩
  | .local _ .vmem, ⟨9, _⟩ => ⟨S2048x512, .bf16⟩
  | .local _ .vmem, ⟨10, _⟩ => ⟨S2048x512, .bf16⟩
  | .local _ .vmem, ⟨11, _⟩ => ⟨S512x2048, .bf16⟩
  | .local _ .smem, ⟨0, _⟩ => ⟨S88, .i32⟩
  | .local _ .smem, ⟨1, _⟩ => ⟨S22528, .i32⟩
  | .local _ .smem, ⟨2, _⟩ => ⟨S1, .i32⟩
  | _, _ => ⟨S9216x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg4 : Ref sig .tc := ⟨.hbm, 1, rfl⟩
abbrev main_arg5 : Ref sig .tc := ⟨.hbm, 2, rfl⟩
abbrev main_arg6 : Ref sig .tc := ⟨.hbm, 3, rfl⟩
abbrev main_v0 : Ref sig .tc := ⟨.hbm, 4, rfl⟩
abbrev main_arg1 : Ref sig .tc := ⟨.smem, 0, rfl⟩
abbrev main_arg2 : Ref sig .tc := ⟨.smem, 1, rfl⟩
abbrev main_arg3 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![88], ![false]⟩

abbrev pre0 : Pipeline.Prefetch sig := ⟨3, ![main_arg1.idx, main_arg2.idx, main_arg3.idx], fun | 0 => main_arg1.names | 1 => main_arg2.names | 2 => main_arg3.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg0 : BitVec 32 := BitVec.ofNat 32 (i 0).val
  let c0_i32_13 : BitVec 32 := 0#32
  let v26 : BitVec 1 := Scalar.cmpi .eq arg0 c0_i32_13
  let v27 : BitVec 32 := Scalar.extui v26
  let c0_i32_14 : BitVec 32 := 0#32
  let v28 : BitVec 1 := Scalar.cmpi .ne v27 c0_i32_14
  v28

@[reducible] def k0_t1_loop : Scf.Loop 32 :=
  let c0_i32_23 : BitVec 32 := 0#32
  let c256_i32_24 : BitVec 32 := 256#32
  let v39 : BitVec 32 := Scalar.addi c0_i32_23 c256_i32_24
  let c1_i32_25 : BitVec 32 := 1#32
  ⟨c0_i32_23, v39, c1_i32_25⟩
def k0_off2 (k0_t1 : Fin k0_t1_loop.trips) : Fin 1 → Nat :=
  let c0_i32_27 : BitVec 32 := 0#32
  let c0_i32_23 : BitVec 32 := 0#32
  let c1_i32_25 : BitVec 32 := 1#32
  let arg14 : BitVec 32 := Scf.iv c0_i32_23 c1_i32_25 k0_t1
  let v40 : BitVec 32 := Scalar.addi c0_i32_27 arg14
  let v41 : Index := Scalar.indexCast v40
  ![v41.toNat]
def k0_off3 (k0_t1 : Fin k0_t1_loop.trips) : Fin 2 → Nat :=
  let c0_i32_23 : BitVec 32 := 0#32
  let c1_i32_25 : BitVec 32 := 1#32
  let arg14 : BitVec 32 := Scf.iv c0_i32_23 c1_i32_25 k0_t1
  let c0_i32_30 : BitVec 32 := 0#32
  ![arg14.toNat, 0]
def k0_off4 (v42 : BitVec 32) : Fin 2 → Nat :=
  let c0_i32_31 : BitVec 32 := 0#32
  ![v42.toNat, 0]

def k0_chk1 (i : grid0.Coords) (v42 : BitVec 32) : Prop :=
  (∀ (k0_h1 : k0_cond1 i = 1#1), ∀ a, (k0_off4 v42) a + S1x2048.size a ≤ S9216x2048.size a)
theorem k0_off4_inb : ∀ (i : grid0.Coords) (v42 : BitVec 32) (k0_hw1 : k0_chk1 i v42), ∀ (k0_h1 : k0_cond1 i = 1#1), ∀ a, (k0_off4 v42) a + S1x2048.size a ≤ S9216x2048.size a := fun i v42 k0_hw1 k0_h1 => k0_hw1 k0_h1

@[reducible] def k0_t2_loop : Scf.Loop 32 :=
  let c0_i32_15 : BitVec 32 := 0#32
  let c256_i32 : BitVec 32 := 256#32
  let v29 : BitVec 32 := Scalar.addi c0_i32_15 c256_i32
  let c1_i32_16 : BitVec 32 := 1#32
  ⟨c0_i32_15, v29, c1_i32_16⟩
def k0_off5 (i : grid0.Coords) : Fin 1 → Nat :=
  let arg0 : BitVec 32 := BitVec.ofNat 32 (i 0).val
  let c2_i32 : BitVec 32 := 2#32
  let c0_i32 : BitVec 32 := 0#32
  let v1 : BitVec 1 := Scalar.cmpi .eq c2_i32 c0_i32
  let c1_i32 : BitVec 32 := 1#32
  let v2 : BitVec 32 := Scalar.select v1 c1_i32 c2_i32
  let v3 : BitVec 32 := Scalar.remsi arg0 v2
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let c0_i32_0 : BitVec 32 := 0#32
  let v4 : BitVec 1 := Scalar.cmpi .ne v3 c0_i32_0
  let v8 : BitVec 1 := Scalar.andi v7 v4
  let v9 : BitVec 32 := Scalar.addi v3 v2
  let v10 : BitVec 32 := Scalar.select v8 v9 v3
  ![v10.toNat]
def k0_off6 (i : grid0.Coords) : Fin 3 → Nat :=
  let arg0 : BitVec 32 := BitVec.ofNat 32 (i 0).val
  let c2_i32 : BitVec 32 := 2#32
  let c0_i32 : BitVec 32 := 0#32
  let v1 : BitVec 1 := Scalar.cmpi .eq c2_i32 c0_i32
  let c1_i32 : BitVec 32 := 1#32
  let v2 : BitVec 32 := Scalar.select v1 c1_i32 c2_i32
  let v3 : BitVec 32 := Scalar.remsi arg0 v2
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let c0_i32_0 : BitVec 32 := 0#32
  let v4 : BitVec 1 := Scalar.cmpi .ne v3 c0_i32_0
  let v8 : BitVec 1 := Scalar.andi v7 v4
  let v9 : BitVec 32 := Scalar.addi v3 v2
  let v10 : BitVec 32 := Scalar.select v8 v9 v3
  let c0_i32_21 : BitVec 32 := 0#32
  let c0_i32_22 : BitVec 32 := 0#32
  ![v10.toNat, 0, 0]
def k0_off7 (k0_t2 : Fin k0_t2_loop.trips) : Fin 2 → Nat :=
  let c0_i32_15 : BitVec 32 := 0#32
  let c1_i32_16 : BitVec 32 := 1#32
  let arg14 : BitVec 32 := Scf.iv c0_i32_15 c1_i32_16 k0_t2
  let c0_i32_23 : BitVec 32 := 0#32
  ![arg14.toNat, 0]
def k0_off8 (i : grid0.Coords) : Fin 1 → Nat :=
  let arg0 : BitVec 32 := BitVec.ofNat 32 (i 0).val
  let v40 : Index := Scalar.indexCast arg0
  ![v40.toNat]
def k0_off9 (i : grid0.Coords) : Fin 1 → Nat :=
  let arg0 : BitVec 32 := BitVec.ofNat 32 (i 0).val
  let c1_i32_22 : BitVec 32 := 1#32
  let v42 : BitVec 32 := Scalar.subi arg0 c1_i32_22
  let c0_i32_23 : BitVec 32 := 0#32
  let v43 : BitVec 32 := Scalar.maxsi v42 c0_i32_23
  let v44 : Index := Scalar.indexCast v43
  ![v44.toNat]
def k0_off10 (i : grid0.Coords) : Fin 3 → Nat :=
  let arg0 : BitVec 32 := BitVec.ofNat 32 (i 0).val
  let c2_i32 : BitVec 32 := 2#32
  let c0_i32 : BitVec 32 := 0#32
  let v1 : BitVec 1 := Scalar.cmpi .eq c2_i32 c0_i32
  let c1_i32 : BitVec 32 := 1#32
  let v2 : BitVec 32 := Scalar.select v1 c1_i32 c2_i32
  let v3 : BitVec 32 := Scalar.remsi arg0 v2
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let c0_i32_0 : BitVec 32 := 0#32
  let v4 : BitVec 1 := Scalar.cmpi .ne v3 c0_i32_0
  let v8 : BitVec 1 := Scalar.andi v7 v4
  let v9 : BitVec 32 := Scalar.addi v3 v2
  let v10 : BitVec 32 := Scalar.select v8 v9 v3
  let v50 : Index := Scalar.indexCast v10
  let c0_25 : Index := 0#32
  let c0_26 : Index := 0#32
  ![v50.toNat, 0, 0]
@[reducible] def k0_t3_loop : Scf.Loop 32 :=
  let c0_i32_28 : BitVec 32 := 0#32
  let c128_i32 : BitVec 32 := 128#32
  let v55 : BitVec 32 := Scalar.addi c0_i32_28 c128_i32
  let c1_i32_29 : BitVec 32 := 1#32
  ⟨c0_i32_28, v55, c1_i32_29⟩
def k0_off11 (i : grid0.Coords) (k0_t3 : Fin k0_t3_loop.trips) : Fin 1 → Nat :=
  let arg0 : BitVec 32 := BitVec.ofNat 32 (i 0).val
  let c1_i32_10 : BitVec 32 := 1#32
  let v22 : BitVec 32 := Scalar.addi arg0 c1_i32_10
  let c88_i32 : BitVec 32 := 88#32
  let v23 : BitVec 1 := Scalar.cmpi .slt v22 c88_i32
  let c1_i32_11 : BitVec 32 := 1#32
  let v24 : BitVec 32 := Scalar.addi arg0 c1_i32_11
  let c0_i32_12 : BitVec 32 := 0#32
  let v25 : BitVec 32 := Scalar.select v23 v24 c0_i32_12
  let c256_i32_27 : BitVec 32 := 256#32
  let v54 : BitVec 32 := Scalar.muli v25 c256_i32_27
  let c0_i32_28 : BitVec 32 := 0#32
  let c1_i32_29 : BitVec 32 := 1#32
  let arg14 : BitVec 32 := Scf.iv c0_i32_28 c1_i32_29 k0_t3
  let v93 : BitVec 32 := Scalar.addi v54 arg14
  let v94 : Index := Scalar.indexCast v93
  ![v94.toNat]
def k0_off12 (i : grid0.Coords) : Fin 1 → Nat :=
  let arg0 : BitVec 32 := BitVec.ofNat 32 (i 0).val
  let c1_i32_3 : BitVec 32 := 1#32
  let v11 : BitVec 32 := Scalar.addi arg0 c1_i32_3
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  ![v21.toNat]
def k0_off13 (i : grid0.Coords) : Fin 3 → Nat :=
  let arg0 : BitVec 32 := BitVec.ofNat 32 (i 0).val
  let c1_i32_3 : BitVec 32 := 1#32
  let v11 : BitVec 32 := Scalar.addi arg0 c1_i32_3
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c0_i32_61 : BitVec 32 := 0#32
  let c0_i32_62 : BitVec 32 := 0#32
  ![v21.toNat, 0, 0]
def k0_off14 (k0_t3 : Fin k0_t3_loop.trips) : Fin 2 → Nat :=
  let c0_i32_28 : BitVec 32 := 0#32
  let c1_i32_29 : BitVec 32 := 1#32
  let arg14 : BitVec 32 := Scf.iv c0_i32_28 c1_i32_29 k0_t3
  let c0_i32_63 : BitVec 32 := 0#32
  ![arg14.toNat, 0]
def k0_off15 (v95 : BitVec 32) : Fin 2 → Nat :=
  let c0_i32_64 : BitVec 32 := 0#32
  ![v95.toNat, 0]
def k0_cond2 (i : grid0.Coords) (v0 : BitVec 32) : BitVec 1 :=
  let arg0 : BitVec 32 := BitVec.ofNat 32 (i 0).val
  let v30 : BitVec 1 := Scalar.cmpi .slt arg0 v0
  let v31 : BitVec 32 := Scalar.extui v30
  let c0_i32_18 : BitVec 32 := 0#32
  let v32 : BitVec 1 := Scalar.cmpi .ne v31 c0_i32_18
  v32

def k0_chk2 (i : grid0.Coords) (v0 : BitVec 32) (v95 : BitVec 32) : Prop :=
  (∀ (k0_h2 : k0_cond2 i v0 = 1#1), ∀ a, (k0_off15 v95) a + S1x2048.size a ≤ S9216x2048.size a)
theorem k0_off15_inb : ∀ (i : grid0.Coords) (v0 : BitVec 32) (v95 : BitVec 32) (k0_hw2 : k0_chk2 i v0 v95), ∀ (k0_h2 : k0_cond2 i v0 = 1#1), ∀ a, (k0_off15 v95) a + S1x2048.size a ≤ S9216x2048.size a := fun i v0 v95 k0_hw2 k0_h2 => k0_hw2 k0_h2

@[reducible] def k0_t4_loop : Scf.Loop 32 :=
  let c128_i32_40 : BitVec 32 := 128#32
  let c128_i32_41 : BitVec 32 := 128#32
  let v71 : BitVec 32 := Scalar.addi c128_i32_40 c128_i32_41
  let c1_i32_42 : BitVec 32 := 1#32
  ⟨c128_i32_40, v71, c1_i32_42⟩
def k0_off16 (i : grid0.Coords) (k0_t4 : Fin k0_t4_loop.trips) : Fin 1 → Nat :=
  let arg0 : BitVec 32 := BitVec.ofNat 32 (i 0).val
  let c1_i32_10 : BitVec 32 := 1#32
  let v22 : BitVec 32 := Scalar.addi arg0 c1_i32_10
  let c88_i32 : BitVec 32 := 88#32
  let v23 : BitVec 1 := Scalar.cmpi .slt v22 c88_i32
  let c1_i32_11 : BitVec 32 := 1#32
  let v24 : BitVec 32 := Scalar.addi arg0 c1_i32_11
  let c0_i32_12 : BitVec 32 := 0#32
  let v25 : BitVec 32 := Scalar.select v23 v24 c0_i32_12
  let c256_i32_39 : BitVec 32 := 256#32
  let v70 : BitVec 32 := Scalar.muli v25 c256_i32_39
  let c128_i32_40 : BitVec 32 := 128#32
  let c1_i32_42 : BitVec 32 := 1#32
  let arg14 : BitVec 32 := Scf.iv c128_i32_40 c1_i32_42 k0_t4
  let v93 : BitVec 32 := Scalar.addi v70 arg14
  let v94 : Index := Scalar.indexCast v93
  ![v94.toNat]
def k0_off17 (i : grid0.Coords) : Fin 1 → Nat :=
  let arg0 : BitVec 32 := BitVec.ofNat 32 (i 0).val
  let c1_i32_3 : BitVec 32 := 1#32
  let v11 : BitVec 32 := Scalar.addi arg0 c1_i32_3
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  ![v21.toNat]
def k0_off18 (i : grid0.Coords) : Fin 3 → Nat :=
  let arg0 : BitVec 32 := BitVec.ofNat 32 (i 0).val
  let c1_i32_3 : BitVec 32 := 1#32
  let v11 : BitVec 32 := Scalar.addi arg0 c1_i32_3
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c0_i32_61 : BitVec 32 := 0#32
  let c0_i32_62 : BitVec 32 := 0#32
  ![v21.toNat, 0, 0]
def k0_off19 (k0_t4 : Fin k0_t4_loop.trips) : Fin 2 → Nat :=
  let c128_i32_40 : BitVec 32 := 128#32
  let c1_i32_42 : BitVec 32 := 1#32
  let arg14 : BitVec 32 := Scf.iv c128_i32_40 c1_i32_42 k0_t4
  let c0_i32_63 : BitVec 32 := 0#32
  ![arg14.toNat, 0]
def k0_off20 (v95 : BitVec 32) : Fin 2 → Nat :=
  let c0_i32_64 : BitVec 32 := 0#32
  ![v95.toNat, 0]

def k0_chk3 (i : grid0.Coords) (v0 : BitVec 32) (v95 : BitVec 32) : Prop :=
  (∀ (k0_h2 : k0_cond2 i v0 = 1#1), ∀ a, (k0_off20 v95) a + S1x2048.size a ≤ S9216x2048.size a)
theorem k0_off20_inb : ∀ (i : grid0.Coords) (v0 : BitVec 32) (v95 : BitVec 32) (k0_hw3 : k0_chk3 i v0 v95), ∀ (k0_h2 : k0_cond2 i v0 = 1#1), ∀ a, (k0_off20 v95) a + S1x2048.size a ≤ S9216x2048.size a := fun i v0 v95 k0_hw3 k0_h2 => k0_hw3 k0_h2

@[reducible] def k0_t5_loop : Scf.Loop 32 :=
  let c0_i32_22 : BitVec 32 := 0#32
  let c256_i32_23 : BitVec 32 := 256#32
  let v40 : BitVec 32 := Scalar.addi c0_i32_22 c256_i32_23
  let c1_i32_24 : BitVec 32 := 1#32
  ⟨c0_i32_22, v40, c1_i32_24⟩
def k0_off21 (i : grid0.Coords) (k0_t5 : Fin k0_t5_loop.trips) : Fin 1 → Nat :=
  let arg0 : BitVec 32 := BitVec.ofNat 32 (i 0).val
  let c1_i32_10 : BitVec 32 := 1#32
  let v22 : BitVec 32 := Scalar.addi arg0 c1_i32_10
  let c88_i32 : BitVec 32 := 88#32
  let v23 : BitVec 1 := Scalar.cmpi .slt v22 c88_i32
  let c1_i32_11 : BitVec 32 := 1#32
  let v24 : BitVec 32 := Scalar.addi arg0 c1_i32_11
  let c0_i32_12 : BitVec 32 := 0#32
  let v25 : BitVec 32 := Scalar.select v23 v24 c0_i32_12
  let c256_i32_21 : BitVec 32 := 256#32
  let v39 : BitVec 32 := Scalar.muli v25 c256_i32_21
  let c0_i32_22 : BitVec 32 := 0#32
  let c1_i32_24 : BitVec 32 := 1#32
  let arg14 : BitVec 32 := Scf.iv c0_i32_22 c1_i32_24 k0_t5
  let v43 : BitVec 32 := Scalar.addi v39 arg14
  let v44 : Index := Scalar.indexCast v43
  ![v44.toNat]
def k0_off22 (i : grid0.Coords) : Fin 1 → Nat :=
  let arg0 : BitVec 32 := BitVec.ofNat 32 (i 0).val
  let c1_i32_3 : BitVec 32 := 1#32
  let v11 : BitVec 32 := Scalar.addi arg0 c1_i32_3
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  ![v21.toNat]
def k0_off23 (i : grid0.Coords) : Fin 3 → Nat :=
  let arg0 : BitVec 32 := BitVec.ofNat 32 (i 0).val
  let c1_i32_3 : BitVec 32 := 1#32
  let v11 : BitVec 32 := Scalar.addi arg0 c1_i32_3
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c0_i32_28 : BitVec 32 := 0#32
  let c0_i32_29 : BitVec 32 := 0#32
  ![v21.toNat, 0, 0]
def k0_off24 (k0_t5 : Fin k0_t5_loop.trips) : Fin 2 → Nat :=
  let c0_i32_22 : BitVec 32 := 0#32
  let c1_i32_24 : BitVec 32 := 1#32
  let arg14 : BitVec 32 := Scf.iv c0_i32_22 c1_i32_24 k0_t5
  let c0_i32_30 : BitVec 32 := 0#32
  ![arg14.toNat, 0]
def k0_off25 (v45 : BitVec 32) : Fin 2 → Nat :=
  let c0_i32_31 : BitVec 32 := 0#32
  ![v45.toNat, 0]
def k0_cond4 (i : grid0.Coords) (v0 : BitVec 32) : BitVec 1 :=
  let arg0 : BitVec 32 := BitVec.ofNat 32 (i 0).val
  let v33 : BitVec 1 := Scalar.cmpi .sge arg0 v0
  let v34 : BitVec 32 := Scalar.extui v33
  let c0_i32_19 : BitVec 32 := 0#32
  let v35 : BitVec 1 := Scalar.cmpi .ne v34 c0_i32_19
  v35

def k0_chk4 (i : grid0.Coords) (v0 : BitVec 32) (v45 : BitVec 32) : Prop :=
  (∀ (k0_h4 : k0_cond4 i v0 = 1#1), ∀ a, (k0_off25 v45) a + S1x2048.size a ≤ S9216x2048.size a)
theorem k0_off25_inb : ∀ (i : grid0.Coords) (v0 : BitVec 32) (v45 : BitVec 32) (k0_hw4 : k0_chk4 i v0 v45), ∀ (k0_h4 : k0_cond4 i v0 = 1#1), ∀ a, (k0_off25 v45) a + S1x2048.size a ≤ S9216x2048.size a := fun i v0 v45 k0_hw4 k0_h4 => k0_hw4 k0_h4

def k0_cond5 (i : grid0.Coords) : BitVec 1 :=
  let arg0 : BitVec 32 := BitVec.ofNat 32 (i 0).val
  let c87_i32 : BitVec 32 := 87#32
  let v36 : BitVec 1 := Scalar.cmpi .eq arg0 c87_i32
  let v37 : BitVec 32 := Scalar.extui v36
  let c0_i32_20 : BitVec 32 := 0#32
  let v38 : BitVec 1 := Scalar.cmpi .ne v37 c0_i32_20
  v38

@[reducible] def k0_t6_loop : Scf.Loop 32 :=
  let c0_i32_21 : BitVec 32 := 0#32
  let c256_i32_22 : BitVec 32 := 256#32
  let v39 : BitVec 32 := Scalar.addi c0_i32_21 c256_i32_22
  let c1_i32_23 : BitVec 32 := 1#32
  ⟨c0_i32_21, v39, c1_i32_23⟩
def k0_off26 (i : grid0.Coords) : Fin 1 → Nat :=
  let arg0 : BitVec 32 := BitVec.ofNat 32 (i 0).val
  let c1_i32_3 : BitVec 32 := 1#32
  let v11 : BitVec 32 := Scalar.addi arg0 c1_i32_3
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  ![v21.toNat]
def k0_off27 (i : grid0.Coords) : Fin 3 → Nat :=
  let arg0 : BitVec 32 := BitVec.ofNat 32 (i 0).val
  let c1_i32_3 : BitVec 32 := 1#32
  let v11 : BitVec 32 := Scalar.addi arg0 c1_i32_3
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c0_i32_25 : BitVec 32 := 0#32
  let c0_i32_26 : BitVec 32 := 0#32
  ![v21.toNat, 0, 0]
def k0_off28 (k0_t6 : Fin k0_t6_loop.trips) : Fin 2 → Nat :=
  let c0_i32_21 : BitVec 32 := 0#32
  let c1_i32_23 : BitVec 32 := 1#32
  let arg14 : BitVec 32 := Scf.iv c0_i32_21 c1_i32_23 k0_t6
  let c0_i32_27 : BitVec 32 := 0#32
  ![arg14.toNat, 0]
def cc0_transform_1 (k0_off1_inb : ∀ i : grid0.Coords, ∀ a, (k0_off1 i) a + S1.size a ≤ S88.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S88) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S88.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S88) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (k0_off1_inb : ∀ i : grid0.Coords, ∀ a, (k0_off1 i) a + S1.size a ≤ S88.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S88) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x1x2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S9216x2048 : Shape := ⟨2, ![9216, 2048]⟩
abbrev S88 : Shape := ⟨1, ![88]⟩
abbrev S22528 : Shape := ⟨1, ![22528]⟩
abbrev S1 : Shape := ⟨1, ![1]⟩
abbrev S4x16x2048x512 : Shape := ⟨4, ![4, 16, 2048, 512]⟩
abbrev S4x16x512x2048 : Shape := ⟨4, ![4, 16, 512, 2048]⟩
abbrev S22528x1 : Shape := ⟨2, ![22528, 1]⟩
abbrev S22528x2048 : Shape := ⟨2, ![22528, 2048]⟩
abbrev S_ : Shape := ⟨0, ![]⟩
abbrev S88x1 : Shape := ⟨2, ![88, 1]⟩
abbrev S88x256 : Shape := ⟨2, ![88, 256]⟩
abbrev S1x16 : Shape := ⟨2, ![1, 16]⟩
abbrev S22528x16 : Shape := ⟨2, ![22528, 16]⟩
abbrev S1x16x2048x512 : Shape := ⟨4, ![1, 16, 2048, 512]⟩
abbrev S16x2048x512 : Shape := ⟨3, ![16, 2048, 512]⟩
abbrev S22528x16x512 : Shape := ⟨3, ![22528, 16, 512]⟩
abbrev S22528x16x1 : Shape := ⟨3, ![22528, 16, 1]⟩
abbrev S1x16x512x2048 : Shape := ⟨4, ![1, 16, 512, 2048]⟩
abbrev S16x512x2048 : Shape := ⟨3, ![16, 512, 2048]⟩

abbrev nBuf : Space → Nat
  | .hbm => 68
  | .vmem => 0
  | .smem => 0
  | _ => 0

abbrev bufTy : (tb : Table) → Fin (tcTables nBuf tb) → BufTy
  | .hbm, ⟨0, _⟩ => ⟨S9216x2048, .f32⟩
  | .hbm, ⟨1, _⟩ => ⟨S88, .i32⟩
  | .hbm, ⟨2, _⟩ => ⟨S22528, .i32⟩
  | .hbm, ⟨3, _⟩ => ⟨S1, .i32⟩
  | .hbm, ⟨4, _⟩ => ⟨S4x16x2048x512, .f32⟩
  | .hbm, ⟨5, _⟩ => ⟨S4x16x2048x512, .f32⟩
  | .hbm, ⟨6, _⟩ => ⟨S4x16x512x2048, .f32⟩
  | .hbm, ⟨7, _⟩ => ⟨S22528x1, .i32⟩
  | .hbm, ⟨8, _⟩ => ⟨S22528x2048, .f32⟩
  | .hbm, ⟨9, _⟩ => ⟨S22528, .i32⟩
  | .hbm, ⟨10, _⟩ => ⟨S_, .i32⟩
  | .hbm, ⟨11, _⟩ => ⟨S_, .i32⟩
  | .hbm, ⟨12, _⟩ => ⟨S22528, .i32⟩
  | .hbm, ⟨13, _⟩ => ⟨S22528, .i32⟩
  | .hbm, ⟨14, _⟩ => ⟨S22528, .i32⟩
  | .hbm, ⟨15, _⟩ => ⟨S_, .i32⟩
  | .hbm, ⟨16, _⟩ => ⟨S22528, .i32⟩
  | .hbm, ⟨17, _⟩ => ⟨S22528, .i1⟩
  | .hbm, ⟨18, _⟩ => ⟨S22528, .i32⟩
  | .hbm, ⟨19, _⟩ => ⟨S22528, .i32⟩
  | .hbm, ⟨20, _⟩ => ⟨S_, .i32⟩
  | .hbm, ⟨21, _⟩ => ⟨S22528, .i32⟩
  | .hbm, ⟨22, _⟩ => ⟨S22528, .i1⟩
  | .hbm, ⟨23, _⟩ => ⟨S22528, .i1⟩
  | .hbm, ⟨24, _⟩ => ⟨S_, .i32⟩
  | .hbm, ⟨25, _⟩ => ⟨S22528, .i32⟩
  | .hbm, ⟨26, _⟩ => ⟨S22528, .i32⟩
  | .hbm, ⟨27, _⟩ => ⟨S22528, .i32⟩
  | .hbm, ⟨28, _⟩ => ⟨S88x1, .i32⟩
  | .hbm, ⟨29, _⟩ => ⟨S88x256, .i32⟩
  | .hbm, ⟨30, _⟩ => ⟨S22528, .i32⟩
  | .hbm, ⟨31, _⟩ => ⟨S_, .i32⟩
  | .hbm, ⟨32, _⟩ => ⟨S22528, .i32⟩
  | .hbm, ⟨33, _⟩ => ⟨S22528, .i1⟩
  | .hbm, ⟨34, _⟩ => ⟨S22528x1, .i1⟩
  | .hbm, ⟨35, _⟩ => ⟨S22528x1, .i32⟩
  | .hbm, ⟨36, _⟩ => ⟨S1x16, .i32⟩
  | .hbm, ⟨37, _⟩ => ⟨S22528x16, .i32⟩
  | .hbm, ⟨38, _⟩ => ⟨S22528x16, .i32⟩
  | .hbm, ⟨39, _⟩ => ⟨S22528x16, .i1⟩
  | .hbm, ⟨40, _⟩ => ⟨S22528x16, .f32⟩
  | .hbm, ⟨41, _⟩ => ⟨S_, .f32⟩
  | .hbm, ⟨42, _⟩ => ⟨S_, .f32⟩
  | .hbm, ⟨43, _⟩ => ⟨S22528x16, .i1⟩
  | .hbm, ⟨44, _⟩ => ⟨S22528x16, .f32⟩
  | .hbm, ⟨45, _⟩ => ⟨S22528x16, .f32⟩
  | .hbm, ⟨46, _⟩ => ⟨S1x16x2048x512, .f32⟩
  | .hbm, ⟨47, _⟩ => ⟨S16x2048x512, .f32⟩
  | .hbm, ⟨48, _⟩ => ⟨S22528x16x512, .f32⟩
  | .hbm, ⟨49, _⟩ => ⟨S22528x16x512, .f32⟩
  | .hbm, ⟨50, _⟩ => ⟨S22528x16x512, .f32⟩
  | .hbm, ⟨51, _⟩ => ⟨S_, .f32⟩
  | .hbm, ⟨52, _⟩ => ⟨S22528x16x512, .f32⟩
  | .hbm, ⟨53, _⟩ => ⟨S22528x16x512, .f32⟩
  | .hbm, ⟨54, _⟩ => ⟨S_, .f32⟩
  | .hbm, ⟨55, _⟩ => ⟨S22528x16x512, .f32⟩
  | .hbm, ⟨56, _⟩ => ⟨S22528x16x512, .f32⟩
  | .hbm, ⟨57, _⟩ => ⟨S22528x16x512, .f32⟩
  | .hbm, ⟨58, _⟩ => ⟨S1x16x2048x512, .f32⟩
  | .hbm, ⟨59, _⟩ => ⟨S16x2048x512, .f32⟩
  | .hbm, ⟨60, _⟩ => ⟨S22528x16x512, .f32⟩
  | .hbm, ⟨61, _⟩ => ⟨S22528x16x512, .f32⟩
  | .hbm, ⟨62, _⟩ => ⟨S22528x16x1, .f32⟩
  | .hbm, ⟨63, _⟩ => ⟨S22528x16x512, .f32⟩
  | .hbm, ⟨64, _⟩ => ⟨S22528x16x512, .f32⟩
  | .hbm, ⟨65, _⟩ => ⟨S1x16x512x2048, .f32⟩
  | .hbm, ⟨66, _⟩ => ⟨S16x512x2048, .f32⟩
  | .hbm, ⟨67, _⟩ => ⟨S22528x2048, .f32⟩
  | _, _ => ⟨S9216x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_call1_v0 : Ref sig .tc := ⟨.hbm, 11, rfl⟩
abbrev main_call1_v1 : Ref sig .tc := ⟨.hbm, 12, rfl⟩
abbrev main_call1_v2 : Ref sig .tc := ⟨.hbm, 13, rfl⟩
abbrev main_call1_v3 : Ref sig .tc := ⟨.hbm, 14, rfl⟩
abbrev main_call1_v4 : Ref sig .tc := ⟨.hbm, 15, rfl⟩
abbrev main_call1_v5 : Ref sig .tc := ⟨.hbm, 16, rfl⟩
abbrev main_call1_v6 : Ref sig .tc := ⟨.hbm, 17, rfl⟩
abbrev main_call1_v7 : Ref sig .tc := ⟨.hbm, 18, rfl⟩
abbrev main_call1_v8 : Ref sig .tc := ⟨.hbm, 19, rfl⟩
abbrev main_call1_c : Ref sig .tc := ⟨.hbm, 20, rfl⟩
abbrev main_call1_v9 : Ref sig .tc := ⟨.hbm, 21, rfl⟩
abbrev main_call1_v10 : Ref sig .tc := ⟨.hbm, 22, rfl⟩
abbrev main_call1_v11 : Ref sig .tc := ⟨.hbm, 23, rfl⟩
abbrev main_call1_c_0 : Ref sig .tc := ⟨.hbm, 24, rfl⟩
abbrev main_call1_v12 : Ref sig .tc := ⟨.hbm, 25, rfl⟩
abbrev main_call1_v13 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_call2_v0 : Ref sig .tc := ⟨.hbm, 35, rfl⟩
abbrev main_call2_v1 : Ref sig .tc := ⟨.hbm, 36, rfl⟩
abbrev main_call2_v2 : Ref sig .tc := ⟨.hbm, 37, rfl⟩
abbrev main_call2_v3 : Ref sig .tc := ⟨.hbm, 38, rfl⟩
abbrev main_call2_v4 : Ref sig .tc := ⟨.hbm, 39, rfl⟩
abbrev main_v10 : Ref sig .tc := ⟨.hbm, 40, rfl⟩
abbrev main_cst : Ref sig .tc := ⟨.hbm, 41, rfl⟩
abbrev main_call3_v0 : Ref sig .tc := ⟨.hbm, 42, rfl⟩
abbrev main_call3_v1 : Ref sig .tc := ⟨.hbm, 43, rfl⟩
abbrev main_call3_v2 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_call4_v0 : Ref sig .tc := ⟨.hbm, 49, rfl⟩
abbrev main_call4_v1 : Ref sig .tc := ⟨.hbm, 50, rfl⟩
abbrev main_call4_cst : Ref sig .tc := ⟨.hbm, 51, rfl⟩
abbrev main_call4_v2 : Ref sig .tc := ⟨.hbm, 52, rfl⟩
abbrev main_call4_v3 : Ref sig .tc := ⟨.hbm, 53, rfl⟩
abbrev main_call4_cst_0 : Ref sig .tc := ⟨.hbm, 54, rfl⟩
abbrev main_call4_v4 : Ref sig .tc := ⟨.hbm, 55, rfl⟩
abbrev main_call4_v5 : Ref sig .tc := ⟨.hbm, 56, rfl⟩
abbrev main_v15 : Ref sig .tc := ⟨.hbm, 57, rfl⟩
abbrev main_v16 : Ref sig .tc := ⟨.hbm, 58, rfl⟩
abbrev main_v17 : Ref sig .tc := ⟨.hbm, 59, rfl⟩
abbrev main_v18 : Ref sig .tc := ⟨.hbm, 60, rfl⟩
abbrev main_v19 : Ref sig .tc := ⟨.hbm, 61, rfl⟩
abbrev main_v20 : Ref sig .tc := ⟨.hbm, 62, rfl⟩
abbrev main_v21 : Ref sig .tc := ⟨.hbm, 63, rfl⟩
abbrev main_v22 : Ref sig .tc := ⟨.hbm, 64, rfl⟩
abbrev main_v23 : Ref sig .tc := ⟨.hbm, 65, rfl⟩
abbrev main_v24 : Ref sig .tc := ⟨.hbm, 66, rfl⟩
abbrev main_v25 : Ref sig .tc := ⟨.hbm, 67, rfl⟩

abbrev nD : Nat := 1
abbrev τ : Topo := Topo.v7x

variable {F : FTy → Type} [FloatOps F]
-- ==== Kernel2.lean ====
abbrev S9216x2048 : Shape := ⟨2, ![9216, 2048]⟩
abbrev S2x2048x12288 : Shape := ⟨3, ![2, 2048, 12288]⟩
abbrev S9216x4096 : Shape := ⟨2, ![9216, 4096]⟩
abbrev S1024x2048 : Shape := ⟨2, ![1024, 2048]⟩
abbrev S1x2048x1024 : Shape := ⟨3, ![1, 2048, 1024]⟩
abbrev S1024x1024 : Shape := ⟨2, ![1024, 1024]⟩
abbrev S1x2048x256 : Shape := ⟨3, ![1, 2048, 256]⟩
abbrev S2048x256 : Shape := ⟨2, ![2048, 256]⟩
abbrev S1024x256 : Shape := ⟨2, ![1024, 256]⟩

abbrev nBuf : Space → Nat
  | .hbm => 3
  | .vmem => 6
  | .smem => 0
  | _ => 0

abbrev bufTy : (tb : Table) → Fin (tcTables nBuf tb) → BufTy
  | .hbm, ⟨0, _⟩ => ⟨S9216x2048, .bf16⟩
  | .hbm, ⟨1, _⟩ => ⟨S2x2048x12288, .f32⟩
  | .hbm, ⟨2, _⟩ => ⟨S9216x4096, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1024x1024, .f32⟩
  | .local _ .vmem, ⟨5, _⟩ => ⟨S1024x1024, .f32⟩
  | _, _ => ⟨S9216x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![9, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  let c0_i32_1 : BitVec 32 := 0#32
  ![c0_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S9216x2048 : Shape := ⟨2, ![9216, 2048]⟩
abbrev S2x2048x12288 : Shape := ⟨3, ![2, 2048, 12288]⟩
abbrev S1x2048x12288 : Shape := ⟨3, ![1, 2048, 12288]⟩
abbrev S2048x12288 : Shape := ⟨2, ![2048, 12288]⟩
abbrev S9216x12288 : Shape := ⟨2, ![9216, 12288]⟩
abbrev S9216x4096 : Shape := ⟨2, ![9216, 4096]⟩

abbrev nBuf : Space → Nat
  | .hbm => 10
  | .vmem => 0
  | .smem => 0
  | _ => 0

abbrev bufTy : (tb : Table) → Fin (tcTables nBuf tb) → BufTy
  | .hbm, ⟨0, _⟩ => ⟨S9216x2048, .bf16⟩
  | .hbm, ⟨1, _⟩ => ⟨S2x2048x12288, .f32⟩
  | .hbm, ⟨2, _⟩ => ⟨S9216x2048, .f32⟩
  | .hbm, ⟨3, _⟩ => ⟨S1x2048x12288, .f32⟩
  | .hbm, ⟨4, _⟩ => ⟨S2048x12288, .f32⟩
  | .hbm, ⟨5, _⟩ => ⟨S9216x12288, .f32⟩
  | .hbm, ⟨6, _⟩ => ⟨S9216x2048, .f32⟩
  | .hbm, ⟨7, _⟩ => ⟨S9216x2048, .f32⟩
  | .hbm, ⟨8, _⟩ => ⟨S9216x4096, .f32⟩
  | .hbm, ⟨9, _⟩ => ⟨S9216x4096, .f32⟩
  | _, _ => ⟨S9216x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== Kernel3.lean ====
abbrev S9216x4096 : Shape := ⟨2, ![9216, 4096]⟩
abbrev S2x4096x2048 : Shape := ⟨3, ![2, 4096, 2048]⟩
abbrev S9216x2048 : Shape := ⟨2, ![9216, 2048]⟩
abbrev S1024x4096 : Shape := ⟨2, ![1024, 4096]⟩
abbrev S1x4096x512 : Shape := ⟨3, ![1, 4096, 512]⟩
abbrev S1024x512 : Shape := ⟨2, ![1024, 512]⟩
abbrev S1x4096x256 : Shape := ⟨3, ![1, 4096, 256]⟩
abbrev S4096x256 : Shape := ⟨2, ![4096, 256]⟩
abbrev S1024x256 : Shape := ⟨2, ![1024, 256]⟩

abbrev nBuf : Space → Nat
  | .hbm => 4
  | .vmem => 8
  | .smem => 0
  | _ => 0

abbrev bufTy : (tb : Table) → Fin (tcTables nBuf tb) → BufTy
  | .hbm, ⟨0, _⟩ => ⟨S9216x4096, .bf16⟩
  | .hbm, ⟨1, _⟩ => ⟨S2x4096x2048, .f32⟩
  | .hbm, ⟨2, _⟩ => ⟨S9216x2048, .f32⟩
  | .hbm, ⟨3, _⟩ => ⟨S9216x2048, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S9216x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![9, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S9216x4096 : Shape := ⟨2, ![9216, 4096]⟩
abbrev S2x4096x2048 : Shape := ⟨3, ![2, 4096, 2048]⟩
abbrev S9216x2048 : Shape := ⟨2, ![9216, 2048]⟩
abbrev S1x4096x2048 : Shape := ⟨3, ![1, 4096, 2048]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S9216x4096, .bf16⟩
  | .hbm, ⟨1, _⟩ => ⟨S2x4096x2048, .f32⟩
  | .hbm, ⟨2, _⟩ => ⟨S9216x2048, .f32⟩
  | .hbm, ⟨3, _⟩ => ⟨S9216x4096, .f32⟩
  | .hbm, ⟨4, _⟩ => ⟨S1x4096x2048, .f32⟩
  | .hbm, ⟨5, _⟩ => ⟨S4096x2048, .f32⟩
  | .hbm, ⟨6, _⟩ => ⟨S9216x2048, .f32⟩
  | .hbm, ⟨7, _⟩ => ⟨S9216x2048, .f32⟩
  | _, _ => ⟨S9216x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel4.lean ====
abbrev S9216x2048 : Shape := ⟨2, ![9216, 2048]⟩
abbrev S2048 : Shape := ⟨1, ![2048]⟩
abbrev S4x512x512 : Shape := ⟨3, ![4, 512, 512]⟩
abbrev S1x2048 : Shape := ⟨2, ![1, 2048]⟩
abbrev S2x15x2048 : Shape := ⟨3, ![2, 15, 2048]⟩
abbrev S512x2048 : Shape := ⟨2, ![512, 2048]⟩
abbrev S1x15x2048 : Shape := ⟨3, ![1, 15, 2048]⟩
abbrev S528x2048 : Shape := ⟨2, ![528, 2048]⟩
abbrev S16x2048 : Shape := ⟨2, ![16, 2048]⟩
abbrev S512 : Shape := ⟨1, ![512]⟩
abbrev S512x1 : Shape := ⟨2, ![512, 1]⟩
abbrev S512x512 : Shape := ⟨2, ![512, 512]⟩
abbrev S1x512x512 : Shape := ⟨3, ![1, 512, 512]⟩
abbrev S1x512 : Shape := ⟨2, ![1, 512]⟩
abbrev S15x2048 : Shape := ⟨2, ![15, 2048]⟩

abbrev nBuf : Space → Nat
  | .hbm => 8
  | .vmem => 10
  | .smem => 0
  | _ => 0

abbrev bufTy : (tb : Table) → Fin (tcTables nBuf tb) → BufTy
  | .hbm, ⟨0, _⟩ => ⟨S9216x2048, .f32⟩
  | .hbm, ⟨1, _⟩ => ⟨S2048, .f32⟩
  | .hbm, ⟨2, _⟩ => ⟨S4x512x512, .bf16⟩
  | .hbm, ⟨3, _⟩ => ⟨S2048, .f32⟩
  | .hbm, ⟨4, _⟩ => ⟨S1x2048, .f32⟩
  | .hbm, ⟨5, _⟩ => ⟨S1x2048, .f32⟩
  | .hbm, ⟨6, _⟩ => ⟨S9216x2048, .f32⟩
  | .hbm, ⟨7, _⟩ => ⟨S2x15x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S4x512x512, .bf16⟩
  | .local _ .vmem, ⟨4, _⟩ => ⟨S1x2048, .f32⟩
  | .local _ .vmem, ⟨5, _⟩ => ⟨S512x2048, .f32⟩
  | .local _ .vmem, ⟨6, _⟩ => ⟨S512x2048, .f32⟩
  | .local _ .vmem, ⟨7, _⟩ => ⟨S1x15x2048, .f32⟩
  | .local _ .vmem, ⟨8, _⟩ => ⟨S1x15x2048, .f32⟩
  | .local _ .vmem, ⟨9, _⟩ => ⟨S528x2048, .f32⟩
  | _, _ => ⟨S9216x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v162 : BitVec 1 := Scalar.cmpi .eq arg1 c7_i32
  let v163 : BitVec 32 := Scalar.extui v162
  let c0_i32_88 : BitVec 32 := 0#32
  let v164 : BitVec 1 := Scalar.cmpi .ne v163 c0_i32_88
  v164

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S4x512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x15x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference4Ideal.lean ====
abbrev S9216x2048 : Shape := ⟨2, ![9216, 2048]⟩
abbrev S2048 : Shape := ⟨1, ![2048]⟩
abbrev S4x512x512 : Shape := ⟨3, ![4, 512, 512]⟩
abbrev S8192x2048 : Shape := ⟨2, ![8192, 2048]⟩
abbrev S2x4096x2048 : Shape := ⟨3, ![2, 4096, 2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S2x15x2048 : Shape := ⟨3, ![2, 15, 2048]⟩
abbrev S2x4111x2048 : Shape := ⟨3, ![2, 4111, 2048]⟩

abbrev nBuf : Space → Nat
  | .hbm => 26
  | .vmem => 0
  | .smem => 0
  | _ => 0

abbrev bufTy : (tb : Table) → Fin (tcTables nBuf tb) → BufTy
  | .hbm, ⟨0, _⟩ => ⟨S9216x2048, .f32⟩
  | .hbm, ⟨1, _⟩ => ⟨S2048, .f32⟩
  | .hbm, ⟨2, _⟩ => ⟨S4x512x512, .bf16⟩
  | .hbm, ⟨3, _⟩ => ⟨S2048, .f32⟩
  | .hbm, ⟨4, _⟩ => ⟨S8192x2048, .f32⟩
  | .hbm, ⟨5, _⟩ => ⟨S2x4096x2048, .f32⟩
  | .hbm, ⟨6, _⟩ => ⟨S2x4096x2048, .f32⟩
  | .hbm, ⟨7, _⟩ => ⟨S_, .f32⟩
  | .hbm, ⟨8, _⟩ => ⟨S2x4096, .f32⟩
  | .hbm, ⟨9, _⟩ => ⟨S2x4096x1, .f32⟩
  | .hbm, ⟨10, _⟩ => ⟨S_, .f32⟩
  | .hbm, ⟨11, _⟩ => ⟨S2x4096x1, .f32⟩
  | .hbm, ⟨12, _⟩ => ⟨S2x4096x1, .f32⟩
  | .hbm, ⟨13, _⟩ => ⟨S_, .f32⟩
  | .hbm, ⟨14, _⟩ => ⟨S2x4096x1, .f32⟩
  | .hbm, ⟨15, _⟩ => ⟨S2x4096x1, .f32⟩
  | .hbm, ⟨16, _⟩ => ⟨S2x4096x1, .f32⟩
  | .hbm, ⟨17, _⟩ => ⟨S2x4096x2048, .f32⟩
  | .hbm, ⟨18, _⟩ => ⟨S2x4096x2048, .f32⟩
  | .hbm, ⟨19, _⟩ => ⟨S1x1x2048, .f32⟩
  | .hbm, ⟨20, _⟩ => ⟨S2x4096x2048, .f32⟩
  | .hbm, ⟨21, _⟩ => ⟨S2x4096x2048, .f32⟩
  | .hbm, ⟨22, _⟩ => ⟨S_, .f32⟩
  | .hbm, ⟨23, _⟩ => ⟨S2x15x2048, .f32⟩
  | .hbm, ⟨24, _⟩ => ⟨S2x4111x2048, .f32⟩
  | .hbm, ⟨25, _⟩ => ⟨S2x15x2048, .f32⟩
  | _, _ => ⟨S9216x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== Kernel5.lean ====
abbrev S9216x2048 : Shape := ⟨2, ![9216, 2048]⟩
abbrev S2048 : Shape := ⟨1, ![2048]⟩
abbrev S1x32x15x2048 : Shape := ⟨4, ![1, 32, 15, 2048]⟩
abbrev S4x512x512 : Shape := ⟨3, ![4, 512, 512]⟩
abbrev S32x15x2048 : Shape := ⟨3, ![32, 15, 2048]⟩
abbrev S1x2048 : Shape := ⟨2, ![1, 2048]⟩
abbrev S32x2048 : Shape := ⟨2, ![32, 2048]⟩
abbrev S1x15x2048 : Shape := ⟨3, ![1, 15, 2048]⟩
abbrev S48x2048 : Shape := ⟨2, ![48, 2048]⟩
abbrev S15x2048 : Shape := ⟨2, ![15, 2048]⟩
abbrev S32 : Shape := ⟨1, ![32]⟩
abbrev S32x1 : Shape := ⟨2, ![32, 1]⟩
abbrev S32x512 : Shape := ⟨2, ![32, 512]⟩
abbrev S1x512x512 : Shape := ⟨3, ![1, 512, 512]⟩
abbrev S512x512 : Shape := ⟨2, ![512, 512]⟩
abbrev S1x512 : Shape := ⟨2, ![1, 512]⟩

abbrev nBuf : Space → Nat
  | .hbm => 11
  | .vmem => 12
  | .smem => 0
  | _ => 0

abbrev bufTy : (tb : Table) → Fin (tcTables nBuf tb) → BufTy
  | .hbm, ⟨0, _⟩ => ⟨S9216x2048, .f32⟩
  | .hbm, ⟨1, _⟩ => ⟨S2048, .f32⟩
  | .hbm, ⟨2, _⟩ => ⟨S1x32x15x2048, .f32⟩
  | .hbm, ⟨3, _⟩ => ⟨S4x512x512, .bf16⟩
  | .hbm, ⟨4, _⟩ => ⟨S2048, .f32⟩
  | .hbm, ⟨5, _⟩ => ⟨S9216x2048, .f32⟩
  | .hbm, ⟨6, _⟩ => ⟨S32x15x2048, .f32⟩
  | .hbm, ⟨7, _⟩ => ⟨S1x2048, .f32⟩
  | .hbm, ⟨8, _⟩ => ⟨S1x2048, .f32⟩
  | .hbm, ⟨9, _⟩ => ⟨S9216x2048, .f32⟩
  | .hbm, ⟨10, _⟩ => ⟨S32x15x2048, .f32⟩
  | .local _ .vmem, ⟨0, _⟩ => ⟨S32x2048, .f32⟩
  | .local _ .vmem, ⟨1, _⟩ => ⟨S32x2048, .f32⟩
  | .local _ .vmem, ⟨2, _⟩ => ⟨S1x2048, .f32⟩
  | .local _ .vmem, ⟨3, _⟩ => ⟨S1x15x2048, .f32⟩
  | .local _ .vmem, ⟨4, _⟩ => ⟨S1x15x2048, .f32⟩
  | .local _ .vmem, ⟨5, _⟩ => ⟨S4x512x512, .bf16⟩
  | .local _ .vmem, ⟨6, _⟩ => ⟨S1x2048, .f32⟩
  | .local _ .vmem, ⟨7, _⟩ => ⟨S32x2048, .f32⟩
  | .local _ .vmem, ⟨8, _⟩ => ⟨S32x2048, .f32⟩
  | .local _ .vmem, ⟨9, _⟩ => ⟨S1x15x2048, .f32⟩
  | .local _ .vmem, ⟨10, _⟩ => ⟨S1x15x2048, .f32⟩
  | .local _ .vmem, ⟨11, _⟩ => ⟨S48x2048, .f32⟩
  | _, _ => ⟨S9216x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![32, 1], ![false, false]⟩

def k0_cond2 (i : grid0.Coords) : BitVec 1 :=
  let arg1 : BitVec 32 := BitVec.ofNat 32 (i 1).val
  let c0_i32_87 : BitVec 32 := 0#32
  let v162 : BitVec 1 := Scalar.cmpi .eq arg1 c0_i32_87
  let v163 : BitVec 32 := Scalar.extui v162
  let c0_i32_88 : BitVec 32 := 0#32
  let v164 : BitVec 1 := Scalar.cmpi .ne v163 c0_i32_88
  v164

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c256_i32 : BitVec 32 := 256#32
  let v1 : BitVec 32 := Scalar.addi c256_i32 v0
  let v2 : BitVec 32 := Scalar.addi v1 arg1
  let c0_i32 : BitVec 32 := 0#32
  let c0_i32_0 : BitVec 32 := 0#32
  ![v2.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c256_i32 : BitVec 32 := 256#32
  let v1 : BitVec 32 := Scalar.addi c256_i32 v0
  let v2 : BitVec 32 := Scalar.addi v1 arg1
  let c0_i32 : BitVec 32 := 0#32
  let c0_i32_0 : BitVec 32 := 0#32
  ![v2.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x15x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S4x512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S32x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x15x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference5Ideal.lean ====
abbrev S9216x2048 : Shape := ⟨2, ![9216, 2048]⟩
abbrev S2048 : Shape := ⟨1, ![2048]⟩
abbrev S1x32x15x2048 : Shape := ⟨4, ![1, 32, 15, 2048]⟩
abbrev S4x512x512 : Shape := ⟨3, ![4, 512, 512]⟩
abbrev S1024x2048 : Shape := ⟨2, ![1024, 2048]⟩
abbrev S32x32x2048 : Shape := ⟨3, ![32, 32, 2048]⟩
abbrev S_ : Shape := ⟨0, ![]⟩
abbrev S32x32 : Shape := ⟨2, ![32, 32]⟩
abbrev S32x32x1 : Shape := ⟨3, ![32, 32, 1]⟩
abbrev S1x1x2048 : Shape := ⟨3, ![1, 1, 2048]⟩
abbrev S32x15x2048 : Shape := ⟨3, ![32, 15, 2048]⟩
abbrev S32x47x2048 : Shape := ⟨3, ![32, 47, 2048]⟩

abbrev nBuf : Space → Nat
  | .hbm => 27
  | .vmem => 0
  | .smem => 0
  | _ => 0

abbrev bufTy : (tb : Table) → Fin (tcTables nBuf tb) → BufTy
  | .hbm, ⟨0, _⟩ => ⟨S9216x2048, .f32⟩
  | .hbm, ⟨1, _⟩ => ⟨S2048, .f32⟩
  | .hbm, ⟨2, _⟩ => ⟨S1x32x15x2048, .f32⟩
  | .hbm, ⟨3, _⟩ => ⟨S4x512x512, .bf16⟩
  | .hbm, ⟨4, _⟩ => ⟨S2048, .f32⟩
  | .hbm, ⟨5, _⟩ => ⟨S9216x2048, .f32⟩
  | .hbm, ⟨6, _⟩ => ⟨S1024x2048, .f32⟩
  | .hbm, ⟨7, _⟩ => ⟨S32x32x2048, .f32⟩
  | .hbm, ⟨8, _⟩ => ⟨S32x32x2048, .f32⟩
  | .hbm, ⟨9, _⟩ => ⟨S_, .f32⟩
  | .hbm, ⟨10, _⟩ => ⟨S32x32, .f32⟩
  | .hbm, ⟨11, _⟩ => ⟨S32x32x1, .f32⟩
  | .hbm, ⟨12, _⟩ => ⟨S_, .f32⟩
  | .hbm, ⟨13, _⟩ => ⟨S32x32x1, .f32⟩
  | .hbm, ⟨14, _⟩ => ⟨S32x32x1, .f32⟩
  | .hbm, ⟨15, _⟩ => ⟨S_, .f32⟩
  | .hbm, ⟨16, _⟩ => ⟨S32x32x1, .f32⟩
  | .hbm, ⟨17, _⟩ => ⟨S32x32x1, .f32⟩
  | .hbm, ⟨18, _⟩ => ⟨S32x32x1, .f32⟩
  | .hbm, ⟨19, _⟩ => ⟨S32x32x2048, .f32⟩
  | .hbm, ⟨20, _⟩ => ⟨S32x32x2048, .f32⟩
  | .hbm, ⟨21, _⟩ => ⟨S1x1x2048, .f32⟩
  | .hbm, ⟨22, _⟩ => ⟨S32x32x2048, .f32⟩
  | .hbm, ⟨23, _⟩ => ⟨S32x32x2048, .f32⟩
  | .hbm, ⟨24, _⟩ => ⟨S32x15x2048, .f32⟩
  | .hbm, ⟨25, _⟩ => ⟨S32x47x2048, .f32⟩
  | .hbm, ⟨26, _⟩ => ⟨S32x15x2048, .f32⟩
  | _, _ => ⟨S9216x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]
-- ==== Kernel6.lean ====
abbrev S9216x2048 : Shape := ⟨2, ![9216, 2048]⟩
abbrev S1x2048x3072 : Shape := ⟨3, ![1, 2048, 3072]⟩
abbrev S1x32x128x8x64 : Shape := ⟨5, ![1, 32, 128, 8, 64]⟩
abbrev S4096 : Shape := ⟨1, ![4096]⟩
abbrev S1x4096 : Shape := ⟨2, ![1, 4096]⟩
abbrev S2x4096 : Shape := ⟨2, ![2, 4096]⟩
abbrev S8192 : Shape := ⟨1, ![8192]⟩
abbrev S32 : Shape := ⟨1, ![32]⟩
abbrev S_ : Shape := ⟨0, ![]⟩
abbrev S1x32 : Shape := ⟨2, ![1, 32]⟩
abbrev S32x32 : Shape := ⟨2, ![32, 32]⟩
abbrev S1024 : Shape := ⟨1, ![1024]⟩
abbrev S9216 : Shape := ⟨1, ![9216]⟩
abbrev S9216x1 : Shape := ⟨2, ![9216, 1]⟩
abbrev S9216x32 : Shape := ⟨2, ![9216, 32]⟩
abbrev S9216x64 : Shape := ⟨2, ![9216, 64]⟩
abbrev S1x9216x1x64 : Shape := ⟨4, ![1, 9216, 1, 64]⟩
abbrev S1x9216x2x64 : Shape := ⟨4, ![1, 9216, 2, 64]⟩
abbrev S9216x128 : Shape := ⟨2, ![9216, 128]⟩
abbrev S9216x3072 : Shape := ⟨2, ![9216, 3072]⟩
abbrev S1024x2048 : Shape := ⟨2, ![1024, 2048]⟩
abbrev S1x2048x512 : Shape := ⟨3, ![1, 2048, 512]⟩
abbrev S1024x128 : Shape := ⟨2, ![1024, 128]⟩
abbrev S1024x512 : Shape := ⟨2, ![1024, 512]⟩
abbrev S1x2048x256 : Shape := ⟨3, ![1, 2048, 256]⟩
abbrev S2048x256 : Shape := ⟨2, ![2048, 256]⟩
abbrev S1024x256 : Shape := ⟨2, ![1024, 256]⟩
abbrev S128x1024 : Shape := ⟨2, ![128, 1024]⟩
abbrev S1x128x1024 : Shape := ⟨3, ![1, 128, 1024]⟩
abbrev S2x128x1024 : Shape := ⟨3, ![2, 128, 1024]⟩
abbrev S1024x1024 : Shape := ⟨2, ![1024, 1024]⟩
abbrev S32x32x1024 : Shape := ⟨3, ![32, 32, 1024]⟩
abbrev S2x128x512 : Shape := ⟨3, ![2, 128, 512]⟩
abbrev S2x128x8x64 : Shape := ⟨4, ![2, 128, 8, 64]⟩
abbrev S32x128x8x64 : Shape := ⟨4, ![32, 128, 8, 64]⟩
abbrev S32x96x8x64 : Shape := ⟨4, ![32, 96, 8, 64]⟩
abbrev S32x32x512 : Shape := ⟨3, ![32, 32, 512]⟩
abbrev S32x32x8x64 : Shape := ⟨4, ![32, 32, 8, 64]⟩

abbrev nBuf : Space → Nat
  | .hbm => 65
  | .vmem => 10
  | .smem => 0
  | _ => 0

abbrev bufTy : (tb : Table) → Fin (tcTables nBuf tb) → BufTy
  | .hbm, ⟨0, _⟩ => ⟨S9216x2048, .bf16⟩
  | .hbm, ⟨1, _⟩ => ⟨S1x2048x3072, .f32⟩
  | .hbm, ⟨2, _⟩ => ⟨S1x32x128x8x64, .f32⟩
  | .hbm, ⟨3, _⟩ => ⟨S1x32x128x8x64, .f32⟩
  | .hbm, ⟨4, _⟩ => ⟨S4096, .i32⟩
  | .hbm, ⟨5, _⟩ => ⟨S1x4096, .i32⟩
  | .hbm, ⟨6, _⟩ => ⟨S2x4096, .i32⟩
  | .hbm, ⟨7, _⟩ => ⟨S8192, .i32⟩
  | .hbm, ⟨8, _⟩ => ⟨S32, .i32⟩
  | .hbm, ⟨9, _⟩ => ⟨S_, .i32⟩
  | .hbm, ⟨10, _⟩ => ⟨S32, .i32⟩
  | .hbm, ⟨11, _⟩ => ⟨S32, .i32⟩
  | .hbm, ⟨12, _⟩ => ⟨S1x32, .i32⟩
  | .hbm, ⟨13, _⟩ => ⟨S32x32, .i32⟩
  | .hbm, ⟨14, _⟩ => ⟨S1024, .i32⟩
  | .hbm, ⟨15, _⟩ => ⟨S9216, .i32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S_, .f32⟩
  | .hbm, ⟨21, _⟩ => ⟨S32, .f32⟩
  | .hbm, ⟨22, _⟩ => ⟨S32, .f32⟩
  | .hbm, ⟨23, _⟩ => ⟨S_, .f32⟩
  | .hbm, ⟨24, _⟩ => ⟨S32, .f32⟩
  | .hbm, ⟨25, _⟩ => ⟨S32, .f32⟩
  | .hbm, ⟨26, _⟩ => ⟨S9216, .f32⟩
  | .hbm, ⟨27, _⟩ => ⟨S9216x1, .f32⟩
  | .hbm, ⟨28, _⟩ => ⟨S1x32, .f32⟩
  | .hbm, ⟨29, _⟩ => ⟨S9216x32, .f32⟩
  | .hbm, ⟨30, _⟩ => ⟨S9216x32, .f32⟩
  | .hbm, ⟨31, _⟩ => ⟨S9216x32, .f32⟩
  | .hbm, ⟨32, _⟩ => ⟨S9216x32, .f32⟩
  | .hbm, ⟨33, _⟩ => ⟨S9216x32, .f32⟩
  | .hbm, ⟨34, _⟩ => ⟨S9216x64, .f32⟩
  | .hbm, ⟨35, _⟩ => ⟨S9216x32, .f32⟩
  | .hbm, ⟨36, _⟩ => ⟨S9216x64, .f32⟩
  | .hbm, ⟨37, _⟩ => ⟨S1x9216x1x64, .f32⟩
  | .hbm, ⟨38, _⟩ => ⟨S1x9216x2x64, .f32⟩
  | .hbm, ⟨39, _⟩ => ⟨S9216x128, .f32⟩
  | .hbm, ⟨40, _⟩ => ⟨S1x9216x1x64, .f32⟩
  | .hbm, ⟨41, _⟩ => ⟨S1x9216x2x64, .f32⟩
  | .hbm, ⟨42, _⟩ => ⟨S9216x128, .f32⟩
  | .hbm, ⟨43, _⟩ => ⟨S9216x3072, .f32⟩
  | .hbm, ⟨44, _⟩ => ⟨S128x1024, .f32⟩
  | .hbm, ⟨45, _⟩ => ⟨S128x1024, .f32⟩
  | .hbm, ⟨46, _⟩ => ⟨S1x128x1024, .f32⟩
  | .hbm, ⟨47, _⟩ => ⟨S1x128x1024, .f32⟩
  | .hbm, ⟨48, _⟩ => ⟨S2x128x1024, .f32⟩
  | .hbm, ⟨49, _⟩ => ⟨S1024x1024, .f32⟩
  | .hbm, ⟨50, _⟩ => ⟨S32x32x1024, .f32⟩
  | .hbm, ⟨51, _⟩ => ⟨S2x128x512, .f32⟩
  | .hbm, ⟨52, _⟩ => ⟨S2x128x8x64, .f32⟩
  | .hbm, ⟨53, _⟩ => ⟨S2x128x512, .f32⟩
  | .hbm, ⟨54, _⟩ => ⟨S2x128x8x64, .f32⟩
  | .hbm, ⟨55, _⟩ => ⟨S32x128x8x64, .f32⟩
  | .hbm, ⟨56, _⟩ => ⟨S32x96x8x64, .f32⟩
  | .hbm, ⟨57, _⟩ => ⟨S32x32x512, .f32⟩
  | .hbm, ⟨58, _⟩ => ⟨S32x32x8x64, .f32⟩
  | .hbm, ⟨59, _⟩ => ⟨S32x128x8x64, .f32⟩
  | .hbm, ⟨60, _⟩ => ⟨S32x128x8x64, .f32⟩
  | .hbm, ⟨61, _⟩ => ⟨S32x96x8x64, .f32⟩
  | .hbm, ⟨62, _⟩ => ⟨S32x32x512, .f32⟩
  | .hbm, ⟨63, _⟩ => ⟨S32x32x8x64, .f32⟩
  | .hbm, ⟨64, _⟩ => ⟨S32x128x8x64, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x512, .f32⟩
  | .local _ .vmem, ⟨9, _⟩ => ⟨S1024x512, .f32⟩
  | _, _ => ⟨S9216x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![9, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference6Ideal.lean ====
abbrev S9216x2048 : Shape := ⟨2, ![9216, 2048]⟩
abbrev S1x2048x3072 : Shape := ⟨3, ![1, 2048, 3072]⟩
abbrev S1x32x128x8x64 : Shape := ⟨5, ![1, 32, 128, 8, 64]⟩
abbrev S8192x2048 : Shape := ⟨2, ![8192, 2048]⟩
abbrev S2x4096x2048 : Shape := ⟨3, ![2, 4096, 2048]⟩
abbrev S4096 : Shape := ⟨1, ![4096]⟩
abbrev S2048x3072 : Shape := ⟨2, ![2048, 3072]⟩
abbrev S2x4096x3072 : Shape := ⟨3, ![2, 4096, 3072]⟩
abbrev S2x4096x512 : Shape := ⟨3, ![2, 4096, 512]⟩
abbrev S2x4096x8x64 : Shape := ⟨4, ![2, 4096, 8, 64]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S1x4096x1x32 : Shape := ⟨4, ![1, 4096, 1, 32]⟩
abbrev S2x4096x8x32 : Shape := ⟨4, ![2, 4096, 8, 32]⟩
abbrev S2x128x8x64 : Shape := ⟨4, ![2, 128, 8, 64]⟩
abbrev S1024x2048 : Shape := ⟨2, ![1024, 2048]⟩
abbrev S32x32x2048 : Shape := ⟨3, ![32, 32, 2048]⟩
abbrev S32x128x8x64 : Shape := ⟨4, ![32, 128, 8, 64]⟩
abbrev S32x32x3072 : Shape := ⟨3, ![32, 32, 3072]⟩
abbrev S32x32x512 : Shape := ⟨3, ![32, 32, 512]⟩
abbrev S32x32x8x64 : Shape := ⟨4, ![32, 32, 8, 64]⟩
abbrev S32x1 : Shape := ⟨2, ![32, 1]⟩
abbrev S32x32 : Shape := ⟨2, ![32, 32]⟩
abbrev S1x32x1x32 : Shape := ⟨4, ![1, 32, 1, 32]⟩
abbrev S32x32x8x32 : Shape := ⟨4, ![32, 32, 8, 32]⟩
abbrev S32x160x8x64 : Shape := ⟨4, ![32, 160, 8, 64]⟩

abbrev nBuf : Space → Nat
  | .hbm => 102
  | .vmem => 0
  | .smem => 0
  | _ => 0

abbrev bufTy : (tb : Table) → Fin (tcTables nBuf tb) → BufTy
  | .hbm, ⟨0, _⟩ => ⟨S9216x2048, .bf16⟩
  | .hbm, ⟨1, _⟩ => ⟨S1x2048x3072, .f32⟩
  | .hbm, ⟨2, _⟩ => ⟨S1x32x128x8x64, .f32⟩
  | .hbm, ⟨3, _⟩ => ⟨S1x32x128x8x64, .f32⟩
  | .hbm, ⟨4, _⟩ => ⟨S9216x2048, .f32⟩
  | .hbm, ⟨5, _⟩ => ⟨S8192x2048, .f32⟩
  | .hbm, ⟨6, _⟩ => ⟨S2x4096x2048, .f32⟩
  | .hbm, ⟨7, _⟩ => ⟨S4096, .i32⟩
  | .hbm, ⟨8, _⟩ => ⟨S2048x3072, .f32⟩
  | .hbm, ⟨9, _⟩ => ⟨S2x4096x3072, .f32⟩
  | .hbm, ⟨10, _⟩ => ⟨S2x4096x2048, .f32⟩
  | .hbm, ⟨11, _⟩ => ⟨S2x4096x512, .f32⟩
  | .hbm, ⟨12, _⟩ => ⟨S2x4096x512, .f32⟩
  | .hbm, ⟨13, _⟩ => ⟨S2x4096x8x64, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S_, .f32⟩
  | .hbm, ⟨22, _⟩ => ⟨S32, .f32⟩
  | .hbm, ⟨23, _⟩ => ⟨S32, .f32⟩
  | .hbm, ⟨24, _⟩ => ⟨S4096, .f32⟩
  | .hbm, ⟨25, _⟩ => ⟨S4096x1, .f32⟩
  | .hbm, ⟨26, _⟩ => ⟨S1x32, .f32⟩
  | .hbm, ⟨27, _⟩ => ⟨S4096x32, .f32⟩
  | .hbm, ⟨28, _⟩ => ⟨S4096x32, .f32⟩
  | .hbm, ⟨29, _⟩ => ⟨S4096x32, .f32⟩
  | .hbm, ⟨30, _⟩ => ⟨S4096x32, .f32⟩
  | .hbm, ⟨31, _⟩ => ⟨S1x4096x1x32, .f32⟩
  | .hbm, ⟨32, _⟩ => ⟨S4096x32, .f32⟩
  | .hbm, ⟨33, _⟩ => ⟨S1x4096x1x32, .f32⟩
  | .hbm, ⟨34, _⟩ => ⟨S2x4096x8x32, .f32⟩
  | .hbm, ⟨35, _⟩ => ⟨S2x4096x8x32, .f32⟩
  | .hbm, ⟨36, _⟩ => ⟨S2x4096x8x32, .f32⟩
  | .hbm, ⟨37, _⟩ => ⟨S2x4096x8x32, .f32⟩
  | .hbm, ⟨38, _⟩ => ⟨S2x4096x8x32, .f32⟩
  | .hbm, ⟨39, _⟩ => ⟨S2x4096x8x32, .f32⟩
  | .hbm, ⟨40, _⟩ => ⟨S2x4096x8x32, .f32⟩
  | .hbm, ⟨41, _⟩ => ⟨S2x4096x8x32, .f32⟩
  | .hbm, ⟨42, _⟩ => ⟨S2x4096x8x32, .f32⟩
  | .hbm, ⟨43, _⟩ => ⟨S2x4096x8x32, .f32⟩
  | .hbm, ⟨44, _⟩ => ⟨S2x4096x8x32, .f32⟩
  | .hbm, ⟨45, _⟩ => ⟨S2x4096x8x32, .f32⟩
  | .hbm, ⟨46, _⟩ => ⟨S2x4096x8x64, .f32⟩
  | .hbm, ⟨47, _⟩ => ⟨S2x4096x8x64, .f32⟩
  | .hbm, ⟨48, _⟩ => ⟨S2x128x8x64, .f32⟩
  | .hbm, ⟨49, _⟩ => ⟨S2x128x8x64, .f32⟩
  | .hbm, ⟨50, _⟩ => ⟨S1024x2048, .f32⟩
  | .hbm, ⟨51, _⟩ => ⟨S32x32x2048, .f32⟩
  | .hbm, ⟨52, _⟩ => ⟨S32, .i32⟩
  | .hbm, ⟨53, _⟩ => ⟨S_, .i32⟩
  | .hbm, ⟨54, _⟩ => ⟨S32, .i32⟩
  | .hbm, ⟨55, _⟩ => ⟨S32, .i32⟩
  | .hbm, ⟨56, _⟩ => ⟨S2048x3072, .f32⟩
  | .hbm, ⟨57, _⟩ => ⟨S32x128x8x64, .f32⟩
  | .hbm, ⟨58, _⟩ => ⟨S32x128x8x64, .f32⟩
  | .hbm, ⟨59, _⟩ => ⟨S32x32x3072, .f32⟩
  | .hbm, ⟨60, _⟩ => ⟨S32x32x2048, .f32⟩
  | .hbm, ⟨61, _⟩ => ⟨S32x32x512, .f32⟩
  | .hbm, ⟨62, _⟩ => ⟨S32x32x512, .f32⟩
  | .hbm, ⟨63, _⟩ => ⟨S32x32x8x64, .f32⟩
  | .hbm, ⟨64, _⟩ => ⟨S32, .f32⟩
  | .hbm, ⟨65, _⟩ => ⟨S_, .f32⟩
  | .hbm, ⟨66, _⟩ => ⟨S32, .f32⟩
  | .hbm, ⟨67, _⟩ => ⟨S32, .f32⟩
  | .hbm, ⟨68, _⟩ => ⟨S_, .f32⟩
  | .hbm, ⟨69, _⟩ => ⟨S32, .f32⟩
  | .hbm, ⟨70, _⟩ => ⟨S32, .f32⟩
  | .hbm, ⟨71, _⟩ => ⟨S_, .f32⟩
  | .hbm, ⟨72, _⟩ => ⟨S32, .f32⟩
  | .hbm, ⟨73, _⟩ => ⟨S32, .f32⟩
  | .hbm, ⟨74, _⟩ => ⟨S32, .f32⟩
  | .hbm, ⟨75, _⟩ => ⟨S32x1, .f32⟩
  | .hbm, ⟨76, _⟩ => ⟨S1x32, .f32⟩
  | .hbm, ⟨77, _⟩ => ⟨S32x32, .f32⟩
  | .hbm, ⟨78, _⟩ => ⟨S32x32, .f32⟩
  | .hbm, ⟨79, _⟩ => ⟨S32x32, .f32⟩
  | .hbm, ⟨80, _⟩ => ⟨S32x32, .f32⟩
  | .hbm, ⟨81, _⟩ => ⟨S1x32x1x32, .f32⟩
  | .hbm, ⟨82, _⟩ => ⟨S32x32, .f32⟩
  | .hbm, ⟨83, _⟩ => ⟨S1x32x1x32, .f32⟩
  | .hbm, ⟨84, _⟩ => ⟨S32x32x8x32, .f32⟩
  | .hbm, ⟨85, _⟩ => ⟨S32x32x8x32, .f32⟩
  | .hbm, ⟨86, _⟩ => ⟨S32x32x8x32, .f32⟩
  | .hbm, ⟨87, _⟩ => ⟨S32x32x8x32, .f32⟩
  | .hbm, ⟨88, _⟩ => ⟨S32x32x8x32, .f32⟩
  | .hbm, ⟨89, _⟩ => ⟨S32x32x8x32, .f32⟩
  | .hbm, ⟨90, _⟩ => ⟨S32x32x8x32, .f32⟩
  | .hbm, ⟨91, _⟩ => ⟨S32x32x8x32, .f32⟩
  | .hbm, ⟨92, _⟩ => ⟨S32x32x8x32, .f32⟩
  | .hbm, ⟨93, _⟩ => ⟨S32x32x8x32, .f32⟩
  | .hbm, ⟨94, _⟩ => ⟨S32x32x8x32, .f32⟩
  | .hbm, ⟨95, _⟩ => ⟨S32x32x8x32, .f32⟩
  | .hbm, ⟨96, _⟩ => ⟨S32x32x8x64, .f32⟩
  | .hbm, ⟨97, _⟩ => ⟨S32x32x8x64, .f32⟩
  | .hbm, ⟨98, _⟩ => ⟨S32x160x8x64, .f32⟩
  | .hbm, ⟨99, _⟩ => ⟨S32x160x8x64, .f32⟩
  | .hbm, ⟨100, _⟩ => ⟨S32x128x8x64, .f32⟩
  | .hbm, ⟨101, _⟩ => ⟨S32x128x8x64, .f32⟩
  | _, _ => ⟨S9216x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_c : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_cst_2 : Ref sig .tc := ⟨.hbm, 65, rfl⟩
abbrev main_v57 : Ref sig .tc := ⟨.hbm, 66, rfl⟩
abbrev main_v58 : Ref sig .tc := ⟨.hbm, 67, rfl⟩
abbrev main_cst_3 : Ref sig .tc := ⟨.hbm, 68, rfl⟩
abbrev main_v59 : Ref sig .tc := ⟨.hbm, 69, rfl⟩
abbrev main_v60 : Ref sig .tc := ⟨.hbm, 70, rfl⟩
abbrev main_cst_4 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩

abbrev nD : Nat := 1
abbrev τ : Topo := Topo.v7x

variable {F : FTy → Type} [FloatOps F]
-- ==== Kernel7.lean ====
abbrev S9216x8192 : Shape := ⟨2, ![9216, 8192]⟩
abbrev S9216x4096 : Shape := ⟨2, ![9216, 4096]⟩
abbrev S2x32x8x256x512 : Shape := ⟨5, ![2, 32, 8, 256, 512]⟩
abbrev S4096 : Shape := ⟨1, ![4096]⟩
abbrev S8 : Shape := ⟨1, ![8]⟩
abbrev S_ : Shape := ⟨0, ![]⟩
abbrev S1x4096 : Shape := ⟨2, ![1, 4096]⟩
abbrev S32x2048 : Shape := ⟨2, ![32, 2048]⟩
abbrev S32x4096 : Shape := ⟨2, ![32, 4096]⟩
abbrev S1x1x8x256x512 : Shape := ⟨5, ![1, 1, 8, 256, 512]⟩
abbrev S8x256x512 : Shape := ⟨3, ![8, 256, 512]⟩
abbrev S8x32x32 : Shape := ⟨3, ![8, 32, 32]⟩
abbrev S32x1 : Shape := ⟨2, ![32, 1]⟩
abbrev S1 : Shape := ⟨1, ![1]⟩
abbrev S1x1x1x256x512 : Shape := ⟨5, ![1, 1, 1, 256, 512]⟩
abbrev S256x512 : Shape := ⟨2, ![256, 512]⟩
abbrev S1x256x512 : Shape := ⟨3, ![1, 256, 512]⟩
abbrev S32x32 : Shape := ⟨2, ![32, 32]⟩
abbrev S1x32x32 : Shape := ⟨3, ![1, 32, 32]⟩
abbrev S32x256 : Shape := ⟨2, ![32, 256]⟩
abbrev S32x512 : Shape := ⟨2, ![32, 512]⟩
abbrev S1x1 : Shape := ⟨2, ![1, 1]⟩
abbrev S32 : Shape := ⟨1, ![32]⟩
abbrev S1x512 : Shape := ⟨2, ![1, 512]⟩

abbrev nBuf : Space → Nat
  | .hbm => 19
  | .vmem => 17
  | .smem => 1
  | _ => 0

abbrev bufTy : (tb : Table) → Fin (tcTables nBuf tb) → BufTy
  | .hbm, ⟨0, _⟩ => ⟨S9216x8192, .bf16⟩
  | .hbm, ⟨1, _⟩ => ⟨S9216x4096, .f32⟩
  | .hbm, ⟨2, _⟩ => ⟨S2x32x8x256x512, .f32⟩
  | .hbm, ⟨3, _⟩ => ⟨S4096, .f32⟩
  | .hbm, ⟨4, _⟩ => ⟨S9216x4096, .bf16⟩
  | .hbm, ⟨5, _⟩ => ⟨S2x32x8x256x512, .f32⟩
  | .hbm, ⟨6, _⟩ => ⟨S8, .f32⟩
  | .hbm, ⟨7, _⟩ => ⟨S_, .f32⟩
  | .hbm, ⟨8, _⟩ => ⟨S8, .f32⟩
  | .hbm, ⟨9, _⟩ => ⟨S8, .f32⟩
  | .hbm, ⟨10, _⟩ => ⟨S_, .f32⟩
  | .hbm, ⟨11, _⟩ => ⟨S8, .f32⟩
  | .hbm, ⟨12, _⟩ => ⟨S8, .f32⟩
  | .hbm, ⟨13, _⟩ => ⟨S8, .f32⟩
  | .hbm, ⟨14, _⟩ => ⟨S8, .f32⟩
  | .hbm, ⟨15, _⟩ => ⟨S8, .f32⟩
  | .hbm, ⟨16, _⟩ => ⟨S1x4096, .f32⟩
  | .hbm, ⟨17, _⟩ => ⟨S9216x4096, .bf16⟩
  | .hbm, ⟨18, _⟩ => ⟨S2x32x8x256x512, .f32⟩
  | .local _ .vmem, ⟨0, _⟩ => ⟨S32x2048, .bf16⟩
  | .local _ .vmem, ⟨1, _⟩ => ⟨S32x2048, .bf16⟩
  | .local _ .vmem, ⟨2, _⟩ => ⟨S32x2048, .bf16⟩
  | .local _ .vmem, ⟨3, _⟩ => ⟨S32x2048, .bf16⟩
  | .local _ .vmem, ⟨4, _⟩ => ⟨S32x4096, .bf16⟩
  | .local _ .vmem, ⟨5, _⟩ => ⟨S32x4096, .bf16⟩
  | .local _ .vmem, ⟨6, _⟩ => ⟨S32x4096, .f32⟩
  | .local _ .vmem, ⟨7, _⟩ => ⟨S32x4096, .f32⟩
  | .local _ .vmem, ⟨8, _⟩ => ⟨S1x1x8x256x512, .f32⟩
  | .local _ .vmem, ⟨9, _⟩ => ⟨S1x1x8x256x512, .f32⟩
  | .local _ .vmem, ⟨10, _⟩ => ⟨S1x4096, .f32⟩
  | .local _ .vmem, ⟨11, _⟩ => ⟨S32x4096, .bf16⟩
  | .local _ .vmem, ⟨12, _⟩ => ⟨S32x4096, .bf16⟩
  | .local _ .vmem, ⟨13, _⟩ => ⟨S1x1x8x256x512, .f32⟩
  | .local _ .vmem, ⟨14, _⟩ => ⟨S1x1x8x256x512, .f32⟩
  | .local _ .vmem, ⟨15, _⟩ => ⟨S8x256x512, .f32⟩
  | .local _ .vmem, ⟨16, _⟩ => ⟨S8x32x32, .f32⟩
  | .local _ .smem, ⟨0, _⟩ => ⟨S8, .f32⟩
  | _, _ => ⟨S9216x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_scratch1 : Ref sig .tc := ⟨.vmem, 16, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨3, ![32, 1, 1], ![false, false, false]⟩

def k0_off1 (i : grid0.Coords) (c0_i32 : BitVec 32) : Fin 1 → Nat :=
  let arg1 : BitVec 32 := BitVec.ofNat 32 (i 1).val
  let c8_i32 : BitVec 32 := 8#32
  let v2 : BitVec 32 := Scalar.muli arg1 c8_i32
  let v3 : BitVec 32 := Scalar.addi v2 c0_i32
  let v4 : Index := Scalar.indexCast v3
  ![v4.toNat]
def k0_cond9 (i : grid0.Coords) : BitVec 1 :=
  let arg2 : BitVec 32 := BitVec.ofNat 32 (i 2).val
  let c0_i32_307 : BitVec 32 := 0#32
  let v690 : BitVec 1 := Scalar.cmpi .eq arg2 c0_i32_307
  let v691 : BitVec 32 := Scalar.extui v690
  let c0_i32_308 : BitVec 32 := 0#32
  let v692 : BitVec 1 := Scalar.cmpi .ne v691 c0_i32_308
  v692

def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let c256_i32 : BitVec 32 := 256#32
  let v1 : BitVec 32 := Scalar.addi c256_i32 v0
  let v2 : BitVec 32 := Scalar.addi v1 arg2
  let c0_i32 : BitVec 32 := 0#32
  ![v2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let c256_i32 : BitVec 32 := 256#32
  let v1 : BitVec 32 := Scalar.addi c256_i32 v0
  let v2 : BitVec 32 := Scalar.addi v1 arg2
  let c1_i32_0 : BitVec 32 := 1#32
  let v3 : BitVec 32 := Scalar.addi c1_i32_0 arg1
  let c0_i32 : BitVec 32 := 0#32
  ![v2.toNat, v3.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let c256_i32 : BitVec 32 := 256#32
  let v1 : BitVec 32 := Scalar.addi c256_i32 v0
  let v2 : BitVec 32 := Scalar.addi v1 arg2
  let c1_i32_0 : BitVec 32 := 1#32
  let v3 : BitVec 32 := Scalar.addi c1_i32_0 arg1
  let c0_i32 : BitVec 32 := 0#32
  ![v2.toNat, v3.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let c256_i32 : BitVec 32 := 256#32
  let v1 : BitVec 32 := Scalar.addi c256_i32 v0
  let v2 : BitVec 32 := Scalar.addi v1 arg2
  let c0_i32 : BitVec 32 := 0#32
  ![v2.toNat, arg1.toNat]

def cc0_transform_5 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  let c0_i32_1 : BitVec 32 := 0#32
  ![c1_i32.toNat, arg0.toNat, arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let c256_i32 : BitVec 32 := 256#32
  let v1 : BitVec 32 := Scalar.addi c256_i32 v0
  let v2 : BitVec 32 := Scalar.addi v1 arg2
  let c0_i32 : BitVec 32 := 0#32
  ![v2.toNat, arg1.toNat]

def cc0_transform_10 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  let c0_i32_1 : BitVec 32 := 0#32
  ![c1_i32.toNat, arg0.toNat, arg1.toNat, c0_i32.toNat, c0_i32_0.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S32x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S32x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S32x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S32x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x8x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true, false]

abbrev stage0_7 : Fin 2 → Memref sig .tc .vmem S32x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x1x8x256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== Reference7Ideal.lean ====
abbrev S9216x8192 : Shape := ⟨2, ![9216, 8192]⟩
abbrev S9216x4096 : Shape := ⟨2, ![9216, 4096]⟩
abbrev S2x32x8x256x512 : Shape := ⟨5, ![2, 32, 8, 256, 512]⟩
abbrev S4096 : Shape := ⟨1, ![4096]⟩
abbrev S8 : Shape := ⟨1, ![8]⟩
abbrev S_ : Shape := ⟨0, ![]⟩
abbrev S1024x2048 : Shape := ⟨2, ![1024, 2048]⟩
abbrev S32x32x8x256 : Shape := ⟨4, ![32, 32, 8, 256]⟩
abbrev S1024x4096 : Shape := ⟨2, ![1024, 4096]⟩
abbrev S32x32x8x512 : Shape := ⟨4, ![32, 32, 8, 512]⟩
abbrev S32 : Shape := ⟨1, ![32]⟩
abbrev S32x1 : Shape := ⟨2, ![32, 1]⟩
abbrev S1x8 : Shape := ⟨2, ![1, 8]⟩
abbrev S32x8 : Shape := ⟨2, ![32, 8]⟩
abbrev S1x32x8x1 : Shape := ⟨4, ![1, 32, 8, 1]⟩
abbrev S1x32x8x256x512 : Shape := ⟨5, ![1, 32, 8, 256, 512]⟩
abbrev S32x8x256x512 : Shape := ⟨4, ![32, 8, 256, 512]⟩
abbrev S1x8x1x1 : Shape := ⟨4, ![1, 8, 1, 1]⟩

abbrev nBuf : Space → Nat
  | .hbm => 51
  | .vmem => 0
  | .smem => 0
  | _ => 0

abbrev bufTy : (tb : Table) → Fin (tcTables nBuf tb) → BufTy
  | .hbm, ⟨0, _⟩ => ⟨S9216x8192, .bf16⟩
  | .hbm, ⟨1, _⟩ => ⟨S9216x4096, .f32⟩
  | .hbm, ⟨2, _⟩ => ⟨S2x32x8x256x512, .f32⟩
  | .hbm, ⟨3, _⟩ => ⟨S4096, .f32⟩
  | .hbm, ⟨4, _⟩ => ⟨S9216x4096, .bf16⟩
  | .hbm, ⟨5, _⟩ => ⟨S2x32x8x256x512, .f32⟩
  | .hbm, ⟨6, _⟩ => ⟨S8, .f32⟩
  | .hbm, ⟨7, _⟩ => ⟨S_, .f32⟩
  | .hbm, ⟨8, _⟩ => ⟨S8, .f32⟩
  | .hbm, ⟨9, _⟩ => ⟨S8, .f32⟩
  | .hbm, ⟨10, _⟩ => ⟨S_, .f32⟩
  | .hbm, ⟨11, _⟩ => ⟨S8, .f32⟩
  | .hbm, ⟨12, _⟩ => ⟨S8, .f32⟩
  | .hbm, ⟨13, _⟩ => ⟨S8, .f32⟩
  | .hbm, ⟨14, _⟩ => ⟨S8, .f32⟩
  | .hbm, ⟨15, _⟩ => ⟨S8, .f32⟩
  | .hbm, ⟨16, _⟩ => ⟨S1024x2048, .bf16⟩
  | .hbm, ⟨17, _⟩ => ⟨S1024x2048, .f32⟩
  | .hbm, ⟨18, _⟩ => ⟨S32x32x8x256, .f32⟩
  | .hbm, ⟨19, _⟩ => ⟨S1024x4096, .bf16⟩
  | .hbm, ⟨20, _⟩ => ⟨S1024x4096, .f32⟩
  | .hbm, ⟨21, _⟩ => ⟨S32x32x8x512, .f32⟩
  | .hbm, ⟨22, _⟩ => ⟨S32, .f32⟩
  | .hbm, ⟨23, _⟩ => ⟨S_, .f32⟩
  | .hbm, ⟨24, _⟩ => ⟨S32, .f32⟩
  | .hbm, ⟨25, _⟩ => ⟨S32, .f32⟩
  | .hbm, ⟨26, _⟩ => ⟨S32x1, .f32⟩
  | .hbm, ⟨27, _⟩ => ⟨S1x8, .f32⟩
  | .hbm, ⟨28, _⟩ => ⟨S32x8, .f32⟩
  | .hbm, ⟨29, _⟩ => ⟨S32x8, .f32⟩
  | .hbm, ⟨30, _⟩ => ⟨S32x8, .f32⟩
  | .hbm, ⟨31, _⟩ => ⟨S32x8, .f32⟩
  | .hbm, ⟨32, _⟩ => ⟨S1x32x8x1, .f32⟩
  | .hbm, ⟨33, _⟩ => ⟨S32x32x8x256, .f32⟩
  | .hbm, ⟨34, _⟩ => ⟨S32x32x8x256, .f32⟩
  | .hbm, ⟨35, _⟩ => ⟨S1x32x8x256x512, .f32⟩
  | .hbm, ⟨36, _⟩ => ⟨S32x8x256x512, .f32⟩
  | .hbm, ⟨37, _⟩ => ⟨S_, .f32⟩
  | .hbm, ⟨38, _⟩ => ⟨S8, .f32⟩
  | .hbm, ⟨39, _⟩ => ⟨S8, .f32⟩
  | .hbm, ⟨40, _⟩ => ⟨S8, .f32⟩
  | .hbm, ⟨41, _⟩ => ⟨S1x8x1x1, .f32⟩
  | .hbm, ⟨42, _⟩ => ⟨S32x8x256x512, .f32⟩
  | .hbm, ⟨43, _⟩ => ⟨S32x8x256x512, .f32⟩
  | .hbm, ⟨44, _⟩ => ⟨S32x8x256x512, .f32⟩
  | .hbm, ⟨45, _⟩ => ⟨S32x8x256x512, .f32⟩
  | .hbm, ⟨46, _⟩ => ⟨S1x32x8x256x512, .f32⟩
  | .hbm, ⟨47, _⟩ => ⟨S32x8x256x512, .f32⟩
  | .hbm, ⟨48, _⟩ => ⟨S1x32x8x256x512, .f32⟩
  | .hbm, ⟨49, _⟩ => ⟨S1x32x8x256x512, .f32⟩
  | .hbm, ⟨50, _⟩ => ⟨S2x32x8x256x512, .f32⟩
  | _, _ => ⟨S9216x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_2 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩

abbrev nD : Nat := 1
abbrev τ : Topo := Topo.v7x

variable {F : FTy → Type} [FloatOps F]
-- ==== Kernel8.lean ====
abbrev S9216x8192 : Shape := ⟨2, ![9216, 8192]⟩
abbrev S9216x4096 : Shape := ⟨2, ![9216, 4096]⟩
abbrev S4096 : Shape := ⟨1, ![4096]⟩
abbrev S2x2x8x256x512 : Shape := ⟨5, ![2, 2, 8, 256, 512]⟩
abbrev S8 : Shape := ⟨1, ![8]⟩
abbrev S_ : Shape := ⟨0, ![]⟩
abbrev S1x4096 : Shape := ⟨2, ![1, 4096]⟩
abbrev S256x512 : Shape := ⟨2, ![256, 512]⟩
abbrev S256x1024 : Shape := ⟨2, ![256, 1024]⟩
abbrev S1x1024 : Shape := ⟨2, ![1, 1024]⟩
abbrev S1x1x2x256x512 : Shape := ⟨5, ![1, 1, 2, 256, 512]⟩
abbrev S2x256x512 : Shape := ⟨3, ![2, 256, 512]⟩
abbrev S2x256x256 : Shape := ⟨3, ![2, 256, 256]⟩
abbrev S256x1 : Shape := ⟨2, ![256, 1]⟩
abbrev S1 : Shape := ⟨1, ![1]⟩
abbrev S1x256x512 : Shape := ⟨3, ![1, 256, 512]⟩
abbrev S256x256 : Shape := ⟨2, ![256, 256]⟩
abbrev S1x256x256 : Shape := ⟨3, ![1, 256, 256]⟩
abbrev S1x1 : Shape := ⟨2, ![1, 1]⟩
abbrev S256 : Shape := ⟨1, ![256]⟩
abbrev S1x512 : Shape := ⟨2, ![1, 512]⟩

abbrev nBuf : Space → Nat
  | .hbm => 17
  | .vmem => 16
  | .smem => 1
  | _ => 0

abbrev bufTy : (tb : Table) → Fin (tcTables nBuf tb) → BufTy
  | .hbm, ⟨0, _⟩ => ⟨S9216x8192, .bf16⟩
  | .hbm, ⟨1, _⟩ => ⟨S9216x4096, .f32⟩
  | .hbm, ⟨2, _⟩ => ⟨S4096, .f32⟩
  | .hbm, ⟨3, _⟩ => ⟨S2x2x8x256x512, .f32⟩
  | .hbm, ⟨4, _⟩ => ⟨S8, .f32⟩
  | .hbm, ⟨5, _⟩ => ⟨S_, .f32⟩
  | .hbm, ⟨6, _⟩ => ⟨S8, .f32⟩
  | .hbm, ⟨7, _⟩ => ⟨S8, .f32⟩
  | .hbm, ⟨8, _⟩ => ⟨S_, .f32⟩
  | .hbm, ⟨9, _⟩ => ⟨S8, .f32⟩
  | .hbm, ⟨10, _⟩ => ⟨S8, .f32⟩
  | .hbm, ⟨11, _⟩ => ⟨S8, .f32⟩
  | .hbm, ⟨12, _⟩ => ⟨S8, .f32⟩
  | .hbm, ⟨13, _⟩ => ⟨S8, .f32⟩
  | .hbm, ⟨14, _⟩ => ⟨S1x4096, .f32⟩
  | .hbm, ⟨15, _⟩ => ⟨S9216x4096, .bf16⟩
  | .hbm, ⟨16, _⟩ => ⟨S2x2x8x256x512, .f32⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S1x1024, .f32⟩
  | .local _ .vmem, ⟨10, _⟩ => ⟨S256x1024, .bf16⟩
  | .local _ .vmem, ⟨11, _⟩ => ⟨S256x1024, .bf16⟩
  | .local _ .vmem, ⟨12, _⟩ => ⟨S1x1x2x256x512, .f32⟩
  | .local _ .vmem, ⟨13, _⟩ => ⟨S1x1x2x256x512, .f32⟩
  | .local _ .vmem, ⟨14, _⟩ => ⟨S2x256x512, .f32⟩
  | .local _ .vmem, ⟨15, _⟩ => ⟨S2x256x256, .f32⟩
  | .local _ .smem, ⟨0, _⟩ => ⟨S8, .f32⟩
  | _, _ => ⟨S9216x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨3, ![2, 4, 16], ![false, false, false]⟩

def k0_off1 (i : grid0.Coords) (c0_i32 : BitVec 32) : Fin 1 → Nat :=
  let arg1 : BitVec 32 := BitVec.ofNat 32 (i 1).val
  let c2_i32 : BitVec 32 := 2#32
  let v2 : BitVec 32 := Scalar.muli arg1 c2_i32
  let v3 : BitVec 32 := Scalar.addi v2 c0_i32
  let v4 : Index := Scalar.indexCast v3
  ![v4.toNat]
def k0_cond3 (i : grid0.Coords) : BitVec 1 :=
  let arg2 : BitVec 32 := BitVec.ofNat 32 (i 2).val
  let c15_i32 : BitVec 32 := 15#32
  let v174 : BitVec 1 := Scalar.cmpi .eq arg2 c15_i32
  let v175 : BitVec 32 := Scalar.extui v174
  let c0_i32_76 : BitVec 32 := 0#32
  let v176 : BitVec 1 := Scalar.cmpi .ne v175 c0_i32_76
  v176

def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let c0_i32 : BitVec 32 := 0#32
  let v1 : BitVec 32 := Scalar.addi c0_i32 v0
  let v2 : BitVec 32 := Scalar.addi v1 arg2
  let c0_i32_0 : BitVec 32 := 0#32
  ![v2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let c0_i32 : BitVec 32 := 0#32
  let v1 : BitVec 32 := Scalar.addi c0_i32 v0
  let v2 : BitVec 32 := Scalar.addi v1 arg2
  let c4_i32 : BitVec 32 := 4#32
  let v3 : BitVec 32 := Scalar.addi c4_i32 arg1
  let c0_i32_0 : BitVec 32 := 0#32
  ![v2.toNat, v3.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let c0_i32 : BitVec 32 := 0#32
  let v1 : BitVec 32 := Scalar.addi c0_i32 v0
  let v2 : BitVec 32 := Scalar.addi v1 arg2
  let c4_i32 : BitVec 32 := 4#32
  let v3 : BitVec 32 := Scalar.addi c4_i32 arg1
  let c0_i32_0 : BitVec 32 := 0#32
  ![v2.toNat, v3.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let c0_i32 : BitVec 32 := 0#32
  let v1 : BitVec 32 := Scalar.addi c0_i32 v0
  let v2 : BitVec 32 := Scalar.addi v1 arg2
  let c0_i32_0 : BitVec 32 := 0#32
  ![v2.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let c0_i32 : BitVec 32 := 0#32
  let v1 : BitVec 32 := Scalar.addi c0_i32 v0
  let v2 : BitVec 32 := Scalar.addi v1 arg2
  let c0_i32_0 : BitVec 32 := 0#32
  ![v2.toNat, arg1.toNat]

def cc0_transform_8 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  let c0_i32_1 : BitVec 32 := 0#32
  ![c1_i32.toNat, arg0.toNat, arg1.toNat, c0_i32.toNat, c0_i32_0.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x1x2x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== Reference8Ideal.lean ====
abbrev S9216x8192 : Shape := ⟨2, ![9216, 8192]⟩
abbrev S9216x4096 : Shape := ⟨2, ![9216, 4096]⟩
abbrev S4096 : Shape := ⟨1, ![4096]⟩
abbrev S2x2x8x256x512 : Shape := ⟨5, ![2, 2, 8, 256, 512]⟩
abbrev S8 : Shape := ⟨1, ![8]⟩
abbrev S_ : Shape := ⟨0, ![]⟩
abbrev S8192x2048 : Shape := ⟨2, ![8192, 2048]⟩
abbrev S2x64x64x8x256 : Shape := ⟨5, ![2, 64, 64, 8, 256]⟩
abbrev S64x2x64x8x256 : Shape := ⟨5, ![64, 2, 64, 8, 256]⟩
abbrev S8192x4096 : Shape := ⟨2, ![8192, 4096]⟩
abbrev S2x64x64x8x512 : Shape := ⟨5, ![2, 64, 64, 8, 512]⟩
abbrev S64x2x64x8x512 : Shape := ⟨5, ![64, 2, 64, 8, 512]⟩
abbrev S64 : Shape := ⟨1, ![64]⟩
abbrev S2x8x256x512 : Shape := ⟨4, ![2, 8, 256, 512]⟩
abbrev S1x2x64x8x256 : Shape := ⟨5, ![1, 2, 64, 8, 256]⟩
abbrev S2x64x8x256 : Shape := ⟨4, ![2, 64, 8, 256]⟩
abbrev S1x2x64x8x512 : Shape := ⟨5, ![1, 2, 64, 8, 512]⟩
abbrev S2x64x8x512 : Shape := ⟨4, ![2, 64, 8, 512]⟩
abbrev S64x1 : Shape := ⟨2, ![64, 1]⟩
abbrev S1x8 : Shape := ⟨2, ![1, 8]⟩
abbrev S64x8 : Shape := ⟨2, ![64, 8]⟩
abbrev S1x64x8x1 : Shape := ⟨4, ![1, 64, 8, 1]⟩
abbrev S1x8x1x1 : Shape := ⟨4, ![1, 8, 1, 1]⟩
abbrev S1x2x8x256x512 : Shape := ⟨5, ![1, 2, 8, 256, 512]⟩

abbrev nBuf : Space → Nat
  | .hbm => 74
  | .vmem => 0
  | .smem => 0
  | _ => 0

abbrev bufTy : (tb : Table) → Fin (tcTables nBuf tb) → BufTy
  | .hbm, ⟨0, _⟩ => ⟨S9216x8192, .bf16⟩
  | .hbm, ⟨1, _⟩ => ⟨S9216x4096, .f32⟩
  | .hbm, ⟨2, _⟩ => ⟨S4096, .f32⟩
  | .hbm, ⟨3, _⟩ => ⟨S2x2x8x256x512, .f32⟩
  | .hbm, ⟨4, _⟩ => ⟨S8, .f32⟩
  | .hbm, ⟨5, _⟩ => ⟨S_, .f32⟩
  | .hbm, ⟨6, _⟩ => ⟨S8, .f32⟩
  | .hbm, ⟨7, _⟩ => ⟨S8, .f32⟩
  | .hbm, ⟨8, _⟩ => ⟨S_, .f32⟩
  | .hbm, ⟨9, _⟩ => ⟨S8, .f32⟩
  | .hbm, ⟨10, _⟩ => ⟨S8, .f32⟩
  | .hbm, ⟨11, _⟩ => ⟨S8, .f32⟩
  | .hbm, ⟨12, _⟩ => ⟨S8, .f32⟩
  | .hbm, ⟨13, _⟩ => ⟨S8, .f32⟩
  | .hbm, ⟨14, _⟩ => ⟨S8192x2048, .bf16⟩
  | .hbm, ⟨15, _⟩ => ⟨S8192x2048, .f32⟩
  | .hbm, ⟨16, _⟩ => ⟨S2x64x64x8x256, .f32⟩
  | .hbm, ⟨17, _⟩ => ⟨S64x2x64x8x256, .f32⟩
  | .hbm, ⟨18, _⟩ => ⟨S8192x4096, .bf16⟩
  | .hbm, ⟨19, _⟩ => ⟨S8192x4096, .f32⟩
  | .hbm, ⟨20, _⟩ => ⟨S2x64x64x8x512, .f32⟩
  | .hbm, ⟨21, _⟩ => ⟨S64x2x64x8x512, .f32⟩
  | .hbm, ⟨22, _⟩ => ⟨S64, .f32⟩
  | .hbm, ⟨23, _⟩ => ⟨S_, .f32⟩
  | .hbm, ⟨24, _⟩ => ⟨S2x8x256x512, .f32⟩
  | .hbm, ⟨25, _⟩ => ⟨S_, .i32⟩
  | .hbm, ⟨26, _⟩ => ⟨S64x2x64x8x256, .f32⟩
  | .hbm, ⟨27, _⟩ => ⟨S64x2x64x8x512, .f32⟩
  | .hbm, ⟨28, _⟩ => ⟨S64, .f32⟩
  | .hbm, ⟨29, _⟩ => ⟨S8, .f32⟩
  | .hbm, ⟨30, _⟩ => ⟨S_, .i32⟩
  | .hbm, ⟨31, _⟩ => ⟨S2x8x256x512, .f32⟩
  | .hbm, ⟨32, _⟩ => ⟨S_, .i32⟩
  | .hbm, ⟨33, _⟩ => ⟨S_, .i1⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S_, .i32⟩
  | .hbm, ⟨38, _⟩ => ⟨S1x2x64x8x256, .f32⟩
  | .hbm, ⟨39, _⟩ => ⟨S2x64x8x256, .f32⟩
  | .hbm, ⟨40, _⟩ => ⟨S_, .i32⟩
  | .hbm, ⟨41, _⟩ => ⟨S_, .i32⟩
  | .hbm, ⟨42, _⟩ => ⟨S_, .i32⟩
  | .hbm, ⟨43, _⟩ => ⟨S_, .i32⟩
  | .hbm, ⟨44, _⟩ => ⟨S1x2x64x8x512, .f32⟩
  | .hbm, ⟨45, _⟩ => ⟨S2x64x8x512, .f32⟩
  | .hbm, ⟨46, _⟩ => ⟨S_, .f32⟩
  | .hbm, ⟨47, _⟩ => ⟨S64, .f32⟩
  | .hbm, ⟨48, _⟩ => ⟨S64, .f32⟩
  | .hbm, ⟨49, _⟩ => ⟨S64x1, .f32⟩
  | .hbm, ⟨50, _⟩ => ⟨S1x8, .f32⟩
  | .hbm, ⟨51, _⟩ => ⟨S64x8, .f32⟩
  | .hbm, ⟨52, _⟩ => ⟨S64x8, .f32⟩
  | .hbm, ⟨53, _⟩ => ⟨S64x8, .f32⟩
  | .hbm, ⟨54, _⟩ => ⟨S64x8, .f32⟩
  | .hbm, ⟨55, _⟩ => ⟨S1x64x8x1, .f32⟩
  | .hbm, ⟨56, _⟩ => ⟨S2x64x8x256, .f32⟩
  | .hbm, ⟨57, _⟩ => ⟨S2x64x8x256, .f32⟩
  | .hbm, ⟨58, _⟩ => ⟨S_, .f32⟩
  | .hbm, ⟨59, _⟩ => ⟨S8, .f32⟩
  | .hbm, ⟨60, _⟩ => ⟨S8, .f32⟩
  | .hbm, ⟨61, _⟩ => ⟨S8, .f32⟩
  | .hbm, ⟨62, _⟩ => ⟨S1x8x1x1, .f32⟩
  | .hbm, ⟨63, _⟩ => ⟨S2x8x256x512, .f32⟩
  | .hbm, ⟨64, _⟩ => ⟨S2x8x256x512, .f32⟩
  | .hbm, ⟨65, _⟩ => ⟨S2x8x256x512, .f32⟩
  | .hbm, ⟨66, _⟩ => ⟨S2x8x256x512, .f32⟩
  | .hbm, ⟨67, _⟩ => ⟨S_, .i32⟩
  | .hbm, ⟨68, _⟩ => ⟨S_, .i32⟩
  | .hbm, ⟨69, _⟩ => ⟨S1x2x8x256x512, .f32⟩
  | .hbm, ⟨70, _⟩ => ⟨S2x8x256x512, .f32⟩
  | .hbm, ⟨71, _⟩ => ⟨S1x2x8x256x512, .f32⟩
  | .hbm, ⟨72, _⟩ => ⟨S1x2x8x256x512, .f32⟩
  | .hbm, ⟨73, _⟩ => ⟨S2x2x8x256x512, .f32⟩
  | _, _ => ⟨S9216x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_c : Ref sig .tc := ⟨.hbm, 25, rfl⟩
abbrev main_v18_0 : Ref sig .tc := ⟨.hbm, 26, rfl⟩
abbrev main_v18_1 : Ref sig .tc := ⟨.hbm, 27, rfl⟩
abbrev main_v18_2 : Ref sig .tc := ⟨.hbm, 28, rfl⟩
abbrev main_v18_3 : Ref sig .tc := ⟨.hbm, 29, rfl⟩
abbrev main_v18_4 : Ref sig .tc := ⟨.hbm, 30, rfl⟩
abbrev main_v18_5 : Ref sig .tc := ⟨.hbm, 31, rfl⟩
abbrev main_while0c_c_7 : Ref sig .tc := ⟨.hbm, 32, rfl⟩
abbrev main_while0c_v24 : Ref sig .tc := ⟨.hbm, 33, rfl⟩
abbrev main_while0b_call0_c : Ref sig .tc := ⟨.hbm, 34, rfl⟩
abbrev main_while0b_call0_c_0 : Ref sig .tc := ⟨.hbm, 35, rfl⟩
abbrev main_while0b_call0_c_1 : Ref sig .tc := ⟨.hbm, 36, rfl⟩
abbrev main_while0b_call0_c_2 : Ref sig .tc := ⟨.hbm, 37, rfl⟩
abbrev main_while0b_call0_v0 : Ref sig .tc := ⟨.hbm, 38, rfl⟩
abbrev main_while0b_v24 : Ref sig .tc := ⟨.hbm, 39, rfl⟩
abbrev main_while0b_call1_c : Ref sig .tc := ⟨.hbm, 40, rfl⟩
abbrev main_while0b_call1_c_0 : Ref sig .tc := ⟨.hbm, 41, rfl⟩
abbrev main_while0b_call1_c_1 : Ref sig .tc := ⟨.hbm, 42, rfl⟩
abbrev main_while0b_call1_c_2 : Ref sig .tc := ⟨.hbm, 43, rfl⟩
abbrev main_while0b_call1_v0 : Ref sig .tc := ⟨.hbm, 44, rfl⟩
abbrev main_while0b_v25 : Ref sig .tc := ⟨.hbm, 45, rfl⟩
abbrev main_while0b_cst_7 : Ref sig .tc := ⟨.hbm, 46, rfl⟩
abbrev main_while0b_v26 : Ref sig .tc := ⟨.hbm, 47, rfl⟩
abbrev main_while0b_v27 : Ref sig .tc := ⟨.hbm, 48, rfl⟩
abbrev main_while0b_v28 : Ref sig .tc := ⟨.hbm, 49, rfl⟩
abbrev main_while0b_v29 : Ref sig .tc := ⟨.hbm, 50, rfl⟩
abbrev main_while0b_v30 : Ref sig .tc := ⟨.hbm, 51, rfl⟩
abbrev main_while0b_v31 : Ref sig .tc := ⟨.hbm, 52, rfl⟩
abbrev main_while0b_v32 : Ref sig .tc := ⟨.hbm, 53, rfl⟩
abbrev main_while0b_v33 : Ref sig .tc := ⟨.hbm, 54, rfl⟩
abbrev main_while0b_v34 : Ref sig .tc := ⟨.hbm, 55, rfl⟩
abbrev main_while0b_v35 : Ref sig .tc := ⟨.hbm, 56, rfl⟩
abbrev main_while0b_v36 : Ref sig .tc := ⟨.hbm, 57, rfl⟩
abbrev main_while0b_cst_8 : Ref sig .tc := ⟨.hbm, 58, rfl⟩
abbrev main_while0b_v37 : Ref sig .tc := ⟨.hbm, 59, rfl⟩
abbrev main_while0b_v38 : Ref sig .tc := ⟨.hbm, 60, rfl⟩
abbrev main_while0b_v39 : Ref sig .tc := ⟨.hbm, 61, rfl⟩
abbrev main_while0b_v40 : Ref sig .tc := ⟨.hbm, 62, rfl⟩
abbrev main_while0b_v41 : Ref sig .tc := ⟨.hbm, 63, rfl⟩
abbrev main_while0b_v42 : Ref sig .tc := ⟨.hbm, 64, rfl⟩
abbrev main_while0b_v43 : Ref sig .tc := ⟨.hbm, 65, rfl⟩
abbrev main_while0b_v44 : Ref sig .tc := ⟨.hbm, 66, rfl⟩
abbrev main_while0b_c_9 : Ref sig .tc := ⟨.hbm, 67, rfl⟩
abbrev main_while0b_v45 : Ref sig .tc := ⟨.hbm, 68, rfl⟩
abbrev main_v19 : Ref sig .tc := ⟨.hbm, 69, rfl⟩
abbrev main_v20 : Ref sig .tc := ⟨.hbm, 70, rfl⟩
abbrev main_v21 : Ref sig .tc := ⟨.hbm, 71, rfl⟩
abbrev main_v22 : Ref sig .tc := ⟨.hbm, 72, rfl⟩
abbrev main_v23 : Ref sig .tc := ⟨.hbm, 73, rfl⟩

abbrev nD : Nat := 1
abbrev τ : Topo := Topo.v7x

variable {F : FTy → Type} [FloatOps F]

abbrev main_while0_count : Scf.Loop 32 := ⟨0#32, 64#32, 1#32⟩
-- ==== Proof.Gather.lean ====
module

public import proofs.«01_k».proof.Proof.Gen.KernelIdeal.Launch
public import proofs.«01_k».proof.Proof.Gen.KernelIdeal.Skeleton
public import Idealize.ShloMosaic.Lib.Pipeline.FrameBody
public import Idealize.ShloMosaic.Lib.Ring
public import Idealize.ShloMosaic.Lib.Batch
public import Idealize.ShloMosaic.Lib.Tactic
public import Idealize.ShloMosaic.Lib.ValueLayout
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix1 ix2 ix3 eq_ix1 eq_ix2 eq_ix3)

variable {F : FTy → Type} [FloatOps F]

local notation "𝕄" => MT nD τ sig Unit (Elt F) ℕ (Pipeline.UD sig nD τ) ℕ

/-! ## The rows a gather moves -/

/-- One slot of the gather ring: a slab of 256 rows. -/
abbrev slabM (o : Fin 3 → ℕ) (h : ∀ a, o a + S1x256x2048.size a ≤ S2x256x2048.size a) : Memref sig .tc .vmem S256x2048 .f32 :=
  ((Memref.whole cc0_scratch0).slice (Rect.unit (s := S2x256x2048) o S1x256x2048.size h) (fun _ => rfl)).squeeze S256x2048 squeezes_S1x256x2048_S256x2048

/-- One row of a slot. -/
abbrev rowM (o : Fin 3 → ℕ) (h : ∀ a, o a + S1x256x2048.size a ≤ S2x256x2048.size a)
    (o2 : Fin 2 → ℕ) (h2 : ∀ a, o2 a + S1x2048.size a ≤ S256x2048.size a) : Memref sig .tc .vmem S1x2048 .f32 :=
  (slabM o h).slice (Rect.unit (s := S256x2048) o2 S1x2048.size h2) (fun _ => rfl)

/-- One row of the token array. -/
abbrev srcM (o : Fin 2 → ℕ) (h : ∀ a, o a + S1x2048.size a ≤ S9216x2048.size a) : Memref sig .tc .hbm S1x2048 .f32 :=
  (Memref.whole main_arg0).slice (Rect.unit (s := S9216x2048) o S1x2048.size h) (fun _ => rfl)

/-- The completion cell of a slot. -/
abbrev cellM (o : Fin 1 → ℕ) (h : ∀ a, o a + S1.size a ≤ S2.size a) : DmaSems sig S_ :=
  (cc0_scratch4.slice (Rect.unit (s := S2) o S1.size h)).squeeze S_ squeezes_S1_S_

/-- A row's element `y` is the ring's element at slot `s`, row `r`, column `y 1`. -/
theorem rowM_emb (s r : ℕ) (hs : s < 2) (hr : r < 256) (h h2) (y : S1x2048.Idx) :
    (rowM ![s, 0, 0] h ![r, 0] h2).view.emb y = ix3 (n0 := 2) (n1 := 256) (n2 := 2048) ⟨s, hs⟩ ⟨r, hr⟩ (y 1) := by
  have hy0 : (y 0).val = 0 := Nat.lt_one_iff.mp (y 0).isLt
  have h1 : (Rect.unit (s := S256x2048) ![r, 0] S1x2048.size h2).emb y = ix2 (n0 := 256) (n1 := 2048) ⟨r, hr⟩ (y 1) := by
    funext a; match a with
    | ⟨0, _⟩ => apply Fin.ext; show r + 1 * (y 0).val = r; rw [hy0]; rfl
    | ⟨1, _⟩ => apply Fin.ext; show 0 + 1 * (y 1).val = (y 1).val; omega
  show (Rect.unit (s := S2x256x2048) ![s, 0, 0] S1x256x2048.size h).emb (Shape.reshapeEquiv _ ((Rect.unit (s := S256x2048) ![r, 0] S1x2048.size h2).emb y)) = _
  refine (congrArg _ ((congrArg _ h1).trans (ValueIdx.reshapeEquiv_ix2_1ab (a := 256) (b := 2048) _ _ _))).trans ?_
  funext a; match a with
  | ⟨0, _⟩ => apply Fin.ext; show s + 1 * 0 = s; rfl
  | ⟨1, _⟩ => apply Fin.ext; show 0 + 1 * r = r; omega
  | ⟨2, _⟩ => apply Fin.ext; show 0 + 1 * (y 1).val = (y 1).val; omega

/-- A source row's element `y` is the token array's element at row `j`, column `y 1`. -/
theorem srcM_emb (j : ℕ) (hj : j < 9216) (h) (y : S1x2048.Idx) :
    (srcM ![j, 0] h).view.emb y = ix2 (n0 := 9216) (n1 := 2048) ⟨j, hj⟩ (y 1) := by
  have hy0 : (y 0).val = 0 := Nat.lt_one_iff.mp (y 0).isLt
  funext a; match a with
  | ⟨0, _⟩ => apply Fin.ext; show j + 1 * (y 0).val = j; rw [hy0]; rfl
  | ⟨1, _⟩ => apply Fin.ext; show 0 + 1 * (y 1).val = (y 1).val; omega

/-- The ring's elements in slot `s`, -/
def slabSet (s : ℕ) : Finset S2x256x2048.Idx := Finset.univ.filter fun x => (x 0).val = s
/-- in row `r` of slot `s`. -/
def rowSet (s r : ℕ) : Finset S2x256x2048.Idx := Finset.univ.filter fun x => (x 0).val = s ∧ (x 1).val = r

theorem rowM_set (s r : ℕ) (hs : s < 2) (hr : r < 256) (h h2) : (rowM ![s, 0, 0] h ![r, 0] h2).view.set = rowSet s r := by
  ext x
  rw [show (rowM ![s, 0, 0] h ![r, 0] h2).view.set = Finset.univ.map (rowM ![s, 0, 0] h ![r, 0] h2).view.emb from rfl, Finset.mem_map]
  constructor
  · rintro ⟨y, -, rfl⟩
    rw [rowM_emb s r hs hr]
    exact Finset.mem_filter.mpr ⟨Finset.mem_univ _, rfl, rfl⟩
  · intro hx
    obtain ⟨-, h0, h1⟩ := Finset.mem_filter.mp hx
    refine ⟨ix2 (n0 := 1) (n1 := 2048) 0 (x 2), Finset.mem_univ _, ?_⟩
    rw [rowM_emb s r hs hr]
    refine Eq.trans ?_ (eq_ix3 (n0 := 2) (n1 := 256) (n2 := 2048) x).symm
    rw [show (⟨s, hs⟩ : Fin 2) = x 0 from Fin.ext h0.symm, show (⟨r, hr⟩ : Fin 256) = x 1 from Fin.ext h1.symm]; rfl

theorem slabM_load_set (s : ℕ) (hs : s < 2) (h) :
    ((Memref.whole cc0_scratch0).access (Rect.unit (s := S2x256x2048) ![s, 0, 0] S1x256x2048.size h)).set ⊆ slabSet s := by
  intro x hx
  rw [show ((Memref.whole cc0_scratch0).access (Rect.unit (s := S2x256x2048) ![s, 0, 0] S1x256x2048.size h)).set = (Rect.unit (s := S2x256x2048) ![s, 0, 0] S1x256x2048.size h).set from View.set_slice_whole _ _] at hx
  have := (Rect.mem_set_unit.mp hx) 0
  have h1 : (x 0).val < s + 1 := this.2
  have h2 : s ≤ (x 0).val := this.1
  exact Finset.mem_filter.mpr ⟨Finset.mem_univ _, by omega⟩

theorem rowSet_disjoint (s : ℕ) : ∀ r r' : Fin 256, r ≠ r' → Disjoint (rowSet s r) (rowSet s r') := by
  intro r r' hne
  rw [Finset.disjoint_left]
  intro x hx hx'
  exact hne (Fin.ext ((Finset.mem_filter.mp hx).2.2.symm.trans (Finset.mem_filter.mp hx').2.2))

theorem rowSet_union (s : ℕ) : Finset.univ.biUnion (fun r : Fin 256 => rowSet s r) = slabSet s := by
  ext x
  simp only [Finset.mem_biUnion, Finset.mem_univ, true_and, rowSet, slabSet, Finset.mem_filter]
  exact ⟨fun ⟨r, h, _⟩ => h, fun h => ⟨x 1, h, rfl⟩⟩

theorem slabSet_disjoint : Disjoint (slabSet 0) (slabSet 1) := by
  rw [Finset.disjoint_left]
  intro x hx hx'
  have a := (Finset.mem_filter.mp hx).2
  have b := (Finset.mem_filter.mp hx').2
  omega

theorem slabSet_union : slabSet 0 ∪ slabSet 1 = Finset.univ := by
  ext x
  simp only [slabSet, Finset.mem_union, Finset.mem_filter, Finset.mem_univ, true_and, iff_true]
  have : (x 0).val < 2 := (x 0).isLt
  omega

/-! ## What the gather delivers -/

/-- The contents of the token array, of the row table, of the ring. -/
abbrev HBuf (F : FTy → Type) [FloatOps F] (c : Dev nD) := Buf (Elt F) ((c : Thread nD τ).loc main_arg0)
abbrev SrcBuf (F : FTy → Type) [FloatOps F] (c : Dev nD) := Buf (Elt F) ((c : Thread nD τ).loc main_arg2)
abbrev RingBuf (F : FTy → Type) [FloatOps F] (c : Dev nD) := Buf (Elt F) ((c : Thread nD τ).loc cc0_scratch0)

/-- The word of the row table at position `j` (its last word past the end). -/
def srcW (c : Dev nD) (fs : SrcBuf F c) (j : ℕ) : BitVec 32 := fs (ix1 (n := 22528) ⟨min j 22527, by omega⟩)

/-- The row it names, as a row of the token array. -/
def srcRow (c : Dev nD) (fs : SrcBuf F c) (j : ℕ) : Fin 9216 := ⟨min (srcW c fs j).toNat 9215, by omega⟩

/-- The rows of tile `u`, laid out in both slots. -/
def gat (c : Dev nD) (fs : SrcBuf F c) (fh : HBuf F c) (u : ℕ) : RingBuf F c :=
  fun x => fh (ix2 (n0 := 9216) (n1 := 2048) (srcRow c fs (u * 256 + (x 1).val)) (x 2))

/-- The token array's elements in row `j`. -/
def hrow (j : Fin 9216) : Finset S9216x2048.Idx := Finset.univ.filter fun x => (x 0).val = j.val

theorem srcM_set (j : ℕ) (hj : j < 9216) (h) : (srcM ![j, 0] h).view.set = hrow ⟨j, hj⟩ := by
  ext x
  rw [show (srcM ![j, 0] h).view.set = Finset.univ.map (srcM ![j, 0] h).view.emb from rfl, Finset.mem_map]
  constructor
  · rintro ⟨y, -, rfl⟩
    rw [srcM_emb j hj]
    exact Finset.mem_filter.mpr ⟨Finset.mem_univ _, rfl⟩
  · intro hx
    have h0 : x 0 = (⟨j, hj⟩ : Fin 9216) := Fin.ext (Finset.mem_filter.mp hx).2
    refine ⟨ix2 (n0 := 1) (n1 := 2048) 0 (x 1), Finset.mem_univ _, ?_⟩
    rw [srcM_emb j hj]
    refine Eq.trans ?_ (eq_ix2 (n0 := 9216) (n1 := 2048) x).symm
    rw [h0]; rfl

/-- The read token of row transfer `r`. -/
abbrev tokS (r : ℕ) : PosShare TreeShare := Transfers.shareTokN fullShare r

/-- What the transfer of row `r` of tile `u` into slot `s` delivers: the row landed, and its share of the source row. -/
def deliv (c : Dev nD) (fs : SrcBuf F c) (fh : HBuf F c) (s u : ℕ) (r : Fin 256) : sProp 𝕄 :=
  iprop(((c : Thread nD τ).loc cc0_scratch0 ↦[rowSet s r]{fullShare} gat c fs fh u)
    ∗ ((c : Thread nD τ).loc main_arg0 ↦[hrow (srcRow c fs (u * 256 + r.val))]{tokS r} fh))

instance deliv_storable (c : Dev nD) (fs : SrcBuf F c) (fh : HBuf F c) (s u : ℕ) (r : Fin 256) :
    Storable (upEmb : UEmb _ 𝕄) (deliv c fs fh s u r) := by unfold deliv; infer_instance

/-- What of token `r` stays with the core while the transfer is in flight: every other row. -/
def kept (c : Dev nD) (fs : SrcBuf F c) (fh : HBuf F c) (u : ℕ) (r : ℕ) : sProp 𝕄 :=
  iprop((c : Thread nD τ).loc main_arg0 ↦[Finset.univ \ hrow (srcRow c fs (u * 256 + r))]{tokS r} fh)

/-- Token `r` whole. -/
def htok (c : Dev nD) (fh : HBuf F c) (r : ℕ) : sProp 𝕄 :=
  iprop((c : Thread nD τ).loc main_arg0 ↦{tokS r} fh)

/-- One row's transfer credits this many units. -/
abbrev rowN : ℕ := (rowM ![0, 0, 0] inb_S2x256x2048_S1x256x2048_0_0_0 ![0, 0] (by decide)).view.dmaCredit

/-- Tile `u`'s transfers into slot `s`: `j` issued, `n` units consumed. -/
abbrev flight (c : Dev nD) (fs : SrcBuf F c) (fh : HBuf F c) (s u : ℕ) (sem : DmaSem sig) (j n : ℕ) : sProp 𝕄 :=
  Transfers.Batch (countersEmb (U := Pipeline.UD sig nD τ)) (c : Thread nD τ) (.dma sem) () rowN (deliv c fs fh s u) j n

/-! ## One row's transfer, and one row's wait, as the body spells them -/

/-- A gather's row: the table word read, its row assumed inside the token array, its transfer started. -/
def issueP (oi : Fin 1 → ℕ) (hoi : ∀ a, oi a + S1.size a ≤ S22528.size a) (chk : BitVec 32 → Prop) (dec : ∀ v, Decidable (chk v))
    (oh : BitVec 32 → Fin 2 → ℕ) (hoh : ∀ v, chk v → ∀ a, oh v a + S1x2048.size a ≤ S9216x2048.size a)
    (oc : Fin 1 → ℕ) (hoc : ∀ a, oc a + S1.size a ≤ S2.size a)
    (o3 : Fin 3 → ℕ) (h3 : ∀ a, o3 a + S1x256x2048.size a ≤ S2x256x2048.size a)
    (o2 : Fin 2 → ℕ) (h2 : ∀ a, o2 a + S1x2048.size a ≤ S256x2048.size a) : Prog (TpuEff nD τ sig (Elt F) Λ₀ .tc) Unit :=
  smemLoadElt (Memref.whole main_arg2) (Rect.unit (s := S22528) oi S1.size hoi) (View.loads_smem_one rfl numel1_S1) (Shape.Idx.first (numel1_S1.symm ▸ Nat.one_pos)) fun v =>
    .op (.assume (chk v) (dec v)) fun hw =>
      .op (.enqueueDma (srcM (oh v) (hoh v hw.down)) (.here (rowM o3 h3 o2 h2)) (.dma (cellM oc hoc).sem) (View.wordExact_bits rfl) (View.wordExact_bits rfl) ⟨Or.inl rfl, trivial⟩) fun _ =>
        .ret ⟨⟩

/-- A gather's wait for one row. -/
def awaitP (oc : Fin 1 → ℕ) (hoc : ∀ a, oc a + S1.size a ≤ S2.size a)
    (o3 : Fin 3 → ℕ) (h3 : ∀ a, o3 a + S1x256x2048.size a ≤ S2x256x2048.size a)
    (o2 : Fin 2 → ℕ) (h2 : ∀ a, o2 a + S1x2048.size a ≤ S256x2048.size a) : Prog (TpuEff nD τ sig (Elt F) Λ₀ .tc) Unit :=
  .op (.waitDma2 (cellM oc hoc).sem (srcM ![0, 0] inb_S9216x2048_S1x2048_0_0) (rowM o3 h3 o2 h2) (View.wordExact_bits rfl) (View.wordExact_bits rfl)) fun _ =>
    .ret ⟨⟩

/-- The one element of a word rectangle of the row table at offset `j` is the table's word `j`. -/
theorem srcWord_read (c : Dev nD) (fs : SrcBuf F c) (j : ℕ) (hj : j < 22528) (h) :
    ((Memref.whole main_arg2).access (Rect.unit (s := S22528) ![j] S1.size h)).read (Elt F) fs (Shape.Idx.first (numel1_S1.symm ▸ Nat.one_pos))
      = srcW c fs j := by
  unfold srcW
  show fs _ = fs _
  refine congrArg fs ?_
  funext a; match a with
  | ⟨0, _⟩ => apply Fin.ext; show j + 1 * 0 = min j 22527; omega

/-- A landed row agrees with the gathered tile on its elements. -/
theorem landed_row (c : Dev nD) (fs : SrcBuf F c) (fh : HBuf F c) (s u r : ℕ) (hs : s < 2) (hr : r < 256) (h3 h2)
    (w : BitVec 32) (hlt : w.toNat < 9216) (hw : w = srcW c fs (u * 256 + r)) (g : RingBuf F c)
    (o : Fin 2 → ℕ) (ho : o = ![w.toNat, 0]) (hh : ∀ a, o a + S1x2048.size a ≤ S9216x2048.size a) (i : S2x256x2048.Idx) (hi : i ∈ rowSet s r) :
    (rowM ![s, 0, 0] h3 ![r, 0] h2).view.write (Elt F) g (ReadAs.same.apply ((srcM o hh).view.read (Elt F) fh)) Finset.univ i = gat c fs fh u i := by
  subst ho
  rw [← rowM_set s r hs hr h3 h2] at hi
  obtain ⟨y, -, rfl⟩ := Finset.mem_map.mp hi
  refine (View.write_emb_of_mem _ _ (Finset.mem_univ y)).trans ?_
  have h1 : fh ((srcM ![w.toNat, 0] hh).view.emb y) = fh (ix2 (n0 := 9216) (n1 := 2048) ⟨w.toNat, hlt⟩ (y 1)) := congrArg fh (srcM_emb _ hlt hh y)
  have h2 : gat c fs fh u ((rowM ![s, 0, 0] h3 ![r, 0] h2).view.emb y) = gat c fs fh u (ix3 (n0 := 2) (n1 := 256) (n2 := 2048) ⟨s, hs⟩ ⟨r, hr⟩ (y 1)) :=
    congrArg (gat c fs fh u) (rowM_emb s r hs hr h3 h2 y)
  refine Eq.trans ?_ h2.symm
  refine h1.trans ?_
  show fh _ = fh _
  have hsr : srcRow c fs (u * 256 + r) = ⟨w.toNat, hlt⟩ := by
    subst hw; unfold srcRow; apply Fin.ext; exact Nat.min_eq_left (Nat.le_of_lt_succ hlt)
  exact congrArg fh (congrArg (fun j => ix2 (n0 := 9216) (n1 := 2048) j (y 1)) hsr.symm)

/-- One row's transfer started: the token lends the source row, the batch has one more transfer issued. -/
theorem wp_issue (c : Dev nD) (fs : SrcBuf F c) (fh : HBuf F c) (s u r : ℕ) (hs : s < 2) (hr : r < 256) (hj : u * 256 + r < 22528)
    (sem : DmaSem sig) (q : PosShare TreeShare) (g : RingBuf F c)
    {oi hoi} {chk : BitVec 32 → Prop} {dec oh hoh oc hoc o3 h3 o2 h2}
    (eoi : oi = ![u * 256 + r]) (ehc : (cellM oc hoc).sem = sem) (eo3 : o3 = ![s, 0, 0]) (eo2 : o2 = ![r, 0]) (eoh : ∀ v, oh v = ![v.toNat, 0])
    (hlt : (srcW c fs (u * 256 + r)).toNat < 9216) (hchk : chk (srcW c fs (u * 256 + r))) :
    iprop(((c : Thread nD τ).loc main_arg2 ↦{q} fs) ∗ ((c : Thread nD τ).loc cc0_scratch0 ↦[rowSet s r]{fullShare} g) ∗ htok c fh r
        ∗ flight c fs fh s u sem r 0)
      ⊢ wp frame (wpE (defs₀ (F := F)) Variants.none (c : Thread nD τ) none) Set.univ (issueP (F := F) oi hoi chk dec oh hoh oc hoc o3 h3 o2 h2)
          (fun _ => iprop(((c : Thread nD τ).loc main_arg2 ↦{q} fs) ∗ kept c fs fh u r ∗ flight c fs fh s u sem (r + 1) 0)) := by
  subst eoi eo3 eo2 ehc
  unfold issueP htok kept
  iintro ⟨HT, HR, Hh, HB⟩
  iapply (wp_smemLoadElt Variants.none (c : Thread nD τ) none Set.univ (m := Memref.whole main_arg2) (S := Finset.univ) (q := q) (f := fs) (Finset.subset_univ _)) $$ [HT]
  · iexact HT
  iintro HT
  rw [srcWord_read c fs _ hj]
  iapply (wp_assume Variants.none (c : Thread nD τ) none Set.univ hchk)
  have hsr : srcRow c fs (u * 256 + r) = ⟨(srcW c fs (u * 256 + r)).toNat, hlt⟩ := by
    unfold srcRow; apply Fin.ext; exact Nat.min_eq_left (Nat.le_of_lt_succ hlt)
  have hset : (srcM (oh (srcW c fs (u * 256 + r))) (hoh _ hchk)).view.set = hrow (srcRow c fs (u * 256 + r)) := by
    rw [hsr]; generalize hoh _ hchk = hh; revert hh; rw [eoh]; intro hh; exact srcM_set _ hlt hh
  ihave Hs := (pointsTo_split_subset (Finset.subset_univ (hrow (srcRow c fs (u * 256 + r))))).1 $$ Hh
  icases Hs with ⟨Hs, Hk⟩
  iapply (Transfers.wp_dmaBatch (countersEmb (U := Pipeline.UD sig nD τ)) Variants.none (c : Thread nD τ) none
    (src := srcM (oh (srcW c fs (u * 256 + r))) (hoh _ hchk)) (dst := rowM ![s, 0, 0] h3 ![r, 0] h2) () rowN rfl (Sd := rowSet s r) (by rw [rowM_set s r hs hr])
    (D := deliv c fs fh s u) (j := r) (u := 0) (q := tokS r) (fs := fh) (fd := g) hr (Nat.zero_le _) ?_) $$ [Hs HR HB]
  · unfold deliv
    rw [hset]
    refine sep_mono (Entails.of_eq (pointsTo_congr fun i hi => ?_)) .rfl
    exact landed_row c fs fh s u r hs hr h3 h2 (srcW c fs (u * 256 + r)) hlt rfl g _ (eoh _) _ i hi
  · isplitl [Hs]; · rw [hset]; iexact Hs
    isplitl [HR]; · iexact HR
    iexact HB
  iintro HB
  sl_step
  isplitl [HT]; · iexact HT
  isplitl [Hk]; · iexact Hk
  iexact HB

/-- One row's wait: one row's units consumed of the tile's transfers. -/
theorem wp_await (c : Dev nD) (fs : SrcBuf F c) (fh : HBuf F c) (s u r : ℕ) (hr : r < 256) (sem : DmaSem sig)
    {oc hoc o3 h3 o2 h2} (ehc : (cellM oc hoc).sem = sem) (W : Waits sig Unit) :
    iprop(flight c fs fh s u sem 256 (rowN * r) ∗ owes (c : Thread nD τ) 0 W)
      ⊢ wp frame (wpE (defs₀ (F := F)) Variants.none (c : Thread nD τ) none) Set.univ (awaitP (F := F) oc hoc o3 h3 o2 h2)
          (fun _ => iprop(∃ W' : Waits sig Unit, flight c fs fh s u sem 256 (rowN * (r + 1)) ∗ owes (c : Thread nD τ) 0 W')) := by
  subst ehc
  unfold awaitP
  iintro ⟨HB, HO⟩
  iapply (Transfers.wp_waitBatchMul (countersEmb (U := Pipeline.UD sig nD τ)) Variants.none (c : Thread nD τ) none
    (srcw := srcM ![0, 0] inb_S9216x2048_S1x2048_0_0) (dstw := rowM o3 h3 o2 h2) () (N := rowN) 1 (by rw [Nat.one_mul])
    (D := deliv c fs fh s u) (j := 256) (u := rowN * r) (by rw [Nat.one_mul, ← Nat.mul_succ]; exact Nat.mul_le_mul_left _ hr)) $$ [HB HO]
  · isplitl [HB]; · iexact HB
    iexact HO
  iintro ⟨HB, HO⟩
  sl_step
  iexists _
  rw [Nat.mul_succ, Nat.one_mul]
  isplitl [HB]; · iexact HB
  iexact HO

/-! ## Whole tiles -/

/-- A tile's gather with its first `j` rows issued: the table, the transfers, what each issued row left behind, and each
    row not issued yet with its token. -/
def iss (c : Dev nD) (fs : SrcBuf F c) (fh : HBuf F c) (s u : ℕ) (sem : DmaSem sig) (q : PosShare TreeShare) (g : RingBuf F c) (j : ℕ) : sProp 𝕄 :=
  iprop(((c : Thread nD τ).loc main_arg2 ↦{q} fs) ∗ flight c fs fh s u sem j 0 ∗ bigSep (Finset.range j) (kept c fs fh u)
    ∗ bigSep (Finset.Ico j 256) (fun r => iprop(((c : Thread nD τ).loc cc0_scratch0 ↦[rowSet s r]{fullShare} g) ∗ htok c fh r)))

/-- One more row of a tile issued. -/
theorem iss_step (c : Dev nD) (fs : SrcBuf F c) (fh : HBuf F c) (s u r : ℕ) (hs : s < 2) (hr : r < 256) (hj : u * 256 + r < 22528)
    (sem : DmaSem sig) (q : PosShare TreeShare) (g : RingBuf F c)
    {oi hoi} {chk : BitVec 32 → Prop} {dec oh hoh oc hoc o3 h3 o2 h2}
    (eoi : oi = ![u * 256 + r]) (ehc : (cellM oc hoc).sem = sem) (eo3 : o3 = ![s, 0, 0]) (eo2 : o2 = ![r, 0]) (eoh : ∀ v, oh v = ![v.toNat, 0])
    (hlt : (srcW c fs (u * 256 + r)).toNat < 9216) (hchk : chk (srcW c fs (u * 256 + r))) :
    iss c fs fh s u sem q g r
      ⊢ wp frame (wpE (defs₀ (F := F)) Variants.none (c : Thread nD τ) none) Set.univ (issueP (F := F) oi hoi chk dec oh hoh oc hoc o3 h3 o2 h2)
          (fun _ => iss c fs fh s u sem q g (r + 1)) := by
  have hI : bigSep (Finset.Ico r 256) (fun r => iprop(((c : Thread nD τ).loc cc0_scratch0 ↦[rowSet s r]{fullShare} g) ∗ htok c fh r))
      = iprop((((c : Thread nD τ).loc cc0_scratch0 ↦[rowSet s r]{fullShare} g) ∗ htok c fh r)
          ∗ bigSep (Finset.Ico (r + 1) 256) (fun r => iprop(((c : Thread nD τ).loc cc0_scratch0 ↦[rowSet s r]{fullShare} g) ∗ htok c fh r))) := by
    rw [show Finset.Ico r 256 = insert r (Finset.Ico (r + 1) 256) from by ext x; simp only [Finset.mem_Ico, Finset.mem_insert]; omega, bigSep_insert (by simp)]; rfl
  have hR : bigSep (Finset.range (r + 1)) (kept c fs fh u) = iprop(kept c fs fh u r ∗ bigSep (Finset.range r) (kept c fs fh u)) := by
    rw [Finset.range_add_one, bigSep_insert (by simp)]; rfl
  unfold iss
  rw [hI, hR]
  iintro ⟨HT, HB, HK, ⟨HR, Hh⟩, HI⟩
  iapply (wp_wand_r _ _ _)
  isplitl [HT HB HR Hh]
  · iapply (wp_issue c fs fh s u r hs hr hj sem q g eoi ehc eo3 eo2 eoh hlt hchk)
    isplitl [HT]; · iexact HT
    isplitl [HR]; · iexact HR
    isplitl [Hh]; · iexact Hh
    iexact HB
  iintro %_ ⟨HT, Hk, HB⟩
  isplitl [HT]; · iexact HT
  isplitl [HB]; · iexact HB
  isplitl [Hk HK]
  · isplitl [Hk]; · iexact Hk
    iexact HK
  iexact HI

/-- Two families conjoined, member by member. -/
theorem bigSep_pair {I : Type} (S : Finset I) (Φ Ψ : I → sProp 𝕄) : bigSep S (fun i => iprop(Φ i ∗ Ψ i)) = iprop(bigSep S Φ ∗ bigSep S Ψ) := bigSep_sep S Φ Ψ

/-- A sum over `Fin 256` read as a sum over the numbers below 256. -/
theorem bigSep_fin256 (Φ : ℕ → sProp 𝕄) : bigSep Finset.univ (fun r : Fin 256 => Φ r.val) = bigSep (Finset.range 256) Φ := by
  rw [← Nat.Iio_eq_range, ← Fin.map_valEmbedding_univ, bigSep_map]; rfl

/-- A tile's gather begun: the token array split into tokens, the slot into rows, the completion cell handed to the transfers. -/
theorem iss_begin (c : Dev nD) (fs : SrcBuf F c) (fh : HBuf F c) (s u : ℕ) (sem : DmaSem sig) (q : PosShare TreeShare) (g : RingBuf F c) :
    iprop(((c : Thread nD τ).loc main_arg2 ↦{q} fs) ∗ ((c : Thread nD τ).loc main_arg0 ↦{fullShare} fh)
        ∗ ((c : Thread nD τ).loc cc0_scratch0 ↦[slabSet s]{fullShare} g) ∗ semVal ((c : Thread nD τ), .dma sem) 0)
      ⊢ (|={Set.univ}=> iprop(((c : Thread nD τ).loc main_arg0 ↦{Transfers.shareDrop fullShare 256} fh) ∗ iss c fs fh s u sem q g 0) : sProp 𝕄) := by
  unfold iss
  rw [Finset.range_zero, bigSep_empty, ← Finset.range_eq_Ico, bigSep_pair,
    ← bigSep_fin256 (fun r => ((c : Thread nD τ).loc cc0_scratch0 ↦[rowSet s r]{fullShare} g)),
    ← Ring.pointsTo_sub_blocks (ℓ := (c : Thread nD τ).loc cc0_scratch0) (fun r : Fin 256 => rowSet s r) (fun r r' h => rowSet_disjoint s r r' h) (slabSet s) (rowSet_union s) g]
  iintro ⟨HT, Hh, HR, HS⟩
  ihave Hs := (Transfers.pointsTo_toks_range fullShare 256).1 $$ Hh
  icases Hs with ⟨Hd, Ht⟩
  imod (Transfers.batch_alloc' (Lvl := ℕ) (countersEmb (U := Pipeline.UD sig nD τ)) (c : Thread nD τ) () rowN (deliv c fs fh s u) (sm := .dma sem) (E := Set.univ)) $$ HS with HB
  imodintro
  isplitl [Hd]; · iexact Hd
  isplitl [HT]; · iexact HT
  isplitl [HB]; · iexact HB
  isplitr; · iempintro
  isplitl [HR]; · iexact HR
  iexact Ht

/-- A tile in flight, every row issued. -/
def fly (c : Dev nD) (fs : SrcBuf F c) (fh : HBuf F c) (s u : ℕ) (sem : DmaSem sig) : sProp 𝕄 :=
  iprop(((c : Thread nD τ).loc main_arg0 ↦{Transfers.shareDrop fullShare 256} fh) ∗ flight c fs fh s u sem 256 0 ∗ bigSep (Finset.range 256) (kept c fs fh u))

/-- A tile's gather issued to the end is in flight. -/
theorem iss_end (c : Dev nD) (fs : SrcBuf F c) (fh : HBuf F c) (s u : ℕ) (sem : DmaSem sig) (q : PosShare TreeShare) (g : RingBuf F c) :
    iprop(((c : Thread nD τ).loc main_arg0 ↦{Transfers.shareDrop fullShare 256} fh) ∗ iss c fs fh s u sem q g 256)
      ⊢ (iprop(((c : Thread nD τ).loc main_arg2 ↦{q} fs) ∗ fly c fs fh s u sem) : sProp 𝕄) := by
  unfold iss fly
  iintro ⟨Hd, HT, HB, HK, -⟩
  isplitl [HT]; · iexact HT
  isplitl [Hd]; · iexact Hd
  isplitl [HB]; · iexact HB
  iexact HK

/-- Every row waited for: the slot holds the tile's rows, the token array and the completion cell are back. -/
theorem fly_collect (c : Dev nD) (fs : SrcBuf F c) (fh : HBuf F c) (s u : ℕ) (sem : DmaSem sig) :
    iprop(((c : Thread nD τ).loc main_arg0 ↦{Transfers.shareDrop fullShare 256} fh) ∗ flight c fs fh s u sem 256 (rowN * 256)
        ∗ bigSep (Finset.range 256) (kept c fs fh u))
      ⊢ (|={Set.univ}=> iprop(((c : Thread nD τ).loc main_arg0 ↦{fullShare} fh) ∗ ((c : Thread nD τ).loc cc0_scratch0 ↦[slabSet s]{fullShare} gat c fs fh u)
          ∗ semVal ((c : Thread nD τ), .dma sem) 0) : sProp 𝕄) := by
  iintro ⟨Hd, HB, HK⟩
  imod (Transfers.batch_collect' (countersEmb (U := Pipeline.UD sig nD τ)) (c : Thread nD τ) (sm := .dma sem) (ι := ()) (N := rowN) (by decide) (D := deliv c fs fh s u)) $$ HB with ⟨HD, HS⟩
  imodintro
  have hD : (bigSep Finset.univ (deliv c fs fh s u) : sProp 𝕄)
      = iprop(((c : Thread nD τ).loc cc0_scratch0 ↦[slabSet s]{fullShare} gat c fs fh u)
        ∗ bigSep (Finset.range 256) (fun r => ((c : Thread nD τ).loc main_arg0 ↦[hrow (srcRow c fs (u * 256 + r))]{tokS r} fh))) := by
    unfold deliv
    rw [bigSep_pair, ← bigSep_fin256 (fun r => ((c : Thread nD τ).loc main_arg0 ↦[hrow (srcRow c fs (u * 256 + r))]{tokS r} fh)),
      ← Ring.pointsTo_sub_blocks (ℓ := (c : Thread nD τ).loc cc0_scratch0) (fun r : Fin 256 => rowSet s r) (fun r r' h => rowSet_disjoint s r r' h) (slabSet s) (rowSet_union s)]
  ihave HD := (Entails.of_eq hD) $$ HD
  icases HD with ⟨HR, HH⟩
  have hT : (iprop(bigSep (Finset.range 256) (fun r => ((c : Thread nD τ).loc main_arg0 ↦[hrow (srcRow c fs (u * 256 + r))]{tokS r} fh))
      ∗ bigSep (Finset.range 256) (kept c fs fh u)) : sProp 𝕄) ⊢ bigSep (Finset.range 256) (fun r => ((c : Thread nD τ).loc main_arg0 ↦{tokS r} fh)) := by
    rw [← bigSep_pair]
    exact bigSep_mono fun r _ => (pointsTo_split_subset (Finset.subset_univ (hrow (srcRow c fs (u * 256 + r))))).2
  ihave Ht := hT $$ [HH HK]
  · isplitl [HH]; · iexact HH
    iexact HK
  isplitl [Hd Ht]
  · iapply (Transfers.pointsTo_toks_range fullShare 256).2
    isplitl [Hd]; · iexact Hd
    iexact Ht
  isplitl [HR]; · iexact HR
  iexact HS

end Cert.KernelIdeal.Gen

end
-- ==== Proof.Offsets.lean ====
module

public import proofs.«01_k».proof.Proof.Gather

@[expose] public section

set_option maxRecDepth 16384

noncomputable section

namespace Cert.KernelIdeal.Gen

open Idealize.ShloMosaic Idealize.ShloMosaic.TcCoe

/-- The tile gathered while tile `t` is computed: the next one, and after the last the first. -/
def nx (t : ℕ) : ℕ := if t + 1 < 88 then t + 1 else 0

theorem nx_lt (t : ℕ) : nx t < 88 := by unfold nx; split <;> omega

theorem lt88 (i : grid0.Coords) : (i 0).val < 88 := (i 0).isLt

/-! ## The kernel's slots, cells and rows, in closed form -/

theorem off5_eq : ∀ i : grid0.Coords, k0_off5 i = ![(i 0).val % 2] := by decide +kernel
theorem off6_eq : ∀ i : grid0.Coords, k0_off6 i = ![(i 0).val % 2, 0, 0] := by decide +kernel
theorem off9_eq : ∀ i : grid0.Coords, k0_off9 i = ![(i 0).val - 1] := by decide +kernel
theorem off10_eq : ∀ i : grid0.Coords, k0_off10 i = ![(i 0).val % 2, 0, 0] := by decide +kernel
theorem off12_eq : ∀ i : grid0.Coords, k0_off12 i = ![((i 0).val + 1) % 2] := by decide +kernel
theorem off13_eq : ∀ i : grid0.Coords, k0_off13 i = ![((i 0).val + 1) % 2, 0, 0] := by decide +kernel
theorem off17_eq : ∀ i : grid0.Coords, k0_off17 i = ![((i 0).val + 1) % 2] := by decide +kernel
theorem off18_eq : ∀ i : grid0.Coords, k0_off18 i = ![((i 0).val + 1) % 2, 0, 0] := by decide +kernel
theorem off22_eq : ∀ i : grid0.Coords, k0_off22 i = ![((i 0).val + 1) % 2] := by decide +kernel
theorem off23_eq : ∀ i : grid0.Coords, k0_off23 i = ![((i 0).val + 1) % 2, 0, 0] := by decide +kernel
theorem off26_eq : ∀ i : grid0.Coords, k0_off26 i = ![((i 0).val + 1) % 2] := by decide +kernel
theorem off27_eq : ∀ i : grid0.Coords, k0_off27 i = ![((i 0).val + 1) % 2, 0, 0] := by decide +kernel

theorem off11_eq (i : grid0.Coords) (k : Fin k0_t3_loop.trips) : k0_off11 i k = ![nx (i 0).val * 256 + k.val] := by
  rw [k0_off11_eq, Nat.mul_comm]; rfl
theorem off16_eq (i : grid0.Coords) (k : Fin k0_t4_loop.trips) : k0_off16 i k = ![nx (i 0).val * 256 + (k.val + 128)] := by
  rw [k0_off16_eq, Nat.mul_comm, Nat.add_assoc]; rfl
theorem off21_eq (i : grid0.Coords) (k : Fin k0_t5_loop.trips) : k0_off21 i k = ![nx (i 0).val * 256 + k.val] := by
  rw [k0_off21_eq, Nat.mul_comm]; rfl
theorem off2_eq (k : Fin k0_t1_loop.trips) : k0_off2 k = ![0 * 256 + k.val] := by
  rw [k0_off2_eq, Nat.zero_mul, Nat.zero_add]

theorem trips1 : k0_t1_loop.trips = 256 := by decide +kernel
theorem trips2 : k0_t2_loop.trips = 256 := by decide +kernel
theorem trips3 : k0_t3_loop.trips = 128 := by decide +kernel
theorem trips4 : k0_t4_loop.trips = 128 := by decide +kernel
theorem trips5 : k0_t5_loop.trips = 256 := by decide +kernel
theorem trips6 : k0_t6_loop.trips = 256 := by decide +kernel

/-! ## The kernel's conditions -/

theorem cond1_iff : ∀ i : grid0.Coords, k0_cond1 i = 1#1 ↔ (i 0).val = 0 := by decide +kernel
theorem cond5_iff : ∀ i : grid0.Coords, k0_cond5 i = 1#1 ↔ (i 0).val = 87 := by decide +kernel

/-- Tile `t` is one of the first `v` tiles. -/
def live (t : ℕ) (v : BitVec 32) : Prop := (t : ℤ) < v.toInt

theorem toInt_ofNat (t : ℕ) (h : t < 88) : (BitVec.ofNat 32 t).toInt = (t : ℤ) := by
  rw [BitVec.toInt_eq_toNat_cond, BitVec.toNat_ofNat, Nat.mod_eq_of_lt (by omega), if_pos (by omega)]

theorem ne_zero_ext : ∀ b : BitVec 1, Scalar.cmpi .ne (Scalar.extui b : BitVec 32) 0#32 = b := by decide

theorem cond2_iff (i : grid0.Coords) (v : BitVec 32) : k0_cond2 i v = 1#1 ↔ live (i 0).val v := by
  have h := toInt_ofNat _ (lt88 i)
  show Scalar.cmpi .ne (Scalar.extui (Scalar.cmpi .slt (BitVec.ofNat 32 (i 0).val) v) : BitVec 32) 0#32 = 1#1 ↔ _
  rw [ne_zero_ext]
  unfold live
  simp only [Scalar.cmpi, IntOp.cmpi, BitVec.slt, h]
  by_cases hc : ((i 0).val : ℤ) < v.toInt <;> simp [hc]

theorem cond4_iff (i : grid0.Coords) (v : BitVec 32) : k0_cond4 i v = 1#1 ↔ ¬ live (i 0).val v := by
  have h := toInt_ofNat _ (lt88 i)
  show Scalar.cmpi .ne (Scalar.extui (Scalar.cmpi .sge (BitVec.ofNat 32 (i 0).val) v) : BitVec 32) 0#32 = 1#1 ↔ _
  rw [ne_zero_ext]
  unfold live
  simp only [Scalar.cmpi, IntOp.cmpi, BitVec.sle, h]
  by_cases hc : ((i 0).val : ℤ) < v.toInt
  · have : ¬ v.toInt ≤ ((i 0).val : ℤ) := by omega
    rw [decide_eq_false this]; simp [hc]
  · have : v.toInt ≤ ((i 0).val : ℤ) := by omega
    rw [decide_eq_true this]; simp [hc]

theorem live_mono {t t' : ℕ} {v : BitVec 32} (h : t' ≤ t) (hl : live t v) : live t' v := by
  unfold live at *; omega

end Cert.KernelIdeal.Gen

end
-- ==== Proof.Loops.lean ====
module

public import proofs.«01_k».proof.Proof.Offsets

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The completion cell of slot `s`. -/
def semS (s : ℕ) : DmaSem sig := (cellM ![s % 2] (fun a => by
  match a with | ⟨0, _⟩ => show s % 2 + 1 ≤ 2; omega)).sem

/-- The cell the body reaches at offset `s` is slot `s`'s. -/
theorem cell_sem (s : ℕ) (hs : s < 2) (o : Fin 1 → ℕ) (ho : o = ![s]) (h) : (cellM o h).sem = semS s := by
  subst ho; unfold semS
  have e : s % 2 = s := Nat.mod_eq_of_lt hs
  congr 2
  simp only [e]

/-- A source row within the token array passes the kernel's side condition. -/
theorem row_fits (w : BitVec 32) (h : w.toNat < 9216) : ∀ a : Fin 2, (![w.toNat, 0] : Fin 2 → ℕ) a + S1x2048.size a ≤ S9216x2048.size a := by
  intro a; match a with
  | ⟨0, _⟩ => show w.toNat + 1 ≤ 9216; omega
  | ⟨1, _⟩ => show 0 + 2048 ≤ 2048; omega

variable (i : grid0.Coords) (arg5 : Memref sig .tc .vmem S1x1x2048x512 .f32) (harg5 : arg5.IsWhole)
  (arg6 : Memref sig .tc .vmem S1x1x2048x512 .f32) (harg6 : arg6.IsWhole) (arg7 : Memref sig .tc .vmem S1x1x512x2048 .f32) (harg7 : arg7.IsWhole)
  (arg8 : Memref sig .tc .vmem S256x2048 .f32) (harg8 : arg8.IsWhole)

/-- A counted loop each of whose trips takes the invariant one further. -/
theorem wp_steps (c : Dev nD) (L : Scf.Loop 32) (ok) (body : Fin L.trips → Unit → Prog (TpuEff nD τ sig (Elt F) Λ₀ .tc) Unit) (I : ℕ → sProp 𝕄)
    (hb : ∀ k : Fin L.trips, I k.val ⊢ wp frame (wpE (defs₀ (F := F)) Variants.none (c : Thread nD τ) none) Set.univ (body k ⟨⟩) (fun _ => I (k.val + 1))) :
    I 0 ⊢ wp frame (wpE (defs₀ (F := F)) Variants.none (c : Thread nD τ) none) Set.univ (Scf.Loop.for L ok ⟨⟩ body) (fun _ => I L.trips) := by
  iintro H
  iapply (Scf.wp_for frame (wpE (defs₀ (F := F)) Variants.none (c : Thread nD τ) none) Set.univ L.lb L.ub L.st ok ⟨⟩ body (fun k _ => I k) (fun k _ => hb k))
  isplitl [H]; · iexact H
  iintro %_ H
  iexact H

/-- The first tile's rows started, at the first point. -/
theorem wp_t1 (c : Dev nD) (fs : SrcBuf F c) (fh : HBuf F c) (hsrc : ∀ j < 22528, (srcW c fs j).toNat < 9216) (q : PosShare TreeShare) (g : RingBuf F c) (h1 : k0_cond1 i = 1#1) :
    iss c fs fh (0) (0) (semS (0)) q g 0
      ⊢ wp frame (wpE (defs₀ (F := F)) Variants.none (c : Thread nD τ) none) Set.univ (Scf.Loop.for k0_t1_loop (k0_t1_ok i h1) ⟨⟩ (k0_t1_body (F := F) i (Memref.whole main_arg1) (Memref.isWhole_whole _) (Memref.whole main_arg2) (Memref.isWhole_whole _) (Memref.whole main_arg3) (Memref.isWhole_whole _) (Memref.whole main_arg0) (Memref.isWhole_whole _) arg5 harg5 arg6 harg6 arg7 harg7 arg8 harg8 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 h1)) (fun _ => iss c fs fh (0) (0) (semS (0)) q g (0 + k0_t1_loop.trips)) := by
  have hu : (0) < 88 := by first | exact nx_lt _ | decide
  have hs : (0) < 2 := by omega
  refine wp_steps (F := F) c k0_t1_loop (k0_t1_ok i h1) _ (fun k => iss c fs fh (0) (0) (semS (0)) q g (0 + k)) (fun k => ?_)
  have hk : k.val < 256 := lt_of_lt_of_eq k.isLt trips1
  refine iss_step c fs fh (0) (0) (0 + k.val) hs (by omega) (by omega) (semS (0)) q g (hoh := fun v hw => k0_off4_inb i v hw h1)
    (by rw [off2_eq]; congr 1; omega) (cell_sem (0) hs _ rfl _) rfl (by rw [k0_off3_eq]; congr 1; omega) (fun v => rfl) (hsrc _ (by omega)) ?_
  exact fun _ => row_fits _ (hsrc _ (by omega))

/-- The next tile's first half started, in the midst of a live tile. -/
theorem wp_t3 (c : Dev nD) (fs : SrcBuf F c) (fh : HBuf F c) (hsrc : ∀ j < 22528, (srcW c fs j).toNat < 9216) (q : PosShare TreeShare) (g : RingBuf F c) (arg0 v0 v10 v25 : BitVec 32) (h2 : k0_cond2 i v0 = 1#1) :
    iss c fs fh (((i 0).val + 1) % 2) (nx (i 0).val) (semS (((i 0).val + 1) % 2)) q g 0
      ⊢ wp frame (wpE (defs₀ (F := F)) Variants.none (c : Thread nD τ) none) Set.univ (Scf.Loop.for k0_t3_loop k0_t3_ok ⟨⟩ (k0_t3_body (F := F) i (Memref.whole main_arg1) (Memref.isWhole_whole _) (Memref.whole main_arg2) (Memref.isWhole_whole _) (Memref.whole main_arg3) (Memref.isWhole_whole _) (Memref.whole main_arg0) (Memref.isWhole_whole _) arg5 harg5 arg6 harg6 arg7 harg7 arg8 harg8 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 arg0 v0 v10 v25 h2)) (fun _ => iss c fs fh (((i 0).val + 1) % 2) (nx (i 0).val) (semS (((i 0).val + 1) % 2)) q g (0 + k0_t3_loop.trips)) := by
  have hu : (nx (i 0).val) < 88 := by first | exact nx_lt _ | decide
  have hs : (((i 0).val + 1) % 2) < 2 := by omega
  refine wp_steps (F := F) c k0_t3_loop k0_t3_ok _ (fun k => iss c fs fh (((i 0).val + 1) % 2) (nx (i 0).val) (semS (((i 0).val + 1) % 2)) q g (0 + k)) (fun k => ?_)
  have hk : k.val < 128 := lt_of_lt_of_eq k.isLt trips3
  refine iss_step c fs fh (((i 0).val + 1) % 2) (nx (i 0).val) (0 + k.val) hs (by omega) (by omega) (semS (((i 0).val + 1) % 2)) q g (hoh := fun v hw => k0_off15_inb i v0 v hw h2)
    (by rw [off11_eq]; congr 1; omega) (cell_sem (((i 0).val + 1) % 2) hs _ (off12_eq i) _) (off13_eq i) (by rw [k0_off14_eq]; congr 1; omega) (fun v => rfl) (hsrc _ (by omega)) ?_
  exact fun _ => row_fits _ (hsrc _ (by omega))

/-- Its second half. -/
theorem wp_t4 (c : Dev nD) (fs : SrcBuf F c) (fh : HBuf F c) (hsrc : ∀ j < 22528, (srcW c fs j).toNat < 9216) (q : PosShare TreeShare) (g : RingBuf F c) (arg0 v0 v10 v25 : BitVec 32) (h2 : k0_cond2 i v0 = 1#1) :
    iss c fs fh (((i 0).val + 1) % 2) (nx (i 0).val) (semS (((i 0).val + 1) % 2)) q g 128
      ⊢ wp frame (wpE (defs₀ (F := F)) Variants.none (c : Thread nD τ) none) Set.univ (Scf.Loop.for k0_t4_loop k0_t4_ok ⟨⟩ (k0_t4_body (F := F) i (Memref.whole main_arg1) (Memref.isWhole_whole _) (Memref.whole main_arg2) (Memref.isWhole_whole _) (Memref.whole main_arg3) (Memref.isWhole_whole _) (Memref.whole main_arg0) (Memref.isWhole_whole _) arg5 harg5 arg6 harg6 arg7 harg7 arg8 harg8 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 arg0 v0 v10 v25 h2)) (fun _ => iss c fs fh (((i 0).val + 1) % 2) (nx (i 0).val) (semS (((i 0).val + 1) % 2)) q g (128 + k0_t4_loop.trips)) := by
  have hu : (nx (i 0).val) < 88 := by first | exact nx_lt _ | decide
  have hs : (((i 0).val + 1) % 2) < 2 := by omega
  refine wp_steps (F := F) c k0_t4_loop k0_t4_ok _ (fun k => iss c fs fh (((i 0).val + 1) % 2) (nx (i 0).val) (semS (((i 0).val + 1) % 2)) q g (128 + k)) (fun k => ?_)
  have hk : k.val < 128 := lt_of_lt_of_eq k.isLt trips4
  refine iss_step c fs fh (((i 0).val + 1) % 2) (nx (i 0).val) (128 + k.val) hs (by omega) (by omega) (semS (((i 0).val + 1) % 2)) q g (hoh := fun v hw => k0_off20_inb i v0 v hw h2)
    (by rw [off16_eq]; congr 1; omega) (cell_sem (((i 0).val + 1) % 2) hs _ (off17_eq i) _) (off18_eq i) (by rw [k0_off19_eq]; congr 1; omega) (fun v => rfl) (hsrc _ (by omega)) ?_
  exact fun _ => row_fits _ (hsrc _ (by omega))

/-- The next tile started, at a tile not in use. -/
theorem wp_t5 (c : Dev nD) (fs : SrcBuf F c) (fh : HBuf F c) (hsrc : ∀ j < 22528, (srcW c fs j).toNat < 9216) (q : PosShare TreeShare) (g : RingBuf F c) (v0 : BitVec 32) (h4 : k0_cond4 i v0 = 1#1) :
    iss c fs fh (((i 0).val + 1) % 2) (nx (i 0).val) (semS (((i 0).val + 1) % 2)) q g 0
      ⊢ wp frame (wpE (defs₀ (F := F)) Variants.none (c : Thread nD τ) none) Set.univ (Scf.Loop.for k0_t5_loop k0_t5_ok ⟨⟩ (k0_t5_body (F := F) i (Memref.whole main_arg1) (Memref.isWhole_whole _) (Memref.whole main_arg2) (Memref.isWhole_whole _) (Memref.whole main_arg3) (Memref.isWhole_whole _) (Memref.whole main_arg0) (Memref.isWhole_whole _) arg5 harg5 arg6 harg6 arg7 harg7 arg8 harg8 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 v0 h4)) (fun _ => iss c fs fh (((i 0).val + 1) % 2) (nx (i 0).val) (semS (((i 0).val + 1) % 2)) q g (0 + k0_t5_loop.trips)) := by
  have hu : (nx (i 0).val) < 88 := by first | exact nx_lt _ | decide
  have hs : (((i 0).val + 1) % 2) < 2 := by omega
  refine wp_steps (F := F) c k0_t5_loop k0_t5_ok _ (fun k => iss c fs fh (((i 0).val + 1) % 2) (nx (i 0).val) (semS (((i 0).val + 1) % 2)) q g (0 + k)) (fun k => ?_)
  have hk : k.val < 256 := lt_of_lt_of_eq k.isLt trips5
  refine iss_step c fs fh (((i 0).val + 1) % 2) (nx (i 0).val) (0 + k.val) hs (by omega) (by omega) (semS (((i 0).val + 1) % 2)) q g (hoh := fun v hw => k0_off25_inb i v0 v hw h4)
    (by rw [off21_eq]; congr 1; omega) (cell_sem (((i 0).val + 1) % 2) hs _ (off22_eq i) _) (off23_eq i) (by rw [k0_off24_eq]; congr 1; omega) (fun v => rfl) (hsrc _ (by omega)) ?_
  exact fun _ => row_fits _ (hsrc _ (by omega))

/-- A tile's rows waited for. -/
theorem wp_t2 (c : Dev nD) (fs : SrcBuf F c) (fh : HBuf F c) (u : ℕ) (W : Waits sig Unit)  :
    iprop(fly c fs fh ((i 0).val % 2) u (semS ((i 0).val % 2)) ∗ owes (c : Thread nD τ) 0 W)
      ⊢ wp frame (wpE (defs₀ (F := F)) Variants.none (c : Thread nD τ) none) Set.univ (Scf.Loop.for k0_t2_loop k0_t2_ok ⟨⟩ (k0_t2_body (F := F) i (Memref.whole main_arg1) (Memref.isWhole_whole _) (Memref.whole main_arg2) (Memref.isWhole_whole _) (Memref.whole main_arg3) (Memref.isWhole_whole _) (Memref.whole main_arg0) (Memref.isWhole_whole _) arg5 harg5 arg6 harg6 arg7 harg7 arg8 harg8 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 ))
          (fun _ => iprop(∃ W' : Waits sig Unit, ((c : Thread nD τ).loc main_arg0 ↦{fullShare} fh) ∗ ((c : Thread nD τ).loc cc0_scratch0 ↦[slabSet ((i 0).val % 2)]{fullShare} gat c fs fh u) ∗ semVal ((c : Thread nD τ), .dma (semS ((i 0).val % 2))) 0 ∗ owes (c : Thread nD τ) 0 W')) := by
  have hs : ((i 0).val % 2) < 2 := by omega
  have hl := wp_steps (F := F) c k0_t2_loop k0_t2_ok (k0_t2_body (F := F) i (Memref.whole main_arg1) (Memref.isWhole_whole _) (Memref.whole main_arg2) (Memref.isWhole_whole _) (Memref.whole main_arg3) (Memref.isWhole_whole _) (Memref.whole main_arg0) (Memref.isWhole_whole _) arg5 harg5 arg6 harg6 arg7 harg7 arg8 harg8 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 )
    (fun k => iprop(∃ W' : Waits sig Unit, flight c fs fh ((i 0).val % 2) u (semS ((i 0).val % 2)) 256 (rowN * k) ∗ owes (c : Thread nD τ) 0 W')) (fun k => by
      have hk : k.val < 256 := lt_of_lt_of_eq k.isLt trips2
      iintro ⟨%W', HB, HO⟩
      iapply (wp_await c fs fh ((i 0).val % 2) u k.val hk (semS ((i 0).val % 2)) (cell_sem ((i 0).val % 2) hs _ (off5_eq i) _) W')
      isplitl [HB]; · iexact HB
      iexact HO)
  unfold fly
  iintro ⟨⟨Hd, HB, HK⟩, HO⟩
  iapply (wp_fupd _ _ _)
  iapply (wp_wand_r _ _ _)
  isplitl [HB HO]
  · iapply hl
    iexists W
    isplitl [HB]; · iexact HB
    iexact HO
  rw [trips2]
  iintro %_ ⟨%W', HB, HO⟩
  imod (fly_collect c fs fh ((i 0).val % 2) u (semS ((i 0).val % 2))) $$ [Hd HB HK] with ⟨Hh, HR, HS⟩
  · isplitl [Hd]; · iexact Hd
    isplitl [HB]; · iexact HB
    iexact HK
  imodintro
  iexists W'
  isplitl [Hh]; · iexact Hh
  isplitl [HR]; · iexact HR
  isplitl [HS]; · iexact HS
  iexact HO

/-- The last gather waited for, at the last point. -/
theorem wp_t6 (c : Dev nD) (fs : SrcBuf F c) (fh : HBuf F c) (u : ℕ) (W : Waits sig Unit) (h5 : k0_cond5 i = 1#1) :
    iprop(fly c fs fh (((i 0).val + 1) % 2) u (semS (((i 0).val + 1) % 2)) ∗ owes (c : Thread nD τ) 0 W)
      ⊢ wp frame (wpE (defs₀ (F := F)) Variants.none (c : Thread nD τ) none) Set.univ (Scf.Loop.for k0_t6_loop (k0_t6_ok i h5) ⟨⟩ (k0_t6_body (F := F) i (Memref.whole main_arg1) (Memref.isWhole_whole _) (Memref.whole main_arg2) (Memref.isWhole_whole _) (Memref.whole main_arg3) (Memref.isWhole_whole _) (Memref.whole main_arg0) (Memref.isWhole_whole _) arg5 harg5 arg6 harg6 arg7 harg7 arg8 harg8 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 h5))
          (fun _ => iprop(∃ W' : Waits sig Unit, ((c : Thread nD τ).loc main_arg0 ↦{fullShare} fh) ∗ ((c : Thread nD τ).loc cc0_scratch0 ↦[slabSet (((i 0).val + 1) % 2)]{fullShare} gat c fs fh u) ∗ semVal ((c : Thread nD τ), .dma (semS (((i 0).val + 1) % 2))) 0 ∗ owes (c : Thread nD τ) 0 W')) := by
  have hs : (((i 0).val + 1) % 2) < 2 := by omega
  have hl := wp_steps (F := F) c k0_t6_loop (k0_t6_ok i h5) (k0_t6_body (F := F) i (Memref.whole main_arg1) (Memref.isWhole_whole _) (Memref.whole main_arg2) (Memref.isWhole_whole _) (Memref.whole main_arg3) (Memref.isWhole_whole _) (Memref.whole main_arg0) (Memref.isWhole_whole _) arg5 harg5 arg6 harg6 arg7 harg7 arg8 harg8 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 h5)
    (fun k => iprop(∃ W' : Waits sig Unit, flight c fs fh (((i 0).val + 1) % 2) u (semS (((i 0).val + 1) % 2)) 256 (rowN * k) ∗ owes (c : Thread nD τ) 0 W')) (fun k => by
      have hk : k.val < 256 := lt_of_lt_of_eq k.isLt trips6
      iintro ⟨%W', HB, HO⟩
      iapply (wp_await c fs fh (((i 0).val + 1) % 2) u k.val hk (semS (((i 0).val + 1) % 2)) (cell_sem (((i 0).val + 1) % 2) hs _ (off26_eq i) _) W')
      isplitl [HB]; · iexact HB
      iexact HO)
  unfold fly
  iintro ⟨⟨Hd, HB, HK⟩, HO⟩
  iapply (wp_fupd _ _ _)
  iapply (wp_wand_r _ _ _)
  isplitl [HB HO]
  · iapply hl
    iexists W
    isplitl [HB]; · iexact HB
    iexact HO
  rw [trips6]
  iintro %_ ⟨%W', HB, HO⟩
  imod (fly_collect c fs fh (((i 0).val + 1) % 2) u (semS (((i 0).val + 1) % 2))) $$ [Hd HB HK] with ⟨Hh, HR, HS⟩
  · isplitl [Hd]; · iexact Hd
    isplitl [HB]; · iexact HB
    iexact HK
  imodintro
  iexists W'
  isplitl [Hh]; · iexact Hh
  isplitl [HR]; · iexact HR
  isplitl [HS]; · iexact HS
  iexact HO

end Cert.KernelIdeal.Gen

end
-- ==== Proof.Head.lean ====
module

public import proofs.«01_k».proof.Proof.Loops

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix1 ix2 ix3 eq_ix1 eq_ix2 eq_ix3)

variable {F : FTy → Type} [FloatOps F]

local notation "𝕄" => MT nD τ sig Unit (Elt F) ℕ (Pipeline.UD sig nD τ) ℕ

variable (i : grid0.Coords) (arg5 : Memref sig .tc .vmem S1x1x2048x512 .f32) (harg5 : arg5.IsWhole)
  (arg6 : Memref sig .tc .vmem S1x1x2048x512 .f32) (harg6 : arg6.IsWhole) (arg7 : Memref sig .tc .vmem S1x1x512x2048 .f32) (harg7 : arg7.IsWhole)
  (arg8 : Memref sig .tc .vmem S256x2048 .f32) (harg8 : arg8.IsWhole)

/-- The contents of the expert table and of the count. -/
abbrev TeBuf (F : FTy → Type) [FloatOps F] (c : Dev nD) := Buf (Elt F) ((c : Thread nD τ).loc main_arg1)
abbrev NuBuf (F : FTy → Type) [FloatOps F] (c : Dev nD) := Buf (Elt F) ((c : Thread nD τ).loc main_arg3)

/-- How many tiles are in use. -/
def nuW (c : Dev nD) (fn : NuBuf F c) : BitVec 32 := fn (ix1 (n := 1) 0)

/-- The expert of tile `t`. -/
def teW (c : Dev nD) (ft : TeBuf F c) (t : ℕ) : BitVec 32 := ft (ix1 (n := 88) ⟨min t 87, by omega⟩)

/-- What the gather holds before point `t`: at either end of the run everything at rest, in between tile `t`'s rows in flight. -/
def ringAt (c : Dev nD) (fs : SrcBuf F c) (fh : HBuf F c) (t : ℕ) : sProp 𝕄 :=
  if t = 0 ∨ 88 ≤ t then
    iprop(((c : Thread nD τ).loc main_arg0 ↦{fullShare} fh) ∗ (∃ g : RingBuf F c, ((c : Thread nD τ).loc cc0_scratch0 ↦{fullShare} g)) ∗ semVal ((c : Thread nD τ), .dma (semS (0))) 0 ∗ semVal ((c : Thread nD τ), .dma (semS (1))) 0)
  else
    iprop(fly c fs fh (t % 2) t (semS (t % 2)) ∗ (∃ g : RingBuf F c, ((c : Thread nD τ).loc cc0_scratch0 ↦[slabSet ((t + 1) % 2)]{fullShare} g)) ∗ semVal ((c : Thread nD τ), .dma (semS ((t + 1) % 2))) 0)

/-- What it holds while tile `t` is computed, before the next tile's rows are started. -/
def midAt (c : Dev nD) (fs : SrcBuf F c) (fh : HBuf F c) (t : ℕ) : sProp 𝕄 :=
  iprop(((c : Thread nD τ).loc main_arg0 ↦{fullShare} fh) ∗ ((c : Thread nD τ).loc cc0_scratch0 ↦[slabSet (t % 2)]{fullShare} gat c fs fh t) ∗ (∃ g : RingBuf F c, ((c : Thread nD τ).loc cc0_scratch0 ↦[slabSet ((t + 1) % 2)]{fullShare} g)) ∗ semVal ((c : Thread nD τ), .dma (semS (t % 2))) 0 ∗ semVal ((c : Thread nD τ), .dma (semS ((t + 1) % 2))) 0)

/-- The ring's two slots are the ring. -/
theorem ring_slots (c : Dev nD) (g : RingBuf F c) :
    ((((c : Thread nD τ).loc cc0_scratch0 ↦{fullShare} g) : sProp 𝕄))
      = iprop(((c : Thread nD τ).loc cc0_scratch0 ↦[slabSet (0)]{fullShare} g) ∗ ((c : Thread nD τ).loc cc0_scratch0 ↦[slabSet (1)]{fullShare} g)) := by
  rw [← slabSet_union]
  exact (pointsTo_union (ℓ := (c : Thread nD τ).loc cc0_scratch0) (q := fullShare) (f := g) slabSet_disjoint).1.antisymm (pointsTo_union (ℓ := (c : Thread nD τ).loc cc0_scratch0) slabSet_disjoint).2

/-- The count read. -/
theorem nuWord_read (c : Dev nD) (fn : NuBuf F c) (h) :
    ((Memref.whole main_arg3).access (Rect.unit (s := S1) ![0] S1.size h)).read (Elt F) fn (Shape.Idx.first (numel1_S1.symm ▸ Nat.one_pos)) = nuW c fn := by
  unfold nuW
  show fn _ = fn _
  refine congrArg fn ?_
  funext a; match a with
  | ⟨0, _⟩ => rfl

/-- An expert read. -/
theorem teWord_read (c : Dev nD) (ft : TeBuf F c) (j : ℕ) (hj : j < 88) (o : Fin 1 → ℕ) (ho : o = ![j]) (h) :
    ((Memref.whole main_arg1).access (Rect.unit (s := S88) o S1.size h)).read (Elt F) ft (Shape.Idx.first (numel1_S1.symm ▸ Nat.one_pos)) = teW c ft j := by
  subst ho; unfold teW
  show ft _ = ft _
  refine congrArg ft ?_
  funext a; match a with
  | ⟨0, _⟩ => apply Fin.ext; show j + 1 * 0 = min j 87; omega

/-- The head of a point: the first tile's rows started at the first point, and the point's own tile waited for. -/
theorem wp_head (c : Dev nD) (fs : SrcBuf F c) (fh : HBuf F c) (hsrc : ∀ j < 22528, (srcW c fs j).toNat < 9216) (fn : NuBuf F c) (q q3 : PosShare TreeShare) (W : Waits sig Unit) :
    iprop(ringAt c fs fh (i 0).val ∗ ((c : Thread nD τ).loc main_arg2 ↦{q} fs) ∗ ((c : Thread nD τ).loc main_arg3 ↦{q3} fn) ∗ owes (c : Thread nD τ) 0 W)
      ⊢ wp frame (wpE (defs₀ (F := F)) Variants.none (c : Thread nD τ) none) Set.univ (k0_part2 (F := F) i (Memref.whole main_arg1) (Memref.isWhole_whole _) (Memref.whole main_arg2) (Memref.isWhole_whole _) (Memref.whole main_arg3) (Memref.isWhole_whole _) (Memref.whole main_arg0) (Memref.isWhole_whole _) arg5 harg5 arg6 harg6 arg7 harg7 arg8 harg8 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4)
          (fun r => iprop(⌜r.1 = BitVec.ofNat 32 (i 0).val ∧ r.2.1 = nuW c fn⌝ ∗ midAt c fs fh (i 0).val ∗ ((c : Thread nD τ).loc main_arg2 ↦{q} fs) ∗ ((c : Thread nD τ).loc main_arg3 ↦{q3} fn)
            ∗ ∃ W' : Waits sig Unit, owes (c : Thread nD τ) 0 W')) := by
  have hlt := lt88 i
  have ht2 := wp_t2 i arg5 harg5 arg6 harg6 arg7 harg7 arg8 harg8 c fs fh (i 0).val W
  rw [k0_part2_eq_skeleton]
  unfold k0_part2_skel midAt ringAt
  by_cases h0 : (i 0).val = 0
  · have h1 := (cond1_iff i).mpr h0
    rw [if_pos (Or.inl h0)]
    simp only [dif_pos h1]
    rw [h0] at ht2 ⊢
    iintro ⟨⟨Hh, ⟨%g, HR⟩, HS0, HS1⟩, HT, HN, HO⟩
    rw [wp_bind]
    unfold smemLoad
    iapply (wp_smemLoadElt Variants.none (c : Thread nD τ) none Set.univ (m := Memref.whole main_arg3) (S := Finset.univ) (q := q3) (f := fn) (Finset.subset_univ _)) $$ [HN]
    · iexact HN
    iintro HN
    rw [nuWord_read]
    sl_step
    ihave HR := (Entails.of_eq (ring_slots c g)) $$ HR
    icases HR with ⟨HR0, HR1⟩
    imod (iss_begin c fs fh 0 0 (semS 0) q g) $$ [HT Hh HR0 HS0] with ⟨Hd, HI⟩
    · isplitl [HT]; · iexact HT
      isplitl [Hh]; · iexact Hh
      isplitl [HR0]; · iexact HR0
      iexact HS0
    rw [wp_bind]
    iapply (wp_wand_r _ _ _)
    isplitl [HI]
    · iapply (wp_t1 i arg5 harg5 arg6 harg6 arg7 harg7 arg8 harg8 c fs fh hsrc q g h1); iexact HI
    rw [trips1]
    iintro %_ HI
    ihave HF := (iss_end c fs fh 0 0 (semS 0) q g) $$ [Hd HI]
    · isplitl [Hd]; · iexact Hd
      iexact HI
    icases HF with ⟨HT, HF⟩
    rw [wp_bind]
    iapply (wp_wand_r _ _ _)
    isplitl [HF HO]
    · iapply ht2
      isplitl [HF]; · iexact HF
      iexact HO
    iintro %_ ⟨%W', Hh, HR, HS, HO⟩
    sl_step
    isplitr; · ipureintro; exact ⟨rfl, rfl⟩
    isplitl [Hh HR HR1 HS HS1]
    · isplitl [Hh]; · iexact Hh
      isplitl [HR]; · iexact HR
      isplitl [HR1]; · iexists g; iexact HR1
      isplitl [HS]; · iexact HS
      iexact HS1
    isplitl [HT]; · iexact HT
    isplitl [HN]; · iexact HN
    iexists W'; iexact HO
  · have h1 : ¬ k0_cond1 i = 1#1 := fun h => h0 ((cond1_iff i).mp h)
    rw [if_neg (by omega)]
    simp only [dif_neg h1]
    iintro ⟨⟨HF, ⟨%g, HR1⟩, HS1⟩, HT, HN, HO⟩
    rw [wp_bind]
    unfold smemLoad
    iapply (wp_smemLoadElt Variants.none (c : Thread nD τ) none Set.univ (m := Memref.whole main_arg3) (S := Finset.univ) (q := q3) (f := fn) (Finset.subset_univ _)) $$ [HN]
    · iexact HN
    iintro HN
    rw [nuWord_read]
    sl_step
    rw [wp_bind]
    iapply (wp_wand_r _ _ _)
    isplitl [HF HO]
    · iapply ht2
      isplitl [HF]; · iexact HF
      iexact HO
    iintro %_ ⟨%W', Hh, HR, HS, HO⟩
    sl_step
    isplitr; · ipureintro; exact ⟨rfl, rfl⟩
    isplitl [Hh HR HR1 HS HS1]
    · isplitl [Hh]; · iexact Hh
      isplitl [HR]; · iexact HR
      isplitl [HR1]; · iexists g; iexact HR1
      isplitl [HS]; · iexact HS
      iexact HS1
    isplitl [HT]; · iexact HT
    isplitl [HN]; · iexact HN
    iexists W'; iexact HO

end Cert.KernelIdeal.Gen

end
-- ==== Proof.Ops.lean ====
module

public import proofs.«01_k».proof.Proof.Head

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix1 ix2 ix3 eq_ix1 eq_ix2 eq_ix3)

variable {F : FTy → Type} [FloatOps F]

local notation "𝕄" => MT nD τ sig Unit (Elt F) ℕ (Pipeline.UD sig nD τ) ℕ

/-! ## Single operations -/

/-- A load from a buffer held on a set of its elements. -/
theorem wp_ld (c : Dev nD) {cs : CoreSpace} {s : Shape} {e : EltTy} (m : Memref sig .tc cs s e) (r : Rect s) (hl)
    (S : Finset (Idx (m.view.loc (c : Thread nD τ)))) (q : PosShare TreeShare) (f : Buf (Elt F) (m.view.loc (c : Thread nD τ)))
    (hS : (m.access r).set ⊆ S) {Q : (r.shape.Idx → Elt F e) → sProp 𝕄} :
    iprop((m.view.loc (c : Thread nD τ) ↦[S]{q} f) ∗ ((m.view.loc (c : Thread nD τ) ↦[S]{q} f) -∗ Q ((m.access r).read (Elt F) f)))
      ⊢ wp frame (wpE (defs₀ (F := F)) Variants.none (c : Thread nD τ) none) Set.univ (Prog.lift (TpuEff.load m r.toLoadRect hl) : Prog (TpuEff nD τ sig (Elt F) Λ₀ .tc) _) Q := by
  iintro ⟨H, HK⟩
  iapply (wp_load_rect Variants.none (c : Thread nD τ) none Set.univ (m := m) (r := r) (S := S) hS) $$ [H]
  · iexact H
  iintro H
  sl_step
  iapply HK $$ H

/-- A load from a buffer held whole. -/
theorem wp_ldU (c : Dev nD) {cs : CoreSpace} {s : Shape} {e : EltTy} (m : Memref sig .tc cs s e) (r : Rect s) (hl)
    (q : PosShare TreeShare) (f : Buf (Elt F) (m.view.loc (c : Thread nD τ))) {Q : (r.shape.Idx → Elt F e) → sProp 𝕄} :
    iprop((m.view.loc (c : Thread nD τ) ↦{q} f) ∗ ((m.view.loc (c : Thread nD τ) ↦{q} f) -∗ Q ((m.access r).read (Elt F) f)))
      ⊢ wp frame (wpE (defs₀ (F := F)) Variants.none (c : Thread nD τ) none) Set.univ (Prog.lift (TpuEff.load m r.toLoadRect hl) : Prog (TpuEff nD τ sig (Elt F) Λ₀ .tc) _) Q :=
  wp_ld c m r hl Finset.univ q f (Finset.subset_univ _)

/-- A load of the whole of a staged block. -/
theorem wp_ldOwns (c : Dev nD) {cs : CoreSpace} {s : Shape} {e : EltTy} (m : Memref sig .tc cs s e) (off : Fin s.rank → ℕ) (h0 : off = fun _ => 0) (inb) (hl)
    (x : s.Idx → Elt F e) {Q : (s.Idx → Elt F e) → sProp 𝕄} :
    iprop(owns (c : Thread nD τ) m fullShare x ∗ (owns (c : Thread nD τ) m fullShare x -∗ Q x))
      ⊢ wp frame (wpE (defs₀ (F := F)) Variants.none (c : Thread nD τ) none) Set.univ (Prog.lift (TpuEff.load m (Rect.unit (s := s) off s.size inb).toLoadRect hl) : Prog (TpuEff nD τ sig (Elt F) Λ₀ .tc) _) Q := by
  subst h0
  iintro ⟨H, HK⟩
  unfold owns
  icases H with ⟨%f, %hf, H⟩
  iapply (wp_ld c m (Rect.unit (s := s) (fun _ => 0) s.size inb) hl m.view.set fullShare f ?_)
  · exact View.set_slice_subset _ _
  isplitl [H]; · iexact H
  iintro H
  have he : (m.access (Rect.unit (s := s) (fun _ => 0) s.size inb)).read (Elt F) f = x := by
    rw [← hf]; funext y
    show m.view.read (Elt F) f ((Rect.whole s).emb y) = _
    rw [Rect.emb_whole_apply]
  rw [he]
  iapply HK
  iexists f
  isplitr; · ipureintro; exact hf
  iexact H

/-- A store over the whole of a buffer. -/
theorem wp_stWhole (c : Dev nD) {cs : CoreSpace} {j : Fin (sig.nNear .tc cs)} {hκ : sig.names .tc cs j = true} (off : Fin (sig.tyNear .tc cs j).shape.rank → ℕ)
    (h0 : off = fun _ => 0) (inb) (w : (sig.tyNear .tc cs j).Contents (Elt F)) (hx hm) (f : Buf (Elt F) ((c : Thread nD τ).loc ⟨cs, j, hκ⟩)) {Q : PUnit → sProp 𝕄} :
    iprop(((c : Thread nD τ).loc ⟨cs, j, hκ⟩ ↦{fullShare} f) ∗ (((c : Thread nD τ).loc ⟨cs, j, hκ⟩ ↦{fullShare} w) -∗ Q ⟨⟩))
      ⊢ wp frame (wpE (defs₀ (F := F)) Variants.none (c : Thread nD τ) none) Set.univ (Prog.lift (TpuEff.store (Memref.whole (⟨cs, j, hκ⟩ : Ref sig .tc)) (Rect.unit (s := (sig.tyNear .tc cs j).shape) off (sig.tyNear .tc cs j).shape.size inb) w Finset.univ hx hm) : Prog (TpuEff nD τ sig (Elt F) Λ₀ .tc) _) Q := by
  subst h0
  iintro ⟨H, HK⟩
  iapply (wp_store_whole Variants.none (c : Thread nD τ) none Set.univ (hx := hx) (hm := hm) (w := w)) $$ [H]
  · iexact H
  iintro H
  sl_step
  iapply HK $$ H

/-- A store into part of a buffer held on a view's elements. -/
theorem wp_stRect (c : Dev nD) {cs : CoreSpace} {s : Shape} {e : EltTy} (m : Memref sig .tc cs s e) (r : Rect s) (w : r.shape.Idx → Elt F e) (hx hm)
    (f : Buf (Elt F) (m.view.loc (c : Thread nD τ))) {Q : PUnit → sProp 𝕄} :
    iprop((m.view.loc (c : Thread nD τ) ↦[m.view.set]{fullShare} f) ∗ ((m.view.loc (c : Thread nD τ) ↦[m.view.set]{fullShare} (m.access r).write (Elt F) f w Finset.univ) -∗ Q ⟨⟩))
      ⊢ wp frame (wpE (defs₀ (F := F)) Variants.none (c : Thread nD τ) none) Set.univ (Prog.lift (TpuEff.store m r w Finset.univ hx hm) : Prog (TpuEff nD τ sig (Elt F) Λ₀ .tc) _) Q := by
  iintro ⟨H, HK⟩
  iapply (wp_store Variants.none (c : Thread nD τ) none Set.univ (m := m) (r := r) (S := m.view.set) (f := f) ?_) $$ [H]
  · exact View.set_slice_subset _ _
  · iexact H
  iintro H
  sl_step
  iapply HK $$ H

/-! ## What a point computes -/

/-- The rows of tile `t`, as the body loads them. -/
def tileRows (c : Dev nD) (fs : SrcBuf F c) (fh : HBuf F c) (t : ℕ) : Vec F S1x256x2048 .f32 :=
  fun y => fh (ix2 (n0 := 9216) (n1 := 2048) (srcRow c fs (t * 256 + (y 1).val)) (y 2))

/-- The left and right halves of a matrix of gate or up weights, -/
def gl (w : FVec F S2048x512 .bf16) : Vec F S2048x256 .bf16 := fun y => w ((Rect.unit (s := S2048x512) ![0, 0] S2048x256.size inb_S2048x512_S2048x256_0_0).emb y)
def gr (w : FVec F S2048x512 .bf16) : Vec F S2048x256 .bf16 := fun y => w ((Rect.unit (s := S2048x512) ![0, 256] S2048x256.size inb_S2048x512_S2048x256_0_256).emb y)
/-- and of a matrix of down weights. -/
def dl (w : FVec F S512x2048 .bf16) : Vec F S512x1024 .bf16 := fun y => w ((Rect.unit (s := S512x2048) ![0, 0] S512x1024.size inb_S512x2048_S512x1024_0_0).emb y)
def dr (w : FVec F S512x2048 .bf16) : Vec F S512x1024 .bf16 := fun y => w ((Rect.unit (s := S512x2048) ![0, 1024] S512x1024.size inb_S512x2048_S512x1024_0_1024).emb y)

/-- The gated hidden units' first half, of a tile's rows and its expert's blocks. -/
def hidL (rows : Vec F S1x256x2048 .f32) (x5 x6 : Vec F S1x1x2048x512 .f32) : FVec F S256x256 .bf16 :=
  k0_pay9 rows (gl (k0_pay5 x5)) (gl (k0_pay6 x6))

/-- A live tile's left half of columns, -/
def outL (rows : Vec F S1x256x2048 .f32) (x5 x6 : Vec F S1x1x2048x512 .f32) (x7 : Vec F S1x1x512x2048 .f32) : FVec F S256x1024 .f32 :=
  k0_pay2 (k0_pay8 rows) (hidL rows x5 x6) (gr (k0_pay5 x5)) (gr (k0_pay6 x6)) (dl (k0_pay7 x7))
/-- and its right half. -/
def outR (rows : Vec F S1x256x2048 .f32) (x5 x6 : Vec F S1x1x2048x512 .f32) (x7 : Vec F S1x1x512x2048 .f32) : FVec F S256x1024 .f32 :=
  k0_pay3 (k0_pay8 rows) (hidL rows x5 x6) (gr (k0_pay5 x5)) (gr (k0_pay6 x6)) (dr (k0_pay7 x7))

/-- A live tile's block of the result. -/
def liveBlk (rows : Vec F S1x256x2048 .f32) (x5 x6 : Vec F S1x1x2048x512 .f32) (x7 : Vec F S1x1x512x2048 .f32) : Vec F S256x2048 .f32 :=
  fun y => if h : (y 1).val < 1024 then outL rows x5 x6 x7 (ix2 (n0 := 256) (n1 := 1024) (y 0) ⟨(y 1).val, h⟩)
    else outR rows x5 x6 x7 (ix2 (n0 := 256) (n1 := 1024) (y 0) ⟨(y 1).val - 1024, by have h2 : (y 1).val < 2048 := (y 1).isLt; omega⟩)

/-- After two stores through rectangles that do not meet, the first's elements hold what it stored, -/
theorem read_first {s : Shape} {e : EltTy} (m : Memref sig .tc .vmem s e) (r1 r2 : Rect s) (f : m.view.ty.Contents (Elt F)) (a : r1.shape.Idx → Elt F e) (b : r2.shape.Idx → Elt F e)
    (z : r1.shape.Idx) (hz : ∀ w, r2.emb w ≠ r1.emb z) :
    m.view.read (Elt F) ((m.access r2).write (Elt F) ((m.access r1).write (Elt F) f a Finset.univ) b Finset.univ) (r1.emb z) = a z := by
  have hn : r1.emb z ∉ (Finset.univ : Finset r2.shape.Idx).map r2.emb := by
    intro hm
    obtain ⟨w, -, hw⟩ := Finset.mem_map.mp hm
    exact hz w hw
  exact (View.read_slice_write_of_not_mem (v := m.view) r2 _ b Finset.univ hn).trans (View.read_slice_write_emb (v := m.view) r1 f a (Finset.mem_univ z))

/-- and after any stores the last's elements hold what it stored. -/
theorem read_last {s : Shape} {e : EltTy} (m : Memref sig .tc .vmem s e) (r2 : Rect s) (f : m.view.ty.Contents (Elt F)) (b : r2.shape.Idx → Elt F e) (z : r2.shape.Idx) :
    m.view.read (Elt F) ((m.access r2).write (Elt F) f b Finset.univ) (r2.emb z) = b z :=
  View.read_slice_write_emb (v := m.view) r2 f b (Finset.mem_univ z)

/-- The two halves stored are the block. -/
theorem halves_read (m : Memref sig .tc .vmem S256x2048 .f32) (f : m.view.ty.Contents (Elt F)) (a b : Vec F S256x1024 .f32) (h1 h2) :
    m.view.read (Elt F) ((m.access (Rect.unit (s := S256x2048) ![0, 1024] S256x1024.size h2)).write (Elt F)
        ((m.access (Rect.unit (s := S256x2048) ![0, 0] S256x1024.size h1)).write (Elt F) f a Finset.univ) b Finset.univ)
      = fun y => if h : (y 1).val < 1024 then a (ix2 (n0 := 256) (n1 := 1024) (y 0) ⟨(y 1).val, h⟩)
          else b (ix2 (n0 := 256) (n1 := 1024) (y 0) ⟨(y 1).val - 1024, by have h2 : (y 1).val < 2048 := (y 1).isLt; omega⟩) := by
  funext y
  have hy1 : (y 1).val < 2048 := (y 1).isLt
  split
  · rename_i h
    have hy : (Rect.unit (s := S256x2048) ![0, 0] S256x1024.size h1).emb (ix2 (n0 := 256) (n1 := 1024) (y 0) ⟨(y 1).val, h⟩) = y := by
      funext k; match k with
      | ⟨0, _⟩ => apply Fin.ext; show 0 + 1 * (y 0).val = (y 0).val; omega
      | ⟨1, _⟩ => apply Fin.ext; show 0 + 1 * (y 1).val = (y 1).val; omega
    refine (congrArg _ hy.symm).trans ?_
    refine read_first m (Rect.unit (s := S256x2048) ![0, 0] S256x1024.size h1) (Rect.unit (s := S256x2048) ![0, 1024] S256x1024.size h2) f a b _ (fun w hw => ?_)
    have h3 : 1024 + 1 * (w 1).val = 0 + 1 * (y 1).val := congrArg (fun v : S256x2048.Idx => (v 1).val) hw
    omega
  · rename_i h
    have hy : (Rect.unit (s := S256x2048) ![0, 1024] S256x1024.size h2).emb (ix2 (n0 := 256) (n1 := 1024) (y 0) ⟨(y 1).val - 1024, by omega⟩) = y := by
      funext k; match k with
      | ⟨0, _⟩ => apply Fin.ext; show 0 + 1 * (y 0).val = (y 0).val; omega
      | ⟨1, _⟩ => apply Fin.ext; show 1024 + 1 * ((y 1).val - 1024) = (y 1).val; omega
    refine (congrArg _ hy.symm).trans ?_
    exact read_last m (Rect.unit (s := S256x2048) ![0, 1024] S256x1024.size h2) _ b _

/-- A whole block stored is the block. -/
theorem whole_read {s : Shape} {e : EltTy} (m : Memref sig .tc .vmem s e) (f : m.view.ty.Contents (Elt F)) (off : Fin s.rank → ℕ) (h0 : off = fun _ => 0) (a : s.Idx → Elt F e) (h1) :
    m.view.read (Elt F) ((m.access (Rect.unit (s := s) off s.size h1)).write (Elt F) f a Finset.univ) = a := by
  subst h0; funext y
  have hy : (Rect.unit (s := s) (fun _ => 0) s.size h1).emb y = y := Rect.emb_whole_apply s y
  refine (congrArg _ hy.symm).trans ?_
  exact read_last m (Rect.unit (s := s) (fun _ => 0) s.size h1) f a y

/-- The slot loaded is the tile's rows. -/
theorem slot_read (c : Dev nD) (fs : SrcBuf F c) (fh : HBuf F c) (t s : ℕ) (hs : s < 2) (o : Fin 3 → ℕ) (ho : o = ![s, 0, 0]) (h) :
    ((Memref.whole cc0_scratch0).access (Rect.unit (s := S2x256x2048) o S1x256x2048.size h)).read (Elt F) (gat c fs fh t) = tileRows c fs fh t := by
  subst ho; funext y
  show fh _ = fh _
  refine congrArg fh ?_
  have e1 : 0 + 1 * (y 1).val = (y 1).val := by omega
  have e2 : (⟨0 + 1 * (y 2).val, by have : (y 2).val < 2048 := (y 2).isLt; omega⟩ : Fin 2048) = y 2 := by apply Fin.ext; show 0 + 1 * (y 2).val = (y 2).val; omega
  show ix2 (n0 := 9216) (n1 := 2048) (srcRow c fs (t * 256 + (0 + 1 * (y 1).val))) ⟨0 + 1 * (y 2).val, _⟩ = _
  rw [e2, e1]

/-- The halves, as loads of the weight buffers. -/
theorem gl_read1 (c : Dev nD) (b : Buf (Elt F) ((c : Thread nD τ).loc cc0_scratch1)) (h) : ((Memref.whole cc0_scratch1).access (Rect.unit (s := S2048x512) ![0, 0] S2048x256.size h)).read (Elt F) b = gl (F := F) b := rfl
theorem gl_read2 (c : Dev nD) (b : Buf (Elt F) ((c : Thread nD τ).loc cc0_scratch2)) (h) : ((Memref.whole cc0_scratch2).access (Rect.unit (s := S2048x512) ![0, 0] S2048x256.size h)).read (Elt F) b = gl (F := F) b := rfl
theorem gr_read1 (c : Dev nD) (b : Buf (Elt F) ((c : Thread nD τ).loc cc0_scratch1)) (h) : ((Memref.whole cc0_scratch1).access (Rect.unit (s := S2048x512) ![0, 256] S2048x256.size h)).read (Elt F) b = gr (F := F) b := rfl
theorem gr_read2 (c : Dev nD) (b : Buf (Elt F) ((c : Thread nD τ).loc cc0_scratch2)) (h) : ((Memref.whole cc0_scratch2).access (Rect.unit (s := S2048x512) ![0, 256] S2048x256.size h)).read (Elt F) b = gr (F := F) b := rfl
theorem dl_read (c : Dev nD) (b : Buf (Elt F) ((c : Thread nD τ).loc cc0_scratch3)) (h) : ((Memref.whole cc0_scratch3).access (Rect.unit (s := S512x2048) ![0, 0] S512x1024.size h)).read (Elt F) b = dl (F := F) b := rfl
theorem dr_read (c : Dev nD) (b : Buf (Elt F) ((c : Thread nD τ).loc cc0_scratch3)) (h) : ((Memref.whole cc0_scratch3).access (Rect.unit (s := S512x2048) ![0, 1024] S512x1024.size h)).read (Elt F) b = dr (F := F) b := rfl

/-- A weight buffer stored over. -/
theorem wp_st1 (c : Dev nD) (h) (w : Buf (Elt F) ((c : Thread nD τ).loc cc0_scratch1)) (hx hm) (f : Buf (Elt F) ((c : Thread nD τ).loc cc0_scratch1)) {Q : PUnit → sProp 𝕄} :
    iprop(((c : Thread nD τ).loc cc0_scratch1 ↦{fullShare} f) ∗ (((c : Thread nD τ).loc cc0_scratch1 ↦{fullShare} w) -∗ Q ⟨⟩))
      ⊢ wp frame (wpE (defs₀ (F := F)) Variants.none (c : Thread nD τ) none) Set.univ (Prog.lift (TpuEff.store (Memref.whole cc0_scratch1) (Rect.unit (s := S2048x512) ![0, 0] S2048x512.size h) w Finset.univ hx hm) : Prog (TpuEff nD τ sig (Elt F) Λ₀ .tc) _) Q :=
  wp_stWhole c (hκ := cc0_scratch1.3) ![0, 0] (by funext a; fin_cases a <;> rfl) h w hx hm f
theorem wp_st2 (c : Dev nD) (h) (w : Buf (Elt F) ((c : Thread nD τ).loc cc0_scratch2)) (hx hm) (f : Buf (Elt F) ((c : Thread nD τ).loc cc0_scratch2)) {Q : PUnit → sProp 𝕄} :
    iprop(((c : Thread nD τ).loc cc0_scratch2 ↦{fullShare} f) ∗ (((c : Thread nD τ).loc cc0_scratch2 ↦{fullShare} w) -∗ Q ⟨⟩))
      ⊢ wp frame (wpE (defs₀ (F := F)) Variants.none (c : Thread nD τ) none) Set.univ (Prog.lift (TpuEff.store (Memref.whole cc0_scratch2) (Rect.unit (s := S2048x512) ![0, 0] S2048x512.size h) w Finset.univ hx hm) : Prog (TpuEff nD τ sig (Elt F) Λ₀ .tc) _) Q :=
  wp_stWhole c (hκ := cc0_scratch2.3) ![0, 0] (by funext a; fin_cases a <;> rfl) h w hx hm f
theorem wp_st3 (c : Dev nD) (h) (w : Buf (Elt F) ((c : Thread nD τ).loc cc0_scratch3)) (hx hm) (f : Buf (Elt F) ((c : Thread nD τ).loc cc0_scratch3)) {Q : PUnit → sProp 𝕄} :
    iprop(((c : Thread nD τ).loc cc0_scratch3 ↦{fullShare} f) ∗ (((c : Thread nD τ).loc cc0_scratch3 ↦{fullShare} w) -∗ Q ⟨⟩))
      ⊢ wp frame (wpE (defs₀ (F := F)) Variants.none (c : Thread nD τ) none) Set.univ (Prog.lift (TpuEff.store (Memref.whole cc0_scratch3) (Rect.unit (s := S512x2048) ![0, 0] S512x2048.size h) w Finset.univ hx hm) : Prog (TpuEff nD τ sig (Elt F) Λ₀ .tc) _) Q :=
  wp_stWhole c (hκ := cc0_scratch3.3) ![0, 0] (by funext a; fin_cases a <;> rfl) h w hx hm f

end Cert.KernelIdeal.Gen

end
-- ==== Proof.Lead.lean ====
module

public import proofs.«01_k».proof.Proof.Ops

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix1 ix2 ix3 eq_ix1 eq_ix2 eq_ix3)

variable {F : FTy → Type} [FloatOps F]

local notation "𝕄" => MT nD τ sig Unit (Elt F) ℕ (Pipeline.UD sig nD τ) ℕ

variable (i : grid0.Coords) (arg5 : Memref sig .tc .vmem S1x1x2048x512 .f32) (harg5 : arg5.IsWhole)
  (arg6 : Memref sig .tc .vmem S1x1x2048x512 .f32) (harg6 : arg6.IsWhole) (arg7 : Memref sig .tc .vmem S1x1x512x2048 .f32) (harg7 : arg7.IsWhole)
  (arg8 : Memref sig .tc .vmem S256x2048 .f32) (harg8 : arg8.IsWhole)

/-- What the gather holds once the next tile's rows are in flight. -/
def nextAt (c : Dev nD) (fs : SrcBuf F c) (fh : HBuf F c) (t : ℕ) : sProp 𝕄 :=
  iprop(fly c fs fh ((t + 1) % 2) (nx t) (semS ((t + 1) % 2)) ∗ ((c : Thread nD τ).loc cc0_scratch0 ↦[slabSet (t % 2)]{fullShare} gat c fs fh t) ∗ semVal ((c : Thread nD τ), .dma (semS (t % 2))) 0)

/-- Whether a tile's expert weights are read anew: at the first tile and where the expert changes. -/
theorem reload_iff (i : grid0.Coords) (a b : BitVec 32) :
    (Scalar.cmpi .ne (Scalar.extui (Scalar.ori (Scalar.cmpi .eq (BitVec.ofNat 32 (i 0).val) 0#32) (Scalar.cmpi .ne a b)) : BitVec 32) 0#32 = 1#1) ↔ ((i 0).val = 0 ∨ a ≠ b) := by
  have h1 : ∀ i : grid0.Coords, Scalar.cmpi .eq (BitVec.ofNat 32 (i 0).val) 0#32 = BitVec.ofBool (decide ((i 0).val = 0)) := by decide +kernel
  rw [h1]
  have h2 : Scalar.cmpi .ne a b = BitVec.ofBool (decide (a ≠ b)) := by
    unfold Scalar.cmpi IntOp.cmpi
    by_cases hab : a = b
    · subst hab; simp
    · have hb : (a != b) = true := bne_iff_ne.mpr hab
      simp [hab, hb]
  rw [h2]
  have h3 : ∀ p q : Bool, (Scalar.cmpi .ne (Scalar.extui (Scalar.ori (BitVec.ofBool p) (BitVec.ofBool q)) : BitVec 32) 0#32 = 1#1) ↔ (p = true ∨ q = true) := by decide
  rw [h3, decide_eq_true_iff, decide_eq_true_iff]

set_option maxHeartbeats 1000000 in
/-- A live tile's first part once its weights are laid out. -/
theorem wp_tail (c : Dev nD) (fs : SrcBuf F c) (fh : HBuf F c) (hsrc : ∀ j < 22528, (srcW c fs j).toNat < 9216) (ft : TeBuf F c) (q q1 : PosShare TreeShare) (x5 x6 : Vec F S1x1x2048x512 .f32) (x7 : Vec F S1x1x512x2048 .f32) (b1 : Buf (Elt F) ((c : Thread nD τ).loc cc0_scratch1)) (b2 : Buf (Elt F) ((c : Thread nD τ).loc cc0_scratch2)) (b3 : Buf (Elt F) ((c : Thread nD τ).loc cc0_scratch3))
    (v0 v10 v25 : BitVec 32) (h2 : k0_cond2 i v0 = 1#1) (g : RingBuf F c) :
    iprop(((c : Thread nD τ).loc main_arg0 ↦{fullShare} fh) ∗ ((c : Thread nD τ).loc cc0_scratch0 ↦[slabSet ((i 0).val % 2)]{fullShare} gat c fs fh (i 0).val) ∗ ((c : Thread nD τ).loc cc0_scratch0 ↦[slabSet (((i 0).val + 1) % 2)]{fullShare} g) ∗ semVal ((c : Thread nD τ), .dma (semS ((i 0).val % 2))) 0 ∗ semVal ((c : Thread nD τ), .dma (semS (((i 0).val + 1) % 2))) 0 ∗ ((c : Thread nD τ).loc main_arg2 ↦{q} fs) ∗ ((c : Thread nD τ).loc main_arg1 ↦{q1} ft) ∗ owns (c : Thread nD τ) arg5 fullShare x5 ∗ owns (c : Thread nD τ) arg6 fullShare x6 ∗ owns (c : Thread nD τ) arg7 fullShare x7 ∗ ((c : Thread nD τ).loc cc0_scratch1 ↦{fullShare} b1) ∗ ((c : Thread nD τ).loc cc0_scratch2 ↦{fullShare} b2) ∗ ((c : Thread nD τ).loc cc0_scratch3 ↦{fullShare} b3))
      ⊢ wp frame (wpE (defs₀ (F := F)) Variants.none (c : Thread nD τ) none) Set.univ (do
        let v51 : Vec F S1x256x2048 .f32 ← Prog.lift (.load (Memref.whole cc0_scratch0) (Rect.unit (s := S2x256x2048) (k0_off10 i) S1x256x2048.size (k0_off10_inb i)).toLoadRect (View.loadsAt_vmem h_S1x256x2048))
        Scf.Loop.for k0_t3_loop k0_t3_ok ⟨⟩ (k0_t3_body (F := F) i (Memref.whole main_arg1) (Memref.isWhole_whole _) (Memref.whole main_arg2) (Memref.isWhole_whole _) (Memref.whole main_arg3) (Memref.isWhole_whole _) (Memref.whole main_arg0) (Memref.isWhole_whole _) arg5 harg5 arg6 harg6 arg7 harg7 arg8 harg8 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 (BitVec.ofNat 32 (i 0).val) v0 v10 v25 h2)
        let v56 : Vec F S2048x256 .bf16 ← Prog.lift (.load (Memref.whole cc0_scratch1) (Rect.unit (s := S2048x512) ![0, 0] S2048x256.size inb_S2048x512_S2048x256_0_0).toLoadRect (View.loadsAt_vmem h_S2048x256))
        let v66 : Vec F S2048x256 .bf16 ← Prog.lift (.load (Memref.whole cc0_scratch2) (Rect.unit (s := S2048x512) ![0, 0] S2048x256.size inb_S2048x512_S2048x256_0_0).toLoadRect (View.loadsAt_vmem h_S2048x256))
        Scf.Loop.for k0_t4_loop k0_t4_ok ⟨⟩ (k0_t4_body (F := F) i (Memref.whole main_arg1) (Memref.isWhole_whole _) (Memref.whole main_arg2) (Memref.isWhole_whole _) (Memref.whole main_arg3) (Memref.isWhole_whole _) (Memref.whole main_arg0) (Memref.isWhole_whole _) arg5 harg5 arg6 harg6 arg7 harg7 arg8 harg8 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 (BitVec.ofNat 32 (i 0).val) v0 v10 v25 h2)
        pure ⟨k0_pay8 v51, k0_pay9 v51 v56 v66⟩ : Prog (TpuEff nD τ sig (Elt F) Λ₀ .tc) (Σ' (v53 : FVec F S256x2048 .bf16), FVec F S256x256 .bf16))
          (fun r => iprop(⌜r = ⟨k0_pay8 (tileRows c fs fh (i 0).val), k0_pay9 (tileRows c fs fh (i 0).val) (gl b1) (gl b2)⟩⌝ ∗ (fly c fs fh (((i 0).val + 1) % 2) (nx (i 0).val) (semS (((i 0).val + 1) % 2)) ∗ ((c : Thread nD τ).loc cc0_scratch0 ↦[slabSet ((i 0).val % 2)]{fullShare} gat c fs fh (i 0).val) ∗ semVal ((c : Thread nD τ), .dma (semS ((i 0).val % 2))) 0) ∗ ((c : Thread nD τ).loc main_arg2 ↦{q} fs) ∗ ((c : Thread nD τ).loc main_arg1 ↦{q1} ft) ∗ owns (c : Thread nD τ) arg5 fullShare x5 ∗ owns (c : Thread nD τ) arg6 fullShare x6 ∗ owns (c : Thread nD τ) arg7 fullShare x7 ∗ ((c : Thread nD τ).loc cc0_scratch1 ↦{fullShare} b1) ∗ ((c : Thread nD τ).loc cc0_scratch2 ↦{fullShare} b2) ∗ ((c : Thread nD τ).loc cc0_scratch3 ↦{fullShare} b3))) := by
    have hlt := lt88 i
    iintro ⟨Hh, HR, HR1, HS, HS1, HT, HE, H5, H6, H7, HB1, HB2, HB3⟩
    rw [wp_bind]
    iapply (wp_ld c (Memref.whole cc0_scratch0) _ _ (slabSet ((i 0).val % 2)) fullShare (gat c fs fh (i 0).val) ?_)
    · have e := off10_eq i
      generalize k0_off10_inb i = hh
      revert hh; rw [e]; intro hh; exact slabM_load_set _ (by omega) hh
    isplitl [HR]; · iexact HR
    iintro HR
    rw [slot_read c fs fh (i 0).val ((i 0).val % 2) (by omega) _ (off10_eq i)]
    imod (iss_begin c fs fh (((i 0).val + 1) % 2) (nx (i 0).val) (semS (((i 0).val + 1) % 2)) q g) $$ [HT Hh HR1 HS1] with ⟨Hd, HI⟩
    · isplitl [HT]; · iexact HT
      isplitl [Hh]; · iexact Hh
      isplitl [HR1]; · iexact HR1
      iexact HS1
    rw [wp_bind]
    iapply (wp_wand_r _ _ _)
    isplitl [HI]
    · iapply (wp_t3 i arg5 harg5 arg6 harg6 arg7 harg7 arg8 harg8 c fs fh hsrc q g (BitVec.ofNat 32 (i 0).val) v0 v10 v25 h2); iexact HI
    rw [trips3]
    iintro %_ HI
    rw [wp_bind]
    iapply (wp_ldU c (Memref.whole cc0_scratch1) _ _ fullShare b1)
    isplitl [HB1]; · iexact HB1
    iintro HB1
    rw [gl_read1 c b1]
    rw [wp_bind]
    iapply (wp_ldU c (Memref.whole cc0_scratch2) _ _ fullShare b2)
    isplitl [HB2]; · iexact HB2
    iintro HB2
    rw [gl_read2 c b2]
    rw [wp_bind]
    iapply (wp_wand_r _ _ _)
    isplitl [HI]
    · iapply (wp_t4 i arg5 harg5 arg6 harg6 arg7 harg7 arg8 harg8 c fs fh hsrc q g (BitVec.ofNat 32 (i 0).val) v0 v10 v25 h2); iexact HI
    rw [trips4]
    iintro %_ HI
    ihave HF := (iss_end c fs fh (((i 0).val + 1) % 2) (nx (i 0).val) (semS (((i 0).val + 1) % 2)) q g) $$ [Hd HI]
    · isplitl [Hd]; · iexact Hd
      iexact HI
    icases HF with ⟨HT, HF⟩
    sl_step
    isplitr; · ipureintro; rfl
    isplitl [HF HR HS]
    · isplitl [HF]; · iexact HF
      isplitl [HR]; · iexact HR
      iexact HS
    isplitl [HT]; · iexact HT
    isplitl [HE]; · iexact HE
    isplitl [H5]; · iexact H5
    isplitl [H6]; · iexact H6
    isplitl [H7]; · iexact H7
    isplitl [HB1]; · iexact HB1
    isplitl [HB2]; · iexact HB2
    iexact HB3

set_option maxHeartbeats 1000000 in
/-- The first part of a live tile: its weights laid out if they changed, its rows loaded, the next tile's rows started
    around the first half of the hidden units. -/
theorem wp_lead (c : Dev nD) (fs : SrcBuf F c) (fh : HBuf F c) (hsrc : ∀ j < 22528, (srcW c fs j).toNat < 9216) (ft : TeBuf F c) (q q1 : PosShare TreeShare) (x5 x6 : Vec F S1x1x2048x512 .f32) (x7 : Vec F S1x1x512x2048 .f32) (b1 : Buf (Elt F) ((c : Thread nD τ).loc cc0_scratch1)) (b2 : Buf (Elt F) ((c : Thread nD τ).loc cc0_scratch2)) (b3 : Buf (Elt F) ((c : Thread nD τ).loc cc0_scratch3))
    (v0 v10 v25 : BitVec 32) (h2 : k0_cond2 i v0 = 1#1)
    (hkeep : (i 0).val ≠ 0 → teW c ft (i 0).val = teW c ft ((i 0).val - 1) → b1 = k0_pay5 x5 ∧ b2 = k0_pay6 x6 ∧ b3 = k0_pay7 x7) :
    iprop(midAt c fs fh (i 0).val ∗ ((c : Thread nD τ).loc main_arg2 ↦{q} fs) ∗ ((c : Thread nD τ).loc main_arg1 ↦{q1} ft) ∗ owns (c : Thread nD τ) arg5 fullShare x5 ∗ owns (c : Thread nD τ) arg6 fullShare x6 ∗ owns (c : Thread nD τ) arg7 fullShare x7 ∗ ((c : Thread nD τ).loc cc0_scratch1 ↦{fullShare} b1) ∗ ((c : Thread nD τ).loc cc0_scratch2 ↦{fullShare} b2) ∗ ((c : Thread nD τ).loc cc0_scratch3 ↦{fullShare} b3))
      ⊢ wp frame (wpE (defs₀ (F := F)) Variants.none (c : Thread nD τ) none) Set.univ (k0_part1 (F := F) i (Memref.whole main_arg1) (Memref.isWhole_whole _) (Memref.whole main_arg2) (Memref.isWhole_whole _) (Memref.whole main_arg3) (Memref.isWhole_whole _) (Memref.whole main_arg0) (Memref.isWhole_whole _) arg5 harg5 arg6 harg6 arg7 harg7 arg8 harg8 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 (BitVec.ofNat 32 (i 0).val) v0 v10 v25 h2)
          (fun r => iprop(⌜r = ⟨k0_pay8 (tileRows c fs fh (i 0).val), hidL (tileRows c fs fh (i 0).val) x5 x6⟩⌝ ∗ nextAt c fs fh (i 0).val ∗ ((c : Thread nD τ).loc main_arg2 ↦{q} fs) ∗ ((c : Thread nD τ).loc main_arg1 ↦{q1} ft) ∗ owns (c : Thread nD τ) arg5 fullShare x5 ∗ owns (c : Thread nD τ) arg6 fullShare x6 ∗ owns (c : Thread nD τ) arg7 fullShare x7 ∗ ((c : Thread nD τ).loc cc0_scratch1 ↦{fullShare} k0_pay5 x5) ∗ ((c : Thread nD τ).loc cc0_scratch2 ↦{fullShare} k0_pay6 x6) ∗ ((c : Thread nD τ).loc cc0_scratch3 ↦{fullShare} k0_pay7 x7))) := by
  have hlt := lt88 i
  rw [k0_part1_eq_skeleton]
  unfold k0_part1_skel midAt nextAt
  iintro ⟨⟨Hh, HR, ⟨%g, HR1⟩, HS, HS1⟩, HT, HE, H5, H6, H7, HB1, HB2, HB3⟩
  rw [wp_bind]
  unfold smemLoad
  iapply (wp_smemLoadElt Variants.none (c : Thread nD τ) none Set.univ (m := Memref.whole main_arg1) (S := Finset.univ) (q := q1) (f := ft) (Finset.subset_univ _)) $$ [HE]
  · iexact HE
  iintro HE
  rw [teWord_read c ft (i 0).val hlt _ (k0_off8_eq i)]
  sl_step
  rw [wp_bind]
  iapply (wp_smemLoadElt Variants.none (c : Thread nD τ) none Set.univ (m := Memref.whole main_arg1) (S := Finset.univ) (q := q1) (f := ft) (Finset.subset_univ _)) $$ [HE]
  · iexact HE
  iintro HE
  rw [teWord_read c ft ((i 0).val - 1) (by omega) _ (off9_eq i)]
  sl_step
  by_cases hre : (i 0).val = 0 ∨ teW c ft (i 0).val ≠ teW c ft ((i 0).val - 1)
  · rw [if_pos ((reload_iff i _ _).mpr hre)]
    rw [wp_bind]
    iapply (wp_ldOwns c arg5 _ (by funext a; fin_cases a <;> rfl) _ _ x5)
    isplitl [H5]; · iexact H5
    iintro H5
    rw [wp_bind]
    iapply (wp_ldU c (Memref.whole cc0_scratch1) _ _ fullShare b1)
    isplitl [HB1]; · iexact HB1
    iintro HB1
    rw [wp_bind]
    iapply (wp_st1 c _ _ _ _ b1)
    isplitl [HB1]; · iexact HB1
    iintro HB1
    rw [wp_bind]
    iapply (wp_ldOwns c arg6 _ (by funext a; fin_cases a <;> rfl) _ _ x6)
    isplitl [H6]; · iexact H6
    iintro H6
    rw [wp_bind]
    iapply (wp_ldU c (Memref.whole cc0_scratch2) _ _ fullShare b2)
    isplitl [HB2]; · iexact HB2
    iintro HB2
    rw [wp_bind]
    iapply (wp_st2 c _ _ _ _ b2)
    isplitl [HB2]; · iexact HB2
    iintro HB2
    rw [wp_bind]
    iapply (wp_ldOwns c arg7 _ (by funext a; fin_cases a <;> rfl) _ _ x7)
    isplitl [H7]; · iexact H7
    iintro H7
    rw [wp_bind]
    iapply (wp_ldU c (Memref.whole cc0_scratch3) _ _ fullShare b3)
    isplitl [HB3]; · iexact HB3
    iintro HB3
    rw [wp_bind]
    iapply (wp_st3 c _ _ _ _ b3)
    isplitl [HB3]; · iexact HB3
    iintro HB3
    iapply (wp_tail i arg5 harg5 arg6 harg6 arg7 harg7 arg8 harg8 c fs fh hsrc ft q q1 x5 x6 x7 _ _ _ v0 v10 v25 h2 g)
    isplitl [Hh]; · iexact Hh
    isplitl [HR]; · iexact HR
    isplitl [HR1]; · iexact HR1
    isplitl [HS]; · iexact HS
    isplitl [HS1]; · iexact HS1
    isplitl [HT]; · iexact HT
    isplitl [HE]; · iexact HE
    isplitl [H5]; · iexact H5
    isplitl [H6]; · iexact H6
    isplitl [H7]; · iexact H7
    isplitl [HB1]; · iexact HB1
    isplitl [HB2]; · iexact HB2
    iexact HB3

  · rw [if_neg (fun h => hre ((reload_iff i _ _).mp h))]
    obtain ⟨hb1, hb2, hb3⟩ := hkeep (fun h => hre (Or.inl h)) (by by_contra h; exact hre (Or.inr h))
    subst hb1 hb2 hb3
    iapply (wp_tail i arg5 harg5 arg6 harg6 arg7 harg7 arg8 harg8 c fs fh hsrc ft q q1 x5 x6 x7 _ _ _ v0 v10 v25 h2 g)
    isplitl [Hh]; · iexact Hh
    isplitl [HR]; · iexact HR
    isplitl [HR1]; · iexact HR1
    isplitl [HS]; · iexact HS
    isplitl [HS1]; · iexact HS1
    isplitl [HT]; · iexact HT
    isplitl [HE]; · iexact HE
    isplitl [H5]; · iexact H5
    isplitl [H6]; · iexact H6
    isplitl [H7]; · iexact H7
    isplitl [HB1]; · iexact HB1
    isplitl [HB2]; · iexact HB2
    iexact HB3

end Cert.KernelIdeal.Gen

end
-- ==== Proof.Point.lean ====
module

public import proofs.«01_k».proof.Proof.Lead

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix1 ix2 ix3 eq_ix1 eq_ix2 eq_ix3)

variable {F : FTy → Type} [FloatOps F]

local notation "𝕄" => MT nD τ sig Unit (Elt F) ℕ (Pipeline.UD sig nD τ) ℕ

variable (i : grid0.Coords) (arg5 : Memref sig .tc .vmem S1x1x2048x512 .f32) (harg5 : arg5.IsWhole)
  (arg6 : Memref sig .tc .vmem S1x1x2048x512 .f32) (harg6 : arg6.IsWhole) (arg7 : Memref sig .tc .vmem S1x1x512x2048 .f32) (harg7 : arg7.IsWhole)
  (arg8 : Memref sig .tc .vmem S256x2048 .f32) (harg8 : arg8.IsWhole)

/-- Whether a tile is in use is decided by a comparison. -/
instance liveDecidable (t : ℕ) (v : BitVec 32) : Decidable (live t v) := inferInstanceAs (Decidable (_ < _))

/-- The block of tile `t`: its rows through its expert while it is in use, zeros after. -/
def blk (c : Dev nD) (fs : SrcBuf F c) (fh : HBuf F c) (fn : NuBuf F c) (t : ℕ) (x5 x6 : Vec F S1x1x2048x512 .f32) (x7 : Vec F S1x1x512x2048 .f32) : Vec F S256x2048 .f32 :=
  if live t (nuW c fn) then liveBlk (tileRows c fs fh t) x5 x6 x7 else k0_pay4

/-- The ring's two slots, each at its own contents, are the ring at some. -/
theorem ring_glue (c : Dev nD) (g g' : RingBuf F c) :
    iprop(((c : Thread nD τ).loc cc0_scratch0 ↦[slabSet (0)]{fullShare} g) ∗ ((c : Thread nD τ).loc cc0_scratch0 ↦[slabSet (1)]{fullShare} g')) ⊢ (iprop(∃ g : RingBuf F c, ((c : Thread nD τ).loc cc0_scratch0 ↦{fullShare} g)) : sProp 𝕄) := by
  iintro H
  ihave H := (pointsTo_join (ℓ := (c : Thread nD τ).loc cc0_scratch0) slabSet_disjoint) $$ H
  rw [slabSet_union]
  iexists _; iexact H

/-- The end of a point: after the last, the rows of the gather started there are waited for. -/
theorem wp_last (c : Dev nD) (fs : SrcBuf F c) (fh : HBuf F c) (W : Waits sig Unit) :
    iprop(nextAt c fs fh (i 0).val ∗ owes (c : Thread nD τ) 0 W)
      ⊢ wp frame (wpE (defs₀ (F := F)) Variants.none (c : Thread nD τ) none) Set.univ (do
          if h5 : k0_cond5 i = 1#1 then do
            Scf.Loop.for k0_t6_loop (k0_t6_ok i h5) ⟨⟩ (k0_t6_body (F := F) i (Memref.whole main_arg1) (Memref.isWhole_whole _) (Memref.whole main_arg2) (Memref.isWhole_whole _) (Memref.whole main_arg3) (Memref.isWhole_whole _) (Memref.whole main_arg0) (Memref.isWhole_whole _) arg5 harg5 arg6 harg6 arg7 harg7 arg8 harg8 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 h5)
            pure ⟨⟩
          else do
            pure ⟨⟩
          pure ⟨⟩ : Prog (TpuEff nD τ sig (Elt F) Λ₀ .tc) PUnit)
          (fun _ => iprop(ringAt c fs fh ((i 0).val + 1) ∗ ∃ W' : Waits sig Unit, owes (c : Thread nD τ) 0 W')) := by
  have hlt := lt88 i
  unfold ringAt nextAt
  by_cases h87 : (i 0).val = 87
  · have h5 := (cond5_iff i).mpr h87
    have ht6 := wp_t6 i arg5 harg5 arg6 harg6 arg7 harg7 arg8 harg8 c fs fh (nx (i 0).val) W h5
    simp only [dif_pos h5]
    rw [if_pos (by omega)]
    rw [h87] at ht6 ⊢
    iintro ⟨⟨HF, HR1, HS1⟩, HO⟩
    rw [wp_bind]
    iapply (wp_wand_r _ _ _)
    isplitl [HF HO]
    · iapply ht6
      isplitl [HF]; · iexact HF
      iexact HO
    iintro %_ ⟨%W', Hh, HR, HS, HO⟩
    sl_step
    isplitl [Hh HR HR1 HS HS1]
    · isplitl [Hh]; · iexact Hh
      isplitl [HR HR1]
      · ihave HU := (ring_glue c _ _) $$ [HR HR1]
        · isplitl [HR]; · iexact HR
          iexact HR1
        iexact HU
      isplitl [HS]; · iexact HS
      iexact HS1
    iexists W'; iexact HO
  · have h5 : ¬ k0_cond5 i = 1#1 := fun h => h87 ((cond5_iff i).mp h)
    simp only [dif_neg h5]
    rw [if_neg (by omega), show nx (i 0).val = (i 0).val + 1 from by unfold nx; rw [if_pos (by omega)], show ((i 0).val + 1 + 1) % 2 = (i 0).val % 2 from by omega]
    iintro ⟨⟨HF, HR1, HS1⟩, HO⟩
    sl_step
    isplitl [HF HR1 HS1]
    · isplitl [HF]; · iexact HF
      isplitl [HR1]; · iexists _; iexact HR1
      iexact HS1
    iexists W; iexact HO

set_option maxHeartbeats 2000000 in
/-- A point's second part, its own tile's rows at hand: the tile computed, the next tile's rows started. -/
theorem wp_rest (c : Dev nD) (fs : SrcBuf F c) (fh : HBuf F c) (hsrc : ∀ j < 22528, (srcW c fs j).toNat < 9216) (ft : TeBuf F c) (fn : NuBuf F c) (q q1 q3 : PosShare TreeShare) (x5 x6 : Vec F S1x1x2048x512 .f32) (x7 : Vec F S1x1x512x2048 .f32) (b1 : Buf (Elt F) ((c : Thread nD τ).loc cc0_scratch1)) (b2 : Buf (Elt F) ((c : Thread nD τ).loc cc0_scratch2)) (b3 : Buf (Elt F) ((c : Thread nD τ).loc cc0_scratch3)) (W1 : Waits sig Unit) (v10 v25 : BitVec 32)
    (hkeep : live (i 0).val (nuW c fn) → (i 0).val ≠ 0 → teW c ft (i 0).val = teW c ft ((i 0).val - 1) → b1 = k0_pay5 x5 ∧ b2 = k0_pay6 x6 ∧ b3 = k0_pay7 x7) :
    iprop(midAt c fs fh (i 0).val ∗ ((c : Thread nD τ).loc main_arg2 ↦{q} fs) ∗ ((c : Thread nD τ).loc main_arg1 ↦{q1} ft) ∗ ((c : Thread nD τ).loc main_arg3 ↦{q3} fn) ∗ owns (c : Thread nD τ) arg5 fullShare x5 ∗ owns (c : Thread nD τ) arg6 fullShare x6 ∗ owns (c : Thread nD τ) arg7 fullShare x7 ∗ (∃ d, owns (c : Thread nD τ) arg8 fullShare d) ∗ ((c : Thread nD τ).loc cc0_scratch1 ↦{fullShare} b1) ∗ ((c : Thread nD τ).loc cc0_scratch2 ↦{fullShare} b2) ∗ ((c : Thread nD τ).loc cc0_scratch3 ↦{fullShare} b3) ∗ owes (c : Thread nD τ) 0 W1)
      ⊢ wp frame (wpE (defs₀ (F := F)) Variants.none (c : Thread nD τ) none) Set.univ (do
          if k0_h2 : k0_cond2 i (nuW c fn) = 1#1 then do
            let ⟨v53, v69⟩ : Σ' (v53 : FVec F S256x2048 .bf16), FVec F S256x256 .bf16 ← k0_part1 (F := F) i (Memref.whole main_arg1) (Memref.isWhole_whole _) (Memref.whole main_arg2) (Memref.isWhole_whole _) (Memref.whole main_arg3) (Memref.isWhole_whole _) (Memref.whole main_arg0) (Memref.isWhole_whole _) arg5 harg5 arg6 harg6 arg7 harg7 arg8 harg8 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 (BitVec.ofNat 32 (i 0).val) (nuW c fn) v10 v25 k0_h2
            let v72 : Vec F S2048x256 .bf16 ← Prog.lift (.load (Memref.whole cc0_scratch1) (Rect.unit (s := S2048x512) ![0, 256] S2048x256.size inb_S2048x512_S2048x256_0_256).toLoadRect (View.loadsAt_vmem h_S2048x256))
            let v82 : Vec F S2048x256 .bf16 ← Prog.lift (.load (Memref.whole cc0_scratch2) (Rect.unit (s := S2048x512) ![0, 256] S2048x256.size inb_S2048x512_S2048x256_0_256).toLoadRect (View.loadsAt_vmem h_S2048x256))
            let v87 : Vec F S512x1024 .bf16 ← Prog.lift (.load (Memref.whole cc0_scratch3) (Rect.unit (s := S512x2048) ![0, 0] S512x1024.size inb_S512x2048_S512x1024_0_0).toLoadRect (View.loadsAt_vmem h_S512x1024))
            let v89 : Vec F S256x1024 .f32 ← Prog.lift (.load arg8 (Rect.unit (s := S256x2048) ![0, 0] S256x1024.size inb_S256x2048_S256x1024_0_0).toLoadRect (View.loadsAt_vmem h_S256x1024))
            Prog.lift (.store arg8 (Rect.unit (s := S256x2048) ![0, 0] S256x1024.size inb_S256x2048_S256x1024_0_0) (k0_pay2 v53 v69 v72 v82 v87) Finset.univ (View.stores_vmem_bits_univ h_S256x1024 rfl) (.inl rfl))
            let v90 : Vec F S512x1024 .bf16 ← Prog.lift (.load (Memref.whole cc0_scratch3) (Rect.unit (s := S512x2048) ![0, 1024] S512x1024.size inb_S512x2048_S512x1024_0_1024).toLoadRect (View.loadsAt_vmem h_S512x1024))
            let v92 : Vec F S256x1024 .f32 ← Prog.lift (.load arg8 (Rect.unit (s := S256x2048) ![0, 1024] S256x1024.size inb_S256x2048_S256x1024_0_1024).toLoadRect (View.loadsAt_vmem h_S256x1024))
            Prog.lift (.store arg8 (Rect.unit (s := S256x2048) ![0, 1024] S256x1024.size inb_S256x2048_S256x1024_0_1024) (k0_pay3 v53 v69 v72 v82 v90) Finset.univ (View.stores_vmem_bits_univ h_S256x1024 rfl) (.inl rfl))
            pure ⟨⟩
          else do
            pure ⟨⟩
          if k0_h4 : k0_cond4 i (nuW c fn) = 1#1 then do
            Scf.Loop.for k0_t5_loop k0_t5_ok ⟨⟩ (k0_t5_body (F := F) i (Memref.whole main_arg1) (Memref.isWhole_whole _) (Memref.whole main_arg2) (Memref.isWhole_whole _) (Memref.whole main_arg3) (Memref.isWhole_whole _) (Memref.whole main_arg0) (Memref.isWhole_whole _) arg5 harg5 arg6 harg6 arg7 harg7 arg8 harg8 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 (nuW c fn) k0_h4)
            let v42 : Vec F S256x2048 .f32 ← Prog.lift (.load arg8 (Rect.unit (s := S256x2048) ![0, 0] S256x2048.size inb_S256x2048_S256x2048_0_0).toLoadRect (View.loadsAt_vmem h_S256x2048))
            Prog.lift (.store arg8 (Rect.unit (s := S256x2048) ![0, 0] S256x2048.size inb_S256x2048_S256x2048_0_0) (k0_pay4 (F := F)) Finset.univ (View.stores_vmem_bits_univ h_S256x2048 rfl) (.inl rfl))
            pure ⟨⟩
          else do
            pure ⟨⟩
          if k0_h5 : k0_cond5 i = 1#1 then do
            Scf.Loop.for k0_t6_loop (k0_t6_ok i k0_h5) ⟨⟩ (k0_t6_body (F := F) i (Memref.whole main_arg1) (Memref.isWhole_whole _) (Memref.whole main_arg2) (Memref.isWhole_whole _) (Memref.whole main_arg3) (Memref.isWhole_whole _) (Memref.whole main_arg0) (Memref.isWhole_whole _) arg5 harg5 arg6 harg6 arg7 harg7 arg8 harg8 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 k0_h5)
            pure ⟨⟩
          else do
            pure ⟨⟩
          pure ⟨⟩ : Prog (TpuEff nD τ sig (Elt F) Λ₀ .tc) PUnit)
          (fun _ => iprop(ringAt c fs fh ((i 0).val + 1) ∗ ((c : Thread nD τ).loc main_arg2 ↦{q} fs) ∗ ((c : Thread nD τ).loc main_arg1 ↦{q1} ft) ∗ ((c : Thread nD τ).loc main_arg3 ↦{q3} fn) ∗ owns (c : Thread nD τ) arg5 fullShare x5 ∗ owns (c : Thread nD τ) arg6 fullShare x6 ∗ owns (c : Thread nD τ) arg7 fullShare x7 ∗ owns (c : Thread nD τ) arg8 fullShare (blk c fs fh fn (i 0).val x5 x6 x7)
            ∗ (∃ (w1 : Buf (Elt F) ((c : Thread nD τ).loc cc0_scratch1)) (w2 : Buf (Elt F) ((c : Thread nD τ).loc cc0_scratch2)) (w3 : Buf (Elt F) ((c : Thread nD τ).loc cc0_scratch3)), ⌜live (i 0).val (nuW c fn) → w1 = k0_pay5 x5 ∧ w2 = k0_pay6 x6 ∧ w3 = k0_pay7 x7⌝ ∗ ((c : Thread nD τ).loc cc0_scratch1 ↦{fullShare} w1) ∗ ((c : Thread nD τ).loc cc0_scratch2 ↦{fullShare} w2) ∗ ((c : Thread nD τ).loc cc0_scratch3 ↦{fullShare} w3))
            ∗ ∃ W' : Waits sig Unit, owes (c : Thread nD τ) 0 W')) := by
  have hlt := lt88 i
  unfold blk
  by_cases hl : live (i 0).val (nuW c fn)
  · have h2 : k0_cond2 i (nuW c fn) = 1#1 := (cond2_iff i _).mpr hl
    have h4 : ¬ k0_cond4 i (nuW c fn) = 1#1 := fun h => (cond4_iff i _).mp h hl
    rw [if_pos hl]
    simp only [dif_pos h2, dif_neg h4]
    iintro ⟨HM, HT, HE, HN, H5, H6, H7, ⟨%d, H8⟩, HB1, HB2, HB3, HO⟩
    unfold owns
    icases H8 with ⟨%f8, -, H8⟩
    rw [wp_bind]
    iapply (wp_wand_r _ _ _)
    isplitl [HM HT HE H5 H6 H7 HB1 HB2 HB3]
    · iapply (wp_lead i arg5 harg5 arg6 harg6 arg7 harg7 arg8 harg8 c fs fh hsrc ft q q1 x5 x6 x7 b1 b2 b3 (nuW c fn) v10 v25 h2 (hkeep hl))
      unfold owns
      isplitl [HM]; · iexact HM
      isplitl [HT]; · iexact HT
      isplitl [HE]; · iexact HE
      isplitl [H5]; · iexact H5
      isplitl [H6]; · iexact H6
      isplitl [H7]; · iexact H7
      isplitl [HB1]; · iexact HB1
      isplitl [HB2]; · iexact HB2
      iexact HB3

    iintro %r2 ⟨%hr2, HX, HT, HE, H5, H6, H7, HB1, HB2, HB3⟩
    subst hr2
    rw [wp_bind]
    iapply (wp_ldU c (Memref.whole cc0_scratch1) _ _ fullShare _)
    isplitl [HB1]; · iexact HB1
    iintro HB1
    rw [gr_read1 c]
    rw [wp_bind]
    iapply (wp_ldU c (Memref.whole cc0_scratch2) _ _ fullShare _)
    isplitl [HB2]; · iexact HB2
    iintro HB2
    rw [gr_read2 c]
    rw [wp_bind]
    iapply (wp_ldU c (Memref.whole cc0_scratch3) _ _ fullShare _)
    isplitl [HB3]; · iexact HB3
    iintro HB3
    rw [dl_read c]
    rw [wp_bind]
    iapply (wp_ld c arg8 _ _ arg8.view.set fullShare _ (View.set_slice_subset _ _))
    isplitl [H8]; · iexact H8
    iintro H8
    rw [wp_bind]
    iapply (wp_stRect c arg8 _ _ _ _ _)
    isplitl [H8]; · iexact H8
    iintro H8
    rw [wp_bind]
    iapply (wp_ldU c (Memref.whole cc0_scratch3) _ _ fullShare _)
    isplitl [HB3]; · iexact HB3
    iintro HB3
    rw [dr_read c]
    rw [wp_bind]
    iapply (wp_ld c arg8 _ _ arg8.view.set fullShare _ (View.set_slice_subset _ _))
    isplitl [H8]; · iexact H8
    iintro H8
    rw [wp_bind]
    iapply (wp_stRect c arg8 _ _ _ _ _)
    isplitl [H8]; · iexact H8
    iintro H8
    iapply (wp_wand_r _ _ _)
    isplitl [HX HO]
    · iapply (wp_last i arg5 harg5 arg6 harg6 arg7 harg7 arg8 harg8 c fs fh W1)
      isplitl [HX]; · iexact HX
      iexact HO
    iintro %_ ⟨HG, HO⟩
    isplitl [HG]; · iexact HG
    isplitl [HT]; · iexact HT
    isplitl [HE]; · iexact HE
    isplitl [HN]; · iexact HN
    unfold owns
    isplitl [H5]; · iexact H5
    isplitl [H6]; · iexact H6
    isplitl [H7]; · iexact H7
    isplitl [H8]
    · iexists ((arg8.access (Rect.unit (s := S256x2048) ![0, 1024] S256x1024.size inb_S256x2048_S256x1024_0_1024)).write (Elt F)
        ((arg8.access (Rect.unit (s := S256x2048) ![0, 0] S256x1024.size inb_S256x2048_S256x1024_0_0)).write (Elt F) f8 (outL (tileRows c fs fh (i 0).val) x5 x6 x7) Finset.univ)
        (outR (tileRows c fs fh (i 0).val) x5 x6 x7) Finset.univ)
      isplitr; · ipureintro; exact halves_read arg8 f8 (outL (tileRows c fs fh (i 0).val) x5 x6 x7) (outR (tileRows c fs fh (i 0).val) x5 x6 x7) inb_S256x2048_S256x1024_0_0 inb_S256x2048_S256x1024_0_1024
      iexact H8
    isplitl [HB1 HB2 HB3]
    · iexists _, _, _
      isplitr; · ipureintro; exact fun _ => ⟨rfl, rfl, rfl⟩
      isplitl [HB1]; · iexact HB1
      isplitl [HB2]; · iexact HB2
      iexact HB3
    iexact HO
  · have h2 : ¬ k0_cond2 i (nuW c fn) = 1#1 := fun h => hl ((cond2_iff i _).mp h)
    have h4 : k0_cond4 i (nuW c fn) = 1#1 := (cond4_iff i _).mpr hl
    rw [if_neg hl]
    simp only [dif_pos h4, dif_neg h2]
    iintro ⟨HM, HT, HE, HN, H5, H6, H7, ⟨%d, H8⟩, HB1, HB2, HB3, HO⟩
    unfold owns
    icases H8 with ⟨%f8, -, H8⟩
    unfold midAt
    icases HM with ⟨Hh, HR, ⟨%g, HR1⟩, HS, HS1⟩
    imod (iss_begin c fs fh (((i 0).val + 1) % 2) (nx (i 0).val) (semS (((i 0).val + 1) % 2)) q g) $$ [HT Hh HR1 HS1] with ⟨Hd, HI⟩
    · isplitl [HT]; · iexact HT
      isplitl [Hh]; · iexact Hh
      isplitl [HR1]; · iexact HR1
      iexact HS1
    rw [wp_bind]
    iapply (wp_wand_r _ _ _)
    isplitl [HI]
    · iapply (wp_t5 i arg5 harg5 arg6 harg6 arg7 harg7 arg8 harg8 c fs fh hsrc q g (nuW c fn) h4); iexact HI
    rw [trips5]
    iintro %_ HI
    ihave HF := (iss_end c fs fh (((i 0).val + 1) % 2) (nx (i 0).val) (semS (((i 0).val + 1) % 2)) q g) $$ [Hd HI]
    · isplitl [Hd]; · iexact Hd
      iexact HI
    icases HF with ⟨HT, HF⟩
    rw [wp_bind]
    iapply (wp_ld c arg8 _ _ arg8.view.set fullShare _ (View.set_slice_subset _ _))
    isplitl [H8]; · iexact H8
    iintro H8
    rw [wp_bind]
    iapply (wp_stRect c arg8 _ _ _ _ _)
    isplitl [H8]; · iexact H8
    iintro H8
    iapply (wp_wand_r _ _ _)
    isplitl [HF HR HS HO]
    · iapply (wp_last i arg5 harg5 arg6 harg6 arg7 harg7 arg8 harg8 c fs fh W1)
      unfold nextAt
      isplitl [HF HR HS]
      · isplitl [HF]; · iexact HF
        isplitl [HR]; · iexact HR
        iexact HS
      iexact HO
    iintro %_ ⟨HG, HO⟩
    isplitl [HG]; · iexact HG
    isplitl [HT]; · iexact HT
    isplitl [HE]; · iexact HE
    isplitl [HN]; · iexact HN
    isplitl [H5]; · iexact H5
    isplitl [H6]; · iexact H6
    isplitl [H7]; · iexact H7
    isplitl [H8]
    · iexists ((arg8.access (Rect.unit (s := S256x2048) ![0, 0] S256x2048.size inb_S256x2048_S256x2048_0_0)).write (Elt F) f8 (k0_pay4 (F := F)) Finset.univ)
      isplitr; · ipureintro; exact whole_read (s := S256x2048) arg8 f8 ![0, 0] (by funext a; fin_cases a <;> rfl) (k0_pay4 (F := F)) inb_S256x2048_S256x2048_0_0
      iexact H8
    isplitl [HB1 HB2 HB3]
    · iexists b1, b2, b3
      isplitr; · ipureintro; exact fun h => absurd h hl
      isplitl [HB1]; · iexact HB1
      isplitl [HB2]; · iexact HB2
      iexact HB3
    iexact HO

set_option maxHeartbeats 2000000 in
/-- One point of the grid. -/
theorem wp_point (c : Dev nD) (fs : SrcBuf F c) (fh : HBuf F c) (hsrc : ∀ j < 22528, (srcW c fs j).toNat < 9216) (ft : TeBuf F c) (fn : NuBuf F c) (q q1 q3 : PosShare TreeShare) (x5 x6 : Vec F S1x1x2048x512 .f32) (x7 : Vec F S1x1x512x2048 .f32) (b1 : Buf (Elt F) ((c : Thread nD τ).loc cc0_scratch1)) (b2 : Buf (Elt F) ((c : Thread nD τ).loc cc0_scratch2)) (b3 : Buf (Elt F) ((c : Thread nD τ).loc cc0_scratch3)) (W : Waits sig Unit)
    (hkeep : live (i 0).val (nuW c fn) → (i 0).val ≠ 0 → teW c ft (i 0).val = teW c ft ((i 0).val - 1) → b1 = k0_pay5 x5 ∧ b2 = k0_pay6 x6 ∧ b3 = k0_pay7 x7) :
    iprop(ringAt c fs fh (i 0).val ∗ ((c : Thread nD τ).loc main_arg2 ↦{q} fs) ∗ ((c : Thread nD τ).loc main_arg1 ↦{q1} ft) ∗ ((c : Thread nD τ).loc main_arg3 ↦{q3} fn) ∗ owns (c : Thread nD τ) arg5 fullShare x5 ∗ owns (c : Thread nD τ) arg6 fullShare x6 ∗ owns (c : Thread nD τ) arg7 fullShare x7 ∗ (∃ d, owns (c : Thread nD τ) arg8 fullShare d) ∗ ((c : Thread nD τ).loc cc0_scratch1 ↦{fullShare} b1) ∗ ((c : Thread nD τ).loc cc0_scratch2 ↦{fullShare} b2) ∗ ((c : Thread nD τ).loc cc0_scratch3 ↦{fullShare} b3) ∗ owes (c : Thread nD τ) 0 W)
      ⊢ wp frame (wpE (defs₀ (F := F)) Variants.none (c : Thread nD τ) none) Set.univ (cc0_moe_experts (F := F) i (Memref.whole main_arg1) (Memref.isWhole_whole _) (Memref.whole main_arg2) (Memref.isWhole_whole _) (Memref.whole main_arg3) (Memref.isWhole_whole _) (Memref.whole main_arg0) (Memref.isWhole_whole _) arg5 harg5 arg6 harg6 arg7 harg7 arg8 harg8 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4)
          (fun _ => iprop(ringAt c fs fh ((i 0).val + 1) ∗ ((c : Thread nD τ).loc main_arg2 ↦{q} fs) ∗ ((c : Thread nD τ).loc main_arg1 ↦{q1} ft) ∗ ((c : Thread nD τ).loc main_arg3 ↦{q3} fn) ∗ owns (c : Thread nD τ) arg5 fullShare x5 ∗ owns (c : Thread nD τ) arg6 fullShare x6 ∗ owns (c : Thread nD τ) arg7 fullShare x7 ∗ owns (c : Thread nD τ) arg8 fullShare (blk c fs fh fn (i 0).val x5 x6 x7)
            ∗ (∃ (w1 : Buf (Elt F) ((c : Thread nD τ).loc cc0_scratch1)) (w2 : Buf (Elt F) ((c : Thread nD τ).loc cc0_scratch2)) (w3 : Buf (Elt F) ((c : Thread nD τ).loc cc0_scratch3)), ⌜live (i 0).val (nuW c fn) → w1 = k0_pay5 x5 ∧ w2 = k0_pay6 x6 ∧ w3 = k0_pay7 x7⌝ ∗ ((c : Thread nD τ).loc cc0_scratch1 ↦{fullShare} w1) ∗ ((c : Thread nD τ).loc cc0_scratch2 ↦{fullShare} w2) ∗ ((c : Thread nD τ).loc cc0_scratch3 ↦{fullShare} w3))
            ∗ ∃ W' : Waits sig Unit, owes (c : Thread nD τ) 0 W')) := by
  have hlt := lt88 i
  rw [cc0_moe_experts_eq_skeleton]
  unfold cc0_moe_experts_skel
  iintro ⟨HG, HT, HE, HN, H5, H6, H7, ⟨%d, H8⟩, HB1, HB2, HB3, HO⟩
  rw [wp_bind]
  iapply (wp_wand_r _ _ _)
  isplitl [HG HT HN HO]
  · iapply (wp_head i arg5 harg5 arg6 harg6 arg7 harg7 arg8 harg8 c fs fh hsrc fn q q3 W)
    isplitl [HG]; · iexact HG
    isplitl [HT]; · iexact HT
    isplitl [HN]; · iexact HN
    iexact HO

  iintro %r ⟨%hr, HM, HT, HN, ⟨%W1, HO⟩⟩
  obtain ⟨a0, v0, v10, v25, v31, v18⟩ := r
  obtain ⟨rfl, rfl⟩ := hr
  iapply (wp_rest i arg5 harg5 arg6 harg6 arg7 harg7 arg8 harg8 c fs fh hsrc ft fn q q1 q3 x5 x6 x7 b1 b2 b3 W1 v10 v25 hkeep)
  isplitl [HM]; · iexact HM
  isplitl [HT]; · iexact HT
  isplitl [HE]; · iexact HE
  isplitl [HN]; · iexact HN
  isplitl [H5]; · iexact H5
  isplitl [H6]; · iexact H6
  isplitl [H7]; · iexact H7
  isplitl [H8]; · iexists d; iexact H8
  isplitl [HB1]; · iexact HB1
  isplitl [HB2]; · iexact HB2
  isplitl [HB3]; · iexact HB3
  iexact HO

end Cert.KernelIdeal.Gen

end
-- ==== Proof.Blocks.lean ====
module

public import proofs.«01_k».proof.Proof.Point
public import Idealize.ShloMosaic.Lib.Pipeline.FrameBody
public import Idealize.ShloMosaic.Lib.Pipeline.Kit
public import Idealize.ShloMosaic.Lib.Pipeline.ValueKit
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix1 ix2 ix3 eq_ix1 eq_ix2 eq_ix3)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the region finds -/

/-- The buffers when the region is entered: as launched, the program being the region alone. -/
abbrev V (c : Dev nD) (b : Ref sig .tc) : Buf (Elt F) ((c : Thread nD τ).loc b) := m ((c : Thread nD τ).loc b)

set_option maxHeartbeats 800000 in
/-- The program up to the region. -/
theorem upToRegion (𝒱₀ : Variants) : Pipeline.HMainP (Ix := Unit) (Name := ℕ) (U := Pipeline.UD sig nD τ) (Lvl := ℕ) pcfgs 0 defs₀ 𝒱₀ m (main (F := F)) (V m) :=
  Pipeline.hmainP_region pcfgs 0 defs₀ 𝒱₀ m main fun c => (main_chain c).trans rfl

/-- The three tables' contents. -/
def tbl : pre0.Contents (Elt F) := fun j => V m (0 : Dev nD) (pre0.ref j)

/-- Every device holds them, there being one. -/
theorem tbl_eq (c : Dev nD) (j : Fin 3) : V m c (pre0.ref j) = tbl m j := by
  obtain rfl : c = 0 := Subsingleton.elim _ _; rfl

/-- The experts' words name blocks of the weights. -/
abbrev Ok : Prop := ok0 (F := F) (tbl m)

/-- The rows' words name rows of the operand. -/
def Rows : Prop := ∀ (c : Dev nD), ∀ j < 22528, (srcW c (V m c main_arg2) j).toNat < 9216

/-- The pipeline at those tables. -/
abbrev adm (hO : Ok m) : (pcfg0 (F := F)).Adm := ⟨tbl m, hO⟩
abbrev cfgM (hO : Ok m) : Pipeline.Cfg sig Λ₀ := cfg0 (adm m hO)

/-- A point's one coordinate is its number. -/
theorem coord_val : ∀ t : Fin grid0.N, ((grid0.coords t) 0).val = t.val := by decide +kernel

/-- The tables the region hands the body, one by one. -/
theorem tables_eq (c : Dev nD) : (Pipeline.ΦT pre0 (tbl m) c : sProp 𝕄)
    = iprop(((c : Thread nD τ).loc main_arg1 ↦{fullShare.right} V m c main_arg1) ∗ ((c : Thread nD τ).loc main_arg2 ↦{fullShare.right} V m c main_arg2)
      ∗ ((c : Thread nD τ).loc main_arg3 ↦{fullShare.right} V m c main_arg3)) := by
  obtain rfl : c = 0 := Subsingleton.elim _ _
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

/-! ## The body's own cells, and the operand it reads by its own transfers -/

/-- The two completion cells. -/
abbrev cells : Fin 2 → SemLoc sig := fun j => (![SemLoc.dma 8, SemLoc.dma 9] : Fin 2 → SemLoc sig) j
theorem cells_own : Pipeline.OwnSemFacts spec0 cells := by decide
theorem cells_eq (c : Dev nD) :
    (Pipeline.ownSems0 (Ix := Unit) (Name := ℕ) (U := Pipeline.UD sig nD τ) (Lvl := ℕ) (Val := Elt F) (τ := τ) cells c : sProp 𝕄)
      = iprop(semVal ((c : Thread nD τ), SemLoc.dma 8) 0 ∗ semVal ((c : Thread nD τ), SemLoc.dma 9) 0) := by
  rw [Pipeline.ownSems0_eq_of_list c cells [0, 1] (by decide) (by decide)]; rfl
def hbmSet : Finset (Ref sig .tc) := {main_arg0}
theorem hbmSet_sub : hbmSet ⊆ Pipeline.restRefsP sig pre0 spec0 := by decide
theorem hbm_eq (c : Dev nD) :
    (bigSep hbmSet (fun b => ((c : Thread nD τ).loc b) ↦{fullShare} V m c b) : sProp 𝕄) = iprop(((c : Thread nD τ).loc main_arg0 ↦{fullShare} V m c main_arg0)) := by
  unfold hbmSet; rw [bigSep_singleton]

/-- What the region hands the body besides the tables, one by one. -/
theorem rest_eq (c : Dev nD) :
    (Pipeline.ΦD cells spec0 hbmSet (V m) c : sProp 𝕄)
      = iprop(((∃ f : Buf (Elt F) ((c : Thread nD τ).loc cc0_scratch0), ((c : Thread nD τ).loc cc0_scratch0 ↦{fullShare} f))
          ∗ (∃ f : Buf (Elt F) ((c : Thread nD τ).loc cc0_scratch1), ((c : Thread nD τ).loc cc0_scratch1 ↦{fullShare} f))
          ∗ (∃ f : Buf (Elt F) ((c : Thread nD τ).loc cc0_scratch2), ((c : Thread nD τ).loc cc0_scratch2 ↦{fullShare} f))
          ∗ (∃ f : Buf (Elt F) ((c : Thread nD τ).loc cc0_scratch3), ((c : Thread nD τ).loc cc0_scratch3 ↦{fullShare} f)))
        ∗ (∃ r, prngReg c r) ∗ (semVal ((c : Thread nD τ), SemLoc.dma 8) 0 ∗ semVal ((c : Thread nD τ), SemLoc.dma 9) 0)
        ∗ ((c : Thread nD τ).loc main_arg0 ↦{fullShare} V m c main_arg0)) := by
  rw [Pipeline.ΦD_eq, scopedRest0_eq, cells_eq, hbm_eq]

/-! ## The windows' blocks -/

/-- Window `w`'s block at point `t`. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- The table word the windows' index maps read. -/
theorem word_eq (i : grid0.Coords) : (tbl m).at 0 (Rect.unit (s := S88) ![(Scalar.indexCast (BitVec.ofNat 32 (i 0).val)).toNat] S1.size (k0_off1_inb i)) numel1_S1 = teW (0 : Dev nD) (V m 0 main_arg1) (i 0).val := by
  have hlt := lt88 i
  unfold teW tbl
  show V m 0 main_arg1 _ = V m 0 main_arg1 _
  refine congrArg _ ?_
  funext a
  apply Fin.ext
  fin_cases a
  show (BitVec.ofNat 32 (i 0).val).toNat + 1 * 0 = min (i 0).val 87
  rw [BitVec.toNat_ofNat, Nat.mod_eq_of_lt (by omega)]; omega

/-- Where the weights' windows stand at a point. -/
theorem ix0_eq (i : grid0.Coords) : cc0_transform_1 k0_off1_inb numel1_S1 (tbl m) i = ![0, (teW (0 : Dev nD) (V m 0 main_arg1) (i 0).val).toNat, 0, 0] := by
  rw [← word_eq m i]; rfl
theorem ix1_eq (i : grid0.Coords) : cc0_transform_2 k0_off1_inb numel1_S1 (tbl m) i = ![0, (teW (0 : Dev nD) (V m 0 main_arg1) (i 0).val).toNat, 0, 0] := by
  rw [← word_eq m i]; rfl
theorem ix2_eq (i : grid0.Coords) : cc0_transform_3 k0_off1_inb numel1_S1 (tbl m) i = ![0, (teW (0 : Dev nD) (V m 0 main_arg1) (i 0).val).toNat, 0, 0] := by
  rw [← word_eq m i]; rfl

/-- The expert of a point, as a block of the weights. -/
theorem expert_lt (hO : Ok m) (i : grid0.Coords) : (teW (0 : Dev nD) (V m 0 main_arg1) (i 0).val).toNat < 16 := by
  obtain ⟨h, -⟩ := hO.1 i
  have h1 := h 1
  rw [ix0_eq] at h1
  have h2 : ((teW (0 : Dev nD) (V m 0 main_arg1) (i 0).val).toNat + 1) * 1 ≤ 16 := h1
  omega

/-- A weight window's block is its expert's matrix. -/
theorem iblk0_apply (hO : Ok m) (c : Dev nD) (t : Fin (cfgM m hO).N) (y : S1x1x2048x512.Idx) :
    (iblk m hO c 0 t : Vec F S1x1x2048x512 .f32) y = V m c main_arg4 (ValueIdx.ix4 (n0 := 4) (n1 := 16) (n2 := 2048) (n3 := 512) 0 ⟨_, expert_lt m hO (grid0.coords t)⟩ (y 2) (y 3)) := by
  unfold iblk
  show V m c main_arg4 _ = V m c main_arg4 _
  refine congrArg _ ?_
  funext a
  apply Fin.ext
  have e := ix0_eq m (grid0.coords t)
  have h0 : (y 0).val < 1 := (y 0).isLt
  have h1 : (y 1).val < 1 := (y 1).isLt
  show cc0_transform_1 k0_off1_inb numel1_S1 (tbl m) (grid0.coords t) a * S1x1x2048x512.size a + 1 * (y a).val = _
  rw [e]
  fin_cases a
  · show 0 * 1 + 1 * (y 0).val = 0; omega
  · show (teW (0 : Dev nD) (V m 0 main_arg1) ((grid0.coords t) 0).val).toNat * 1 + 1 * (y 1).val = (teW (0 : Dev nD) (V m 0 main_arg1) ((grid0.coords t) 0).val).toNat; omega
  · show 0 * 2048 + 1 * (y 2).val = (y 2).val; omega
  · show 0 * 512 + 1 * (y 3).val = (y 3).val; omega
theorem iblk1_apply (hO : Ok m) (c : Dev nD) (t : Fin (cfgM m hO).N) (y : S1x1x2048x512.Idx) :
    (iblk m hO c 1 t : Vec F S1x1x2048x512 .f32) y = V m c main_arg5 (ValueIdx.ix4 (n0 := 4) (n1 := 16) (n2 := 2048) (n3 := 512) 0 ⟨_, expert_lt m hO (grid0.coords t)⟩ (y 2) (y 3)) := by
  unfold iblk
  show V m c main_arg5 _ = V m c main_arg5 _
  refine congrArg _ ?_
  funext a
  apply Fin.ext
  have e := ix1_eq m (grid0.coords t)
  have h0 : (y 0).val < 1 := (y 0).isLt
  have h1 : (y 1).val < 1 := (y 1).isLt
  show cc0_transform_2 k0_off1_inb numel1_S1 (tbl m) (grid0.coords t) a * S1x1x2048x512.size a + 1 * (y a).val = _
  rw [e]
  fin_cases a
  · show 0 * 1 + 1 * (y 0).val = 0; omega
  · show (teW (0 : Dev nD) (V m 0 main_arg1) ((grid0.coords t) 0).val).toNat * 1 + 1 * (y 1).val = (teW (0 : Dev nD) (V m 0 main_arg1) ((grid0.coords t) 0).val).toNat; omega
  · show 0 * 2048 + 1 * (y 2).val = (y 2).val; omega
  · show 0 * 512 + 1 * (y 3).val = (y 3).val; omega
theorem iblk2_apply (hO : Ok m) (c : Dev nD) (t : Fin (cfgM m hO).N) (y : S1x1x512x2048.Idx) :
    (iblk m hO c 2 t : Vec F S1x1x512x2048 .f32) y = V m c main_arg6 (ValueIdx.ix4 (n0 := 4) (n1 := 16) (n2 := 512) (n3 := 2048) 0 ⟨_, expert_lt m hO (grid0.coords t)⟩ (y 2) (y 3)) := by
  unfold iblk
  show V m c main_arg6 _ = V m c main_arg6 _
  refine congrArg _ ?_
  funext a
  apply Fin.ext
  have e := ix2_eq m (grid0.coords t)
  have h0 : (y 0).val < 1 := (y 0).isLt
  have h1 : (y 1).val < 1 := (y 1).isLt
  show cc0_transform_3 k0_off1_inb numel1_S1 (tbl m) (grid0.coords t) a * S1x1x512x2048.size a + 1 * (y a).val = _
  rw [e]
  fin_cases a
  · show 0 * 1 + 1 * (y 0).val = 0; omega
  · show (teW (0 : Dev nD) (V m 0 main_arg1) ((grid0.coords t) 0).val).toNat * 1 + 1 * (y 1).val = (teW (0 : Dev nD) (V m 0 main_arg1) ((grid0.coords t) 0).val).toNat; omega
  · show 0 * 512 + 1 * (y 2).val = (y 2).val; omega
  · show 0 * 2048 + 1 * (y 3).val = (y 3).val; omega

/-- Points of one expert have one set of weights. -/
theorem iblk_same (hO : Ok m) (c : Dev nD) (t t' : Fin (cfgM m hO).N)
    (h : teW (0 : Dev nD) (V m 0 main_arg1) ((grid0.coords t) 0).val = teW (0 : Dev nD) (V m 0 main_arg1) ((grid0.coords t') 0).val) :
    (iblk m hO c 0 t : Vec F S1x1x2048x512 .f32) = iblk m hO c 0 t' ∧ (iblk m hO c 1 t : Vec F S1x1x2048x512 .f32) = iblk m hO c 1 t'
      ∧ (iblk m hO c 2 t : Vec F S1x1x512x2048 .f32) = iblk m hO c 2 t' := by
  have e : (⟨_, expert_lt m hO (grid0.coords t)⟩ : Fin 16) = ⟨_, expert_lt m hO (grid0.coords t')⟩ := Fin.ext (congrArg BitVec.toNat h)
  refine ⟨?_, ?_, ?_⟩
  · funext y; refine (iblk0_apply m hO c t y).trans (Eq.trans ?_ (iblk0_apply m hO c t' y).symm); rw [e]
  · funext y; refine (iblk1_apply m hO c t y).trans (Eq.trans ?_ (iblk1_apply m hO c t' y).symm); rw [e]
  · funext y; refine (iblk2_apply m hO c t y).trans (Eq.trans ?_ (iblk2_apply m hO c t' y).symm); rw [e]

/-- The output window is written at every point: a tile is in use or it is not. -/
theorem busy (hO : Ok m) (t : Fin (cfgM m hO).N) : (cfgM m hO).idle 3 ((cfgM m hO).grid.coords t) = false := by
  show (!(k0_cond2 (grid0.coords t) ((tbl m).atD 2 ![0]) == 1#1) && !(k0_cond4 (grid0.coords t) ((tbl m).atD 2 ![0]) == 1#1)) = false
  by_cases h : live ((grid0.coords t) 0).val ((tbl m).atD 2 ![0])
  · rw [(cond2_iff _ _).mpr h]; rfl
  · rw [(cond4_iff _ _).mpr h]; simp

end Cert.KernelIdeal.Gen

end
-- ==== Proof.Run.lean ====
module

public import proofs.«01_k».proof.Proof.Blocks
public import Idealize.ShloMosaic.Lib.Pipeline.FrameBody
public import Idealize.ShloMosaic.Lib.Pipeline.Kit
public import Idealize.ShloMosaic.Lib.Pipeline.ValueKit
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix1 ix2 ix3 eq_ix1 eq_ix2 eq_ix3)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The proof data -/

/-- The weights' scratch before point `t`: after a tile in use, its expert's weights. -/
def keepAt (hO : Ok m) (c : Dev nD) (t : ℕ) : sProp 𝕄 :=
  iprop(∃ (b1 : Buf (Elt F) ((c : Thread nD τ).loc cc0_scratch1)) (b2 : Buf (Elt F) ((c : Thread nD τ).loc cc0_scratch2)) (b3 : Buf (Elt F) ((c : Thread nD τ).loc cc0_scratch3)),
    ⌜∀ u : Fin (cfgM m hO).N, t = u.val + 1 → live u.val (nuW c (V m c main_arg3)) → b1 = k0_pay5 (iblk m hO c 0 u) ∧ b2 = k0_pay6 (iblk m hO c 1 u) ∧ b3 = k0_pay7 (iblk m hO c 2 u)⌝
    ∗ ((c : Thread nD τ).loc cc0_scratch1 ↦{fullShare} b1) ∗ ((c : Thread nD τ).loc cc0_scratch2 ↦{fullShare} b2) ∗ ((c : Thread nD τ).loc cc0_scratch3 ↦{fullShare} b3))

/-- The block a point writes back. -/
def outBlk (hO : Ok m) (c : Dev nD) (t : Fin (cfgM m hO).N) : Vec F S256x2048 .f32 :=
  blk c (V m c main_arg2) (V m c main_arg0) (V m c main_arg3) t.val (iblk m hO c 0 t) (iblk m hO c 1 t) (iblk m hO c 2 t)

/-- What the body holds between points: the gather, the tables, the register and the weights' scratch. -/
def between (hO : Ok m) (c : Dev nD) (t : ℕ) : sProp 𝕄 :=
  iprop(ringAt c (V m c main_arg2) (V m c main_arg0) t
    ∗ (((c : Thread nD τ).loc main_arg1 ↦{fullShare.right} V m c main_arg1) ∗ ((c : Thread nD τ).loc main_arg2 ↦{fullShare.right} V m c main_arg2)
      ∗ ((c : Thread nD τ).loc main_arg3 ↦{fullShare.right} V m c main_arg3))
    ∗ (∃ r, prngReg c r) ∗ keepAt m hO c t)

/-- The pipeline's proof data. -/
def dats (hO : Ok m) (_ : Fin 1) (c : Dev nD) : Dat τ (Elt F) Unit ℕ (Pipeline.UD sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => outBlk m hO c t
  Φ t := between m hO c t.val
  q _ := fullShare
  owed _ := 0

theorem A_eq (hO : Ok m) (c : Dev nD) (w : Fin (cfgM m hO).W) : (dats m hO 0 c).A w = V m c (Pipeline.arrRef spec0 w) := by
  dsimp only [dats]
theorem after_0 (hO : Ok m) (c : Dev nD) (t : Fin (cfgM m hO).N) : (dats m hO 0 c).after 0 t = iblk m hO c 0 t := by dsimp only [dats]; try rfl
theorem after_1 (hO : Ok m) (c : Dev nD) (t : Fin (cfgM m hO).N) : (dats m hO 0 c).after 1 t = iblk m hO c 1 t := by dsimp only [dats]; try rfl
theorem after_2 (hO : Ok m) (c : Dev nD) (t : Fin (cfgM m hO).N) : (dats m hO 0 c).after 2 t = iblk m hO c 2 t := by dsimp only [dats]; try rfl
theorem after_3 (hO : Ok m) (c : Dev nD) (t : Fin (cfgM m hO).N) : (dats m hO 0 c).after 3 t = outBlk m hO c t := by dsimp only [dats]; try rfl

/-- Each weight window's buffer holds its block when the body is called. -/
theorem before_0 (hO : Ok m) (c : Dev nD) (t : Fin (cfgM m hO).N) (d) : (dats m hO 0 c).before 0 t d = iblk m hO c 0 t :=
  ((dats m hO 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (hO : Ok m) (c : Dev nD) (t : Fin (cfgM m hO).N) (d) : (dats m hO 0 c).before 1 t d = iblk m hO c 1 t :=
  ((dats m hO 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (hO : Ok m) (c : Dev nD) (t : Fin (cfgM m hO).N) (d) : (dats m hO 0 c).before 2 t d = iblk m hO c 2 t :=
  ((dats m hO 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)

/-! ## The body at a point -/

/-- The body as the pipeline calls it. -/
abbrev bodyAt (hO : Ok m) (t : Fin (cfgM m hO).N) : Prog (TpuEff nD τ sig (Elt F) Λ₀ .tc) PUnit :=
  cc0_moe_experts (grid0.coords t) (Memref.whole main_arg1) (Memref.isWhole_whole _) (Memref.whole main_arg2) (Memref.isWhole_whole _) (Memref.whole main_arg3) (Memref.isWhole_whole _) (Memref.whole main_arg0) (Memref.isWhole_whole _)
    (spec0_0.stage ((cfgM m hO).slots t 0)) (hstage0_0 (((cfgM m hO).slots t 0).cast nbuf0_0)) (spec0_1.stage ((cfgM m hO).slots t 1)) (hstage0_1 (((cfgM m hO).slots t 1).cast nbuf0_1)) (spec0_2.stage ((cfgM m hO).slots t 2)) (hstage0_2 (((cfgM m hO).slots t 2).cast nbuf0_2)) (spec0_3.stage ((cfgM m hO).slots t 3)) (hstage0_3 (((cfgM m hO).slots t 3).cast nbuf0_3))
    (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4

/-- What it is called with, and what it returns. -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (spec0_0.stage ((cfgM m hO).slots t 0)) fullShare ((dats m hO 0 c).before 0 t d)) ∗ (∃ d, owns (c : Thread nD τ) (spec0_1.stage ((cfgM m hO).slots t 1)) fullShare ((dats m hO 0 c).before 1 t d)) ∗ (∃ d, owns (c : Thread nD τ) (spec0_2.stage ((cfgM m hO).slots t 2)) fullShare ((dats m hO 0 c).before 2 t d)) ∗ (∃ d, owns (c : Thread nD τ) (spec0_3.stage ((cfgM m hO).slots t 3)) fullShare ((dats m hO 0 c).before 3 t d)))
def bodyPost (hO : Ok m) (c : Dev nD) (t : Fin (cfgM m hO).N) : sProp 𝕄 :=
  iprop((dats m hO 0 c).Φ t.succ ∗ (dats m hO 0 c).owesAt () t.succ
    ∗ owns (c : Thread nD τ) (spec0_0.stage ((cfgM m hO).slots t 0)) fullShare ((dats m hO 0 c).after 0 t) ∗ owns (c : Thread nD τ) (spec0_1.stage ((cfgM m hO).slots t 1)) fullShare ((dats m hO 0 c).after 1 t) ∗ owns (c : Thread nD τ) (spec0_2.stage ((cfgM m hO).slots t 2)) fullShare ((dats m hO 0 c).after 2 t) ∗ owns (c : Thread nD τ) (spec0_3.stage ((cfgM m hO).slots t 3)) fullShare ((dats m hO 0 c).after 3 t))

/-- The scratch's contents serve a tile whose expert is the tile's before it. -/
theorem keep_serves (hO : Ok m) (c : Dev nD) (t : Fin (cfgM m hO).N) (b1 : Buf (Elt F) ((c : Thread nD τ).loc cc0_scratch1)) (b2 : Buf (Elt F) ((c : Thread nD τ).loc cc0_scratch2)) (b3 : Buf (Elt F) ((c : Thread nD τ).loc cc0_scratch3))
    (h : ∀ u : Fin (cfgM m hO).N, t.val = u.val + 1 → live u.val (nuW c (V m c main_arg3)) → b1 = k0_pay5 (iblk m hO c 0 u) ∧ b2 = k0_pay6 (iblk m hO c 1 u) ∧ b3 = k0_pay7 (iblk m hO c 2 u))
    (hl : live ((grid0.coords t) 0).val (nuW c (V m c main_arg3))) (h0 : ((grid0.coords t) 0).val ≠ 0)
    (ht : teW c (V m c main_arg1) ((grid0.coords t) 0).val = teW c (V m c main_arg1) (((grid0.coords t) 0).val - 1)) :
    b1 = k0_pay5 (iblk m hO c 0 t) ∧ b2 = k0_pay6 (iblk m hO c 1 t) ∧ b3 = k0_pay7 (iblk m hO c 2 t) := by
  obtain rfl : c = 0 := Subsingleton.elim _ _
  have ht0 : ((grid0.coords t) 0).val = t.val := coord_val t
  have hlt : t.val < 88 := by have := lt88 (grid0.coords t); omega
  have hN : t.val - 1 < (cfgM m hO).N := lt_of_le_of_lt (Nat.sub_le _ _) t.isLt
  have hu0 : ((grid0.coords (⟨t.val - 1, hN⟩ : Fin (cfgM m hO).N)) 0).val = t.val - 1 := coord_val _
  have hs := h ⟨t.val - 1, hN⟩ (by show t.val = t.val - 1 + 1; omega) (live_mono (by show t.val - 1 ≤ _; omega) hl)
  have e := iblk_same m hO 0 t ⟨t.val - 1, hN⟩ (by rw [hu0, ht, ht0])
  rw [e.1, e.2.1, e.2.2]
  exact hs

/-- The body at any point. -/
theorem body_sound (hO : Ok m) (hR : Rows m) (c : Dev nD) (t : Fin (cfgM m hO).N) :
    bodyPre m hO c t ⊢ wp frame (wpE (defs₀ (F := F)) Variants.none c none) Set.univ (bodyAt m hO t) (fun _ => bodyPost m hO c t) := by
  have ht0 : ((grid0.coords t) 0).val = t.val := coord_val t
  unfold bodyPre bodyPost bodyAt
  simp only [before_0, before_1, before_2]
  rw [after_0, after_1, after_2, after_3]
  unfold Dat.owesAt Pipeline.owesWithin
  rw [show (dats m hO 0 c).owed t.castSucc = 0 from rfl, show (dats m hO 0 c).owed t.succ = 0 from rfl,
    show (dats m hO 0 c).Φ t.castSucc = between m hO c t.val from rfl, show (dats m hO 0 c).Φ t.succ = between m hO c (t.val + 1) from rfl]
  unfold between keepAt outBlk
  iintro ⟨⟨HG, ⟨HE, HT, HN⟩, HP, ⟨%b1, %b2, %b3, %hb, HB1, HB2, HB3⟩⟩, ⟨%W, -, HW⟩, ⟨%d0, H0⟩, ⟨%d1, H1⟩, ⟨%d2, H2⟩, ⟨%d3, H3⟩⟩
  iapply (wp_wand_r _ _ _)
  isplitl [HG HE HT HN HB1 HB2 HB3 HW H0 H1 H2 H3]
  · iapply (wp_point (grid0.coords t) _ _ _ _ _ _ _ _ c (V m c main_arg2) (V m c main_arg0) (hR c) (V m c main_arg1) (V m c main_arg3) fullShare.right fullShare.right fullShare.right
      (iblk m hO c 0 t) (iblk m hO c 1 t) (iblk m hO c 2 t) b1 b2 b3 W (keep_serves m hO c t b1 b2 b3 hb))
    isplitl [HG]; · rw [ht0]; iexact HG
    isplitl [HT]; · iexact HT
    isplitl [HE]; · iexact HE
    isplitl [HN]; · iexact HN
    isplitl [H0]; · iexact H0
    isplitl [H1]; · iexact H1
    isplitl [H2]; · iexact H2
    isplitl [H3]; · iexists _; iexact H3
    isplitl [HB1]; · iexact HB1
    isplitl [HB2]; · iexact HB2
    isplitl [HB3]; · iexact HB3
    iexact HW
  rw [ht0]
  iintro %_ ⟨HG, HT, HE, HN, H0, H1, H2, H3, ⟨%w1, %w2, %w3, %hw, HB1, HB2, HB3⟩, ⟨%W', HW⟩⟩
  isplitl [HG HT HE HN HP HB1 HB2 HB3]
  · isplitl [HG]; · iexact HG
    isplitl [HT HE HN]
    · isplitl [HE]; · iexact HE
      isplitl [HT]; · iexact HT
      iexact HN
    isplitl [HP]; · iexact HP
    iexists w1, w2, w3
    isplitr
    · ipureintro
      intro u hu hl
      obtain rfl : u = t := Fin.ext (by omega)
      exact hw hl
    isplitl [HB1]; · iexact HB1
    isplitl [HB2]; · iexact HB2
    iexact HB3
  isplitl [HW]
  · iexists W'; isplitr; · ipureintro; exact fun _ _ => Or.inl trivial
    iexact HW
  isplitl [H0]; · iexact H0
  isplitl [H1]; · iexact H1
  isplitl [H2]; · iexact H2
  iexact H3

/-- The body table's row is that body. -/
theorem row_eq (hO : Ok m) (t : Fin (cfgM m hO).N) :
    defs₀ (F := F) .tc (cfgM m hO).body ((cfgM m hO).bodyArgs t ((cfgM m hO).slots t)) = bodyAt m hO t := by
  unfold defs₀; rw [Defs.onTc_tc]

/-- The pipeline's obligation of the body. -/
theorem obligation (hO : Ok m) (hR : Rows m) (c : Dev nD) : BodyObligation (dats (F := F) m hO 0 c) (defs₀ (F := F)) Variants.none () Set.univ := fun t => by
  rw [bigSep_W0, bigSep_W0, row_eq m hO]
  refine triple_restated (body_sound m hO hR c t) rfl .rfl fun _ => ?_
  dsimp only
  rw [show idle0 (tbl m) 3 ((pcfg0.gridAt (tbl m)).coords t) = false from busy m hO t]
  exact .rfl

/-! ## The run -/

/-- What the region hands over is what the first point asks for. -/
theorem begins (hO : Ok m) (c : Dev nD) : (iprop(Pipeline.ΦD cells spec0 hbmSet (V m) c ∗ Pipeline.ΦT pre0 (tbl m) c) : sProp 𝕄) ⊢ between m hO c 0 := by
  rw [rest_eq, tables_eq]
  unfold between ringAt keepAt
  rw [if_pos (Or.inl rfl)]
  iintro ⟨⟨⟨HR, ⟨%b1, HB1⟩, ⟨%b2, HB2⟩, ⟨%b3, HB3⟩⟩, HP, ⟨HS0, HS1⟩, HH⟩, HT⟩
  isplitl [HR HS0 HS1 HH]
  · isplitl [HH]; · iexact HH
    isplitl [HR]; · iexact HR
    isplitl [HS0]; · iexact HS0
    iexact HS1
  isplitl [HT]; · iexact HT
  isplitl [HP]; · iexact HP
  iexists b1, b2, b3
  isplitr; · ipureintro; exact fun u hu => absurd hu (by omega)
  isplitl [HB1]; · iexact HB1
  isplitl [HB2]; · iexact HB2
  iexact HB3

/-- What the last point leaves is what the region takes back. -/
theorem ends (hO : Ok m) (c : Dev nD) : (between m hO c 88 : sProp 𝕄) ⊢ Pipeline.ΦD cells spec0 hbmSet (V m) c := by
  rw [rest_eq]
  unfold between ringAt keepAt
  rw [if_pos (Or.inr le_rfl)]
  iintro ⟨⟨HH, HR, HS0, HS1⟩, -, HP, ⟨%b1, %b2, %b3, -, HB1, HB2, HB3⟩⟩
  isplitl [HR HB1 HB2 HB3]
  · isplitl [HR]; · iexact HR
    isplitl [HB1]; · iexists b1; iexact HB1
    isplitl [HB2]; · iexists b2; iexact HB2
    iexists b3; iexact HB3
  isplitl [HP]; · iexact HP
  isplitl [HS0 HS1]
  · isplitl [HS0]; · iexact HS0
    iexact HS1
  iexact HH

set_option backward.isDefEq.respectTransparency.types false in
/-- The launch: the arrays end as the proof data say, and every counter at zero. -/
theorem run_main_quiescent (hO : Ok m) (hR : Rows m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_dma (Q' := _) pcfgs (fun _ => adm m hO) (dats m hO) (0 : Fin 1) launch0 cells defs₀ Variants.none cells_own hbmSet hbmSet_sub m ρ main
    (hbody := fun c => (obligation m hO hR c).loose) (hshare := fun c => (dats m hO 0 c).share_full fun _ => rfl)
    (howed := fun _ _ => rfl) (V := V m) (hmain := upToRegion m Variants.none) (hA := A_eq m hO) (hpf := tbl_eq m)
    (hin := fun c => begins m hO c) (hout := fun c => ends m hO c)

theorem run_main (hO : Ok m) (hR : Rows m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO hR)

/-- The arguments end as they began. -/
theorem unchanged (hO : Ok m) (hR : Rows m) : θ_run defs (onTc (τ := τ) (main (F := F))) ⟨m, fun _ => 0, ρ⟩ (fun r => ∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6)) :=
  (θ_run defs _ _).mono (fun _ h c => ⟨(h c).2 main_arg0 (by decide : main_arg0 ∈ Pipeline.restRefs sig spec0), (h c).2 main_arg1 (by decide : main_arg1 ∈ Pipeline.restRefs sig spec0), (h c).2 main_arg2 (by decide : main_arg2 ∈ Pipeline.restRefs sig spec0), (h c).2 main_arg3 (by decide : main_arg3 ∈ Pipeline.restRefs sig spec0),
      ((h c).1 0).trans (((dats m hO 0 c).arrAt_in 0 rfl _).trans (A_eq m hO c 0)), ((h c).1 1).trans (((dats m hO 0 c).arrAt_in 1 rfl _).trans (A_eq m hO c 1)), ((h c).1 2).trans (((dats m hO 0 c).arrAt_in 2 rfl _).trans (A_eq m hO c 2))⟩) (run_main m ρ hO hR)

/-- The frame: every weakly fair run ends, its arguments unchanged and its counters at zero. -/
theorem frame (hO : Ok m) (hR : Rows m) : θ_run defs (onTc (τ := τ) (main (F := F))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6))
      ∧ r.2.sem = fun _ => 0) :=
  θ_run_and (unchanged m ρ hO hR) ((θ_run defs _ _).mono (fun _ h => h.2) (run_main_quiescent m ρ hO hR))

end Cert.KernelIdeal.Gen

end
-- ==== Proof.Range.lean ====
module

public import proofs.«01_k».proof.Proof.Blocks
public import proofs.«01_k».proof.Proof.Gen.Pre_rows_in_range
public import Idealize.ShloMosaic.Lib.Pipeline.Value

@[expose] public section

noncomputable section

namespace Cert.KernelIdeal.Gen

open Cert.KernelIdeal Idealize.ShloMosaic Idealize.ShloMosaic.TcCoe
open Idealize.SL.Sem

variable {F : FTy → Type} [FloatOps F]

/-- A word at least nought and below a bound `n`, as the precondition's bits say it, is below `n` as a natural number. -/
theorem toNat_lt_of_bits (x n : BitVec 32) (hn : n.toNat < 2 ^ 31)
    (h : IntOp.andi (IntOp.cmpi .sge x 0#32) (IntOp.cmpi .slt x n) = 1#1) : x.toNat < n.toNat := by
  simp only [IntOp.andi, IntOp.cmpi] at h
  by_cases h0 : (0#32).sle x = true
  · by_cases h1 : x.slt n = true
    · have h2 : (0 : ℤ) ≤ x.toInt := by simpa [BitVec.sle] using h0
      have h3 : x.toInt < n.toInt := by simpa [BitVec.slt] using h1
      rw [BitVec.toInt_eq_toNat_cond] at h2 h3
      rw [BitVec.toInt_eq_toNat_cond] at h3
      have := x.isLt
      split at h2 <;> split at h3 <;> omega
    · simp [h1] at h
  · simp [h0] at h

variable [hP : Cert.Pre_rows_in_range.Facts]

/-- The precondition read at the table of experts. -/
theorem experts_lt (a0 a1 a2 a3 a4 a5 a6) (h : Cert.Pre_rows_in_range.fn (F := F) a0 a1 a2 a3 a4 a5 a6 = fun _ => 1#1) (j : Fin 88) :
    (a1 (ValueIdx.ix1 j)).toNat < 16 := by
  have h1 := congrFun h (ValueIdx.ix1 (n := 22616) ⟨j.val, by omega⟩)
  unfold Cert.Pre_rows_in_range.fn at h1
  dsimp only at h1
  rw [concatenate_pair_apply_left (t := Cert.Pre_rows_in_range.S22616) (s₁ := Cert.Pre_rows_in_range.S88) (s₂ := Cert.Pre_rows_in_range.S22528) 0 _ _ _ _ rfl (ValueIdx.ix1 j) (fun b => by fin_cases b; rfl)] at h1
  exact toNat_lt_of_bits (a1 (ValueIdx.ix1 j)) 16#32 (by decide) h1

/-- The precondition read at the table of rows. -/
theorem sources_lt (a0 a1 a2 a3 a4 a5 a6) (h : Cert.Pre_rows_in_range.fn (F := F) a0 a1 a2 a3 a4 a5 a6 = fun _ => 1#1) (j : Fin 22528) :
    (a2 (ValueIdx.ix1 j)).toNat < 9216 := by
  have h1 := congrFun h (ValueIdx.ix1 (n := 22616) ⟨88 + j.val, by omega⟩)
  unfold Cert.Pre_rows_in_range.fn at h1
  dsimp only at h1
  rw [concatenate_pair_apply_right (t := Cert.Pre_rows_in_range.S22616) (s₁ := Cert.Pre_rows_in_range.S88) (s₂ := Cert.Pre_rows_in_range.S22528) 0 _ _ _ _ rfl rfl (ValueIdx.ix1 j) (fun b hb => by fin_cases b; exact absurd rfl hb) (by show j.val + 88 = 88 + j.val; omega)] at h1
  exact toNat_lt_of_bits (a2 (ValueIdx.ix1 j)) 9216#32 (by decide) h1

variable (m : (ℓ : Loc nD τ sig) → Buf (Elt F) ℓ)

/-- Experts in range: every weight block the tables name is inside its array. -/
theorem ok_of_lt (h : ∀ j : Fin 88, (V m 0 main_arg1 (ValueIdx.ix1 j)).toNat < 16) : Ok m := by
  have ht : ∀ i : grid0.Coords, (teW (0 : Dev nD) (V m 0 main_arg1) (i 0).val).toNat < 16 := fun i => h _
  refine ⟨fun i => ⟨fun a => ?_, .inl rfl⟩, fun i => ⟨fun a => ?_, .inl rfl⟩, fun i => ⟨fun a => ?_, .inl rfl⟩⟩
  · rw [ix0_eq]
    have := ht i
    match a with
    | ⟨0, _⟩ => exact (by decide : (0 + 1) * 1 ≤ 4)
    | ⟨1, _⟩ => show ((teW (0 : Dev nD) (V m 0 main_arg1) (i 0).val).toNat + 1) * 1 ≤ 16; omega
    | ⟨2, _⟩ => exact (by decide : (0 + 1) * 2048 ≤ 2048)
    | ⟨3, _⟩ => exact (by decide : (0 + 1) * 512 ≤ 512)
  · rw [ix1_eq]
    have := ht i
    match a with
    | ⟨0, _⟩ => exact (by decide : (0 + 1) * 1 ≤ 4)
    | ⟨1, _⟩ => show ((teW (0 : Dev nD) (V m 0 main_arg1) (i 0).val).toNat + 1) * 1 ≤ 16; omega
    | ⟨2, _⟩ => exact (by decide : (0 + 1) * 2048 ≤ 2048)
    | ⟨3, _⟩ => exact (by decide : (0 + 1) * 512 ≤ 512)
  · rw [ix2_eq]
    have := ht i
    match a with
    | ⟨0, _⟩ => exact (by decide : (0 + 1) * 1 ≤ 4)
    | ⟨1, _⟩ => show ((teW (0 : Dev nD) (V m 0 main_arg1) (i 0).val).toNat + 1) * 1 ≤ 16; omega
    | ⟨2, _⟩ => exact (by decide : (0 + 1) * 512 ≤ 512)
    | ⟨3, _⟩ => exact (by decide : (0 + 1) * 2048 ≤ 2048)

/-- Rows in range, on the one device there is. -/
theorem rows_of_lt (h : ∀ j : Fin 22528, (V m 0 main_arg2 (ValueIdx.ix1 j)).toNat < 9216) : Rows m := fun c j _ => by
  obtain rfl : c = 0 := Subsingleton.elim _ _
  exact h _

end Cert.KernelIdeal.Gen

end
-- ==== Proof.Value.lean ====
module

public import proofs.«01_k».proof.Proof.Run
public import Idealize.ShloMosaic.Lib.Pointwise

@[expose] public section

set_option maxRecDepth 16384

noncomputable section

namespace Cert.KernelIdeal.Gen

open Cert.KernelIdeal Idealize.ShloMosaic Idealize.ShloMosaic.TcCoe
open Idealize.SL.Sem

/-- A quarter's rectangle of a weight matrix, read at its place. -/
theorem gl_apply (w : FVec Ideal S2048x512 .bf16) (k : Fin 2048) (f : Fin 256) : gl w (ix2 k f) = w (ix2 k ⟨f.val, by omega⟩) := by
  unfold gl
  congr 1
  funext a
  match a with
  | ⟨0, _⟩ => exact Fin.ext (by show 0 + 1 * k.val = k.val; omega)
  | ⟨1, _⟩ => exact Fin.ext (by show 0 + 1 * f.val = f.val; omega)
theorem gr_apply (w : FVec Ideal S2048x512 .bf16) (k : Fin 2048) (f : Fin 256) : gr w (ix2 k f) = w (ix2 k ⟨256 + f.val, by omega⟩) := by
  unfold gr
  congr 1
  funext a
  match a with
  | ⟨0, _⟩ => exact Fin.ext (by show 0 + 1 * k.val = k.val; omega)
  | ⟨1, _⟩ => exact Fin.ext (by show 256 + 1 * f.val = 256 + f.val; omega)
theorem dl_apply (w : FVec Ideal S512x2048 .bf16) (k : Fin 512) (d : Fin 1024) : dl w (ix2 k d) = w (ix2 k ⟨d.val, by omega⟩) := by
  unfold dl
  congr 1
  funext a
  match a with
  | ⟨0, _⟩ => exact Fin.ext (by show 0 + 1 * k.val = k.val; omega)
  | ⟨1, _⟩ => exact Fin.ext (by show 0 + 1 * d.val = d.val; omega)
theorem dr_apply (w : FVec Ideal S512x2048 .bf16) (k : Fin 512) (d : Fin 1024) : dr w (ix2 k d) = w (ix2 k ⟨1024 + d.val, by omega⟩) := by
  unfold dr
  congr 1
  funext a
  match a with
  | ⟨0, _⟩ => exact Fin.ext (by show 0 + 1 * k.val = k.val; omega)
  | ⟨1, _⟩ => exact Fin.ext (by show 1024 + 1 * d.val = 1024 + d.val; omega)

/-- A weight block cast to a matrix, read at its place. -/
theorem pay5_apply (x : Vec Ideal S1x1x2048x512 .f32) (k : Fin 2048) (f : Fin 512) : k0_pay5 x (ix2 k f) = x (ix4 0 0 k f) := by
  pointwise [k0_pay5]
theorem pay6_apply (x : Vec Ideal S1x1x2048x512 .f32) (k : Fin 2048) (f : Fin 512) : k0_pay6 x (ix2 k f) = x (ix4 0 0 k f) := by
  pointwise [k0_pay6]
theorem pay7_apply (x : Vec Ideal S1x1x512x2048 .f32) (k : Fin 512) (d : Fin 2048) : k0_pay7 x (ix2 k d) = x (ix4 0 0 k d) := by
  pointwise [k0_pay7]
theorem pay8_apply (x : Vec Ideal S1x256x2048 .f32) (r : Fin 256) (k : Fin 2048) : k0_pay8 x (ix2 r k) = x (ix3 0 r k) := by
  pointwise [k0_pay8]

/-- The gated unit: the gate through the logistic, times the other product. -/
def gate (g u : EReal) : EReal := g * Ideal.div 1 (1 + Ideal.exp (0 - g)) * u

/-- A hidden unit of a live tile's row. -/
theorem hidden_apply (rows : Vec Ideal S1x256x2048 .f32) (x5 x6 : Vec Ideal S1x1x2048x512 .f32) (r : Fin 256) (f : Fin 512) :
    k0_pay1 (k0_pay8 rows) (hidL rows x5 x6) (gr (k0_pay5 x5)) (gr (k0_pay6 x6)) (ix2 r f)
      = gate (∑ k : Fin 2048, rows (ix3 0 r k) * x5 (ix4 0 0 k f)) (∑ k : Fin 2048, rows (ix3 0 r k) * x6 (ix4 0 0 k f)) := by
  pointwise [k0_pay1, hidL, k0_pay9, gl_apply, gr_apply, pay5_apply, pay6_apply, pay8_apply]
  split
  · rfl
  · rename_i h
    have h1 : (⟨256 + (f.val - 256), by omega⟩ : Fin 512) = f := Fin.ext (by show 256 + (f.val - 256) = f.val; omega)
    rw [h1]; rfl

/-- An element of a live tile's block. -/
theorem liveBlk_apply (rows : Vec Ideal S1x256x2048 .f32) (x5 x6 : Vec Ideal S1x1x2048x512 .f32) (x7 : Vec Ideal S1x1x512x2048 .f32) (r : Fin 256) (d : Fin 2048) :
    liveBlk rows x5 x6 x7 (ix2 r d)
      = ∑ f : Fin 512, gate (∑ k : Fin 2048, rows (ix3 0 r k) * x5 (ix4 0 0 k f)) (∑ k : Fin 2048, rows (ix3 0 r k) * x6 (ix4 0 0 k f)) * x7 (ix4 0 0 f d) := by
  unfold liveBlk
  simp only [← ix2_eq_valueIdx]
  split
  · rename_i h
    pointwise [outL, k0_pay2, dl_apply, pay7_apply, hidden_apply]
  · rename_i h
    pointwise [outR, k0_pay3, dr_apply, pay7_apply, hidden_apply]
    have h1 : (⟨1024 + (d.val - 1024), by omega⟩ : Fin 2048) = d := Fin.ext (by
      have h2 : ¬ d.val < 1024 := h
      show 1024 + (d.val - 1024) = d.val; omega)
    rw [h1]

theorem zeroBlk_apply (y : S256x2048.Idx) : (k0_pay4 : FVec Ideal S256x2048 .f32) y = 0 := by
  pointwise [k0_pay4]

/-- Row `j` of the tokens through expert `e`, at column `d`. -/
def through (h : Vec Ideal S9216x2048 .f32) (wg wu : Vec Ideal S4x16x2048x512 .f32) (wd : Vec Ideal S4x16x512x2048 .f32) (j : Fin 9216) (e : Fin 16) (d : Fin 2048) : EReal :=
  ∑ f : Fin 512, gate (∑ k : Fin 2048, h (ix2 j k) * wg (ix4 0 e k f)) (∑ k : Fin 2048, h (ix2 j k) * wu (ix4 0 e k f)) * wd (ix4 0 e f d)

variable (m : (ℓ : Loc nD τ sig) → Buf (Elt Ideal) ℓ) (ρ : Dev nD → PrngReg)

/-- The result at row `i`, column `d`: the row's token through its tile's expert while the tile is in use, nought after. -/
def resultAt (hO : Ok m) (c : Dev nD) (t : Fin grid0.N) (r : Fin 256) (d : Fin 2048) : EReal :=
  if live t.val (nuW c (V m c main_arg3)) then
    through (V m c main_arg0) (V m c main_arg4) (V m c main_arg5) (V m c main_arg6) (srcRow c (V m c main_arg2) (t.val * 256 + r.val)) ⟨_, expert_lt m hO (grid0.coords t)⟩ d
  else 0

/-- A point's block at its row and column, from the layer's weights its blocks hold. -/
theorem blk_apply (c : Dev nD) (fs : SrcBuf Ideal c) (fh : HBuf Ideal c) (fn : NuBuf Ideal c) (t : ℕ) (x5 x6 : Vec Ideal S1x1x2048x512 .f32) (x7 : Vec Ideal S1x1x512x2048 .f32)
    (wg wu : Vec Ideal S4x16x2048x512 .f32) (wd : Vec Ideal S4x16x512x2048 .f32) (e : Fin 16) (h5 : ∀ k f, x5 (ix4 0 0 k f) = wg (ix4 0 e k f)) (h6 : ∀ k f, x6 (ix4 0 0 k f) = wu (ix4 0 e k f)) (h7 : ∀ f d, x7 (ix4 0 0 f d) = wd (ix4 0 e f d)) (r : Fin 256) (d : Fin 2048) :
    blk c fs fh fn t x5 x6 x7 (ix2 r d) = if live t (nuW c fn) then through fh wg wu wd (srcRow c fs (t * 256 + r.val)) e d else 0 := by
  unfold blk
  by_cases h : live t (nuW c fn)
  · rw [if_pos h, if_pos h, liveBlk_apply]
    unfold through
    simp only [h5, h6, h7]
    rfl
  · rw [if_neg h, if_neg h, zeroBlk_apply]

/-- The block a point writes back, element by element. -/
theorem outBlk_apply (hO : Ok m) (c : Dev nD) (t : Fin (cfgM m hO).N) (r : Fin 256) (d : Fin 2048) :
    outBlk m hO c t (ix2 r d) = resultAt m hO c t r d :=
  blk_apply c _ _ _ _ _ _ _ _ _ _ _ (fun k f => iblk0_apply m hO c t (ix4 0 0 k f)) (fun k f => iblk1_apply m hO c t (ix4 0 0 k f)) (fun f d => iblk2_apply m hO c t (ix4 0 0 f d)) r d

/-- The result array. -/
def result (hO : Ok m) (c : Dev nD) : Vec Ideal S22528x2048 .f32 := fun i =>
  resultAt m hO c ⟨(i 0).val / 256, by have h : (i 0).val < 22528 := (i 0).isLt; show _ < 88; omega⟩ ⟨(i 0).val % 256, Nat.mod_lt _ (by decide)⟩ (i 1)

/-- The result is written back at every point. -/
theorem flush_out (hO : Ok m) : ∀ t : Fin (cfgM m hO).N, ((cfgM m hO).win 3).flush t = true :=
  (fun t => (Pipeline.Window.flushOf_reads cc0_transform_4 reads0_3 hreads0_3 0 (by decide) (by decide) (Pipeline.Window.sep_of_coord cc0_transform_4 0 0 (fun _ => rfl) (by decide)) (P := 1) (m := 0) (by decide) rfl t).mpr (Nat.mod_one _) : ∀ t : Fin grid0.N, Pipeline.Window.flushOf grid0 true cc0_transform_4 t = true)

theorem index_out0 : ∀ t : Fin grid0.N, cc0_transform_4 (grid0.coords t) 0 = t.val := by decide +kernel
theorem index_out1 : ∀ t : Fin grid0.N, cc0_transform_4 (grid0.coords t) 1 = 0 := by decide +kernel

theorem covers (hO : Ok m) : ((cfgM m hO).win 3).Covers := by
  refine ⟨fun a => ?_, fun (β : ∀ a : Fin 2, _) => ?_⟩
  · revert a; exact (by decide : ∀ a : Fin 2, 0 < S256x2048.size a)
  have h0 : (β (0 : Fin 2)).val < 88 := (β (0 : Fin 2)).isLt.trans_eq (congrArg₂ (fun x y => (x + y - 1) / y) (show ((cfgM m hO).win 3).shape.size (0 : Fin 2) = 22528 from rfl) (show ((cfgM m hO).win 3).size (0 : Fin 2) = 256 from rfl))
  have h1 : (β (1 : Fin 2)).val < 1 := (β (1 : Fin 2)).isLt.trans_eq (congrArg₂ (fun x y => (x + y - 1) / y) (show ((cfgM m hO).win 3).shape.size (1 : Fin 2) = 2048 from rfl) (show ((cfgM m hO).win 3).size (1 : Fin 2) = 2048 from rfl))
  refine ⟨⟨(β (0 : Fin 2)).val, h0⟩, flush_out m hO _, fun (a : Fin 2) => ?_⟩
  match a with
  | ⟨0, _⟩ => exact ⟨index_out0 _, .inl rfl⟩
  | ⟨1, _⟩ => exact ⟨(index_out1 ⟨(β (0 : Fin 2)).val, h0⟩).trans (Nat.lt_one_iff.mp h1).symm, .inl rfl⟩

/-- The place of a block's element in the result array. -/
theorem emb_out (hO : Ok m) (t : Fin (cfgM m hO).N) (r : Fin 256) (d : Fin 2048) (h : t.val * 256 + r.val < 22528) :
    (((((cfgM m hO).win 3).blk t).view.emb (ix2 r d)) : S22528x2048.Idx) = ix2 ⟨t.val * 256 + r.val, h⟩ d := by
  funext (a : Fin 2)
  apply Fin.ext
  refine (Pipeline.Window.rect_emb_val _ _ _ _).trans ?_
  match a with
  | ⟨0, _⟩ => exact congrArg (· * 256 + r.val) (index_out0 t)
  | ⟨1, _⟩ => exact (congrArg (· * 2048 + d.val) (index_out1 t)).trans (by show 0 * 2048 + d.val = d.val; omega)

/-- The result array after the run. -/
theorem arr_eq (hO : Ok m) (c : Dev nD) : (dats m hO 0 c).arrAt 3 (cfgM m hO).N = result m hO c := by
  refine (dats m hO 0 c).arrAt_eq_of_covers 3 _ (covers m hO) fun t hf y => ?_
  have ht : t.val < 88 := t.isLt
  rw [after_3]
  suffices h : ∀ (r : Fin 256) (d : Fin 2048), outBlk m hO c t (ix2 r d) = result m hO c (((((cfgM m hO).win 3).blk t).view.emb (ix2 r d)) : S22528x2048.Idx) by
    blk_simp
    exact (congrArg (outBlk m hO c t) (eq_ix2 (n0 := 256) (n1 := 2048) y)).trans ((h (y (0 : Fin 2)) (y (1 : Fin 2))).trans (congrArg (fun z : S256x2048.Idx => result m hO c (((((cfgM m hO).win 3).blk t).view.emb z) : S22528x2048.Idx)) (eq_ix2 (n0 := 256) (n1 := 2048) y).symm))
  intro r d
  rw [emb_out m hO t r d (by omega), outBlk_apply]
  unfold result
  congr 1
  · exact Fin.ext (by show t.val = (t.val * 256 + r.val) / 256; omega)
  · exact Fin.ext (by show r.val = (t.val * 256 + r.val) % 256; omega)

/-- The run: the result array holds `result`, the arguments as launched. -/
theorem run_result (hO : Ok m) (hR : Rows m) : θ_run defs (onTc (τ := τ) (main (F := Ideal))) ⟨m, fun _ => 0, ρ⟩ (fun r => ∀ c : Dev nD,
      r.2.mem ((c.tc : Thread nD τ).loc main_v0) = result m hO c
      ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6)) := by
  have h1 := θ_run_and (run_main m ρ hO hR) (unchanged m ρ hO hR)
  exact (θ_run defs _ _).mono (fun _ h c => ⟨((h.1 c).1 3).trans (arr_eq m hO c), h.2 c⟩) h1

end Cert.KernelIdeal.Gen

end
-- ==== Proof.RefValue.lean ====
module

public import proofs.«01_k».proof.Proof.Value
public import proofs.«01_k».proof.Proof.Gen.ReferenceIdeal.Read
public import Idealize.ShloMosaic.Lib.Routing.Ops
public import Idealize.ShloMosaic.Lib.Affine

@[expose] public section

set_option maxRecDepth 16384

noncomputable section

namespace Cert.ReferenceIdeal.Read

open Cert.ReferenceIdeal Cert.ReferenceIdeal.Gen Idealize.ShloMosaic Idealize.ShloMosaic.TcCoe Idealize.SL.Sem Idealize.ShloMosaic.StableHlo

/-- A small word divided by 256. -/
theorem div_word (n : ℕ) (h : n < 22528) : IntOp.divsi .host (BitVec.ofNat 32 n) 256#32 = BitVec.ofNat 32 (n / 256) := by
  unfold IntOp.divsi
  rw [if_neg (IntOp.not_corner_of_pos (by decide)), BitVec.sdiv_eq,
    show (BitVec.ofNat 32 n).msb = false from by rw [BitVec.msb_eq_false_iff_two_mul_lt, BitVec.toNat_ofNat]; omega, show (256#32).msb = false from by decide]
  apply BitVec.eq_of_toNat_eq
  show (BitVec.ofNat 32 n / 256#32).toNat = _
  rw [BitVec.toNat_udiv, BitVec.toNat_ofNat, BitVec.toNat_ofNat, Nat.mod_eq_of_lt (by omega)]
  show n / 256 = _ % 2 ^ 32
  omega

/-- The rounding-down quotient of a small word by 256 is its quotient: the signs differ only at nought, which leaves nothing over. -/
theorem floor_word (n : ℕ) (h : n < 22528) (s : BitVec 32) (hs : s = 1#32) :
    Scalar.select (IntOp.andi (IntOp.cmpi .ne (if BitVec.ofNat 32 n = 0 then 0 else if (BitVec.ofNat 32 n).msb then -1 else 1) s)
      (IntOp.cmpi .ne (IntOp.remsi .host (BitVec.ofNat 32 n) 256#32) 0#32)) (IntOp.subi (IntOp.divsi .host (BitVec.ofNat 32 n) 256#32) 1#32) (IntOp.divsi .host (BitVec.ofNat 32 n) 256#32)
      = BitVec.ofNat 32 (n / 256) := by
  have hm : (BitVec.ofNat 32 n).msb = false := by rw [BitVec.msb_eq_false_iff_two_mul_lt, BitVec.toNat_ofNat]; omega
  unfold Scalar.select
  rw [if_neg, div_word n h]
  intro hc
  replace hc := IntOp.andi_eq_one.mp hc
  rw [IntOp.cmpi_ne, IntOp.cmpi_ne, hm, hs] at hc
  by_cases h0 : BitVec.ofNat 32 n = 0
  · rw [h0] at hc
    exact hc.2 (by decide)
  · rw [if_neg h0] at hc
    exact hc.1 rfl

theorem tile_word (t : Fin 22528) : val_main_v2 (F := Ideal) (ix1 t) = BitVec.ofNat 32 (t.val / 256) := by
  simp only [val_main_v2_apply, val_main_call1_v11_apply, val_main_call1_v6_apply, val_main_call1_v10_apply, val_main_call1_v13_apply, val_main_call1_v2_apply, val_main_call1_v8_apply, val_main_call1_v9_apply, val_main_call1_v12_apply, val_main_call1_v5_apply, val_main_call1_v7_apply, val_main_call1_v1_apply, val_main_call1_v0_apply, val_main_c_apply, val_main_call1_c_apply, val_main_call1_c_0_apply, val_main_v1_apply]
  exact floor_word t.val t.isLt _ (by unfold val_main_call1_v4; rw [signi_apply, val_main_call1_v0_apply, val_main_c_apply]; decide)

/-- The expert of a row's tile. -/
theorem expert_word (x1 : (⟨S88, .i32⟩ : BufTy).Contents (Elt Ideal)) (t : Fin 22528) : val_main_v5 (F := Ideal) x1 (ix1 t) = x1 (ix1 ⟨t.val / 256, by omega⟩) := by
  rw [val_main_v5_apply, val_main_v4_apply, val_main_v3_apply]
  congr 1
  funext a
  match a with
  | ⟨0, _⟩ => exact Fin.ext (by show t.val / 256 = t.val / 256; rfl)

/-- A bit read as a number. -/
theorem uitofp_bit (c : BitVec 1) : FloatOps.uitofp (F := Ideal) .f32 c = (if c = 1#1 then (1 : EReal) else 0) := by
  have h : FloatOps.uitofp (F := Ideal) .f32 c = ((c.toNat : ℝ) : EReal) := rfl
  rw [h]
  revert c
  intro c
  rcases (by revert c; decide : c = 0#1 ∨ c = 1#1) with rfl | rfl
  · rw [if_neg (by decide)]; norm_num
  · rw [if_pos rfl]; norm_num

/-- A row's weight for an expert: one for its tile's expert while the tile is in use, nought otherwise. -/
theorem comb_apply (x1 : (⟨S88, .i32⟩ : BufTy).Contents (Elt Ideal)) (x3 : (⟨S1, .i32⟩ : BufTy).Contents (Elt Ideal)) (t : Fin 22528) (e : Fin 16) :
    val_main_v11 (F := Ideal) x1 x3 (ix2 t e) = if (t.val / 256 : ℕ) < (x3 (ix1 0)).toInt ∧ x1 (ix1 ⟨t.val / 256, by omega⟩) = BitVec.ofNat 32 e.val then (1 : EReal) else 0 := by
  have h8 : val_main_v8 (F := Ideal) x3 (ix1 t) = 1#1 ↔ ((t.val / 256 : ℕ) : ℤ) < (x3 (ix1 0)).toInt := by
    rw [val_main_v8_apply, IntOp.cmpi_slt, tile_word, val_main_v7_apply, Cert.KernelIdeal.Gen.toInt_ofNat _ (by omega)]
    have h6 : ∀ i, val_main_v6 (F := Ideal) x3 i = x3 (ix1 0) := by
      intro i; unfold val_main_v6; pointwise
    rw [h6]
  have h10 : val_main_v10 (F := Ideal) x1 (ix2 t e) = if x1 (ix1 ⟨t.val / 256, by omega⟩) = BitVec.ofNat 32 e.val then (1 : EReal) else 0 := by
    rw [val_main_v10_apply, val_main_call2_v4_apply, val_main_call2_v2_apply, val_main_call2_v0_apply, val_main_call2_v3_apply, val_main_call2_v1_apply]
    rw [show idx_main_call2_v0 (idx_main_call2_v2 (ix2 t e)) = ix1 t from by funext a; match a with | ⟨0, _⟩ => rfl, expert_word]
    by_cases h : x1 (ix1 ⟨t.val / 256, by omega⟩) = BitVec.ofNat 32 e.val
    · rw [if_pos h]
      exact (congrArg (FloatOps.uitofp (F := Ideal) .f32) (IntOp.cmpi_eq.mpr h)).trans (uitofp_bit _)
    · rw [if_neg h]
      have h0 : IntOp.cmpi .eq (x1 (ix1 ⟨t.val / 256, by omega⟩)) (BitVec.ofNat 32 e.val) = 0#1 := by
        have h1 := fun h2 => h (IntOp.cmpi_eq.mp h2)
        revert h1; generalize IntOp.cmpi .eq _ _ = c; revert c; decide
      exact (congrArg (FloatOps.uitofp (F := Ideal) .f32) h0).trans (uitofp_bit _)
  rw [val_main_v11_apply, h10, val_main_call3_v1_apply, val_main_v9_apply, val_main_call3_v2_apply, val_main_call3_v0_apply, val_main_cst_apply]
  rw [show idx_main_v9 (idx_main_call3_v1 (ix2 t e)) = ix1 t from by funext a; match a with | ⟨0, _⟩ => rfl]
  unfold Scalar.select
  by_cases hl : ((t.val / 256 : ℕ) : ℤ) < (x3 (ix1 0)).toInt
  · rw [if_pos (show val_main_v8 (F := Ideal) x3 (ix1 t) = (1 : BitVec 1) from h8.mpr hl)]
    by_cases h : x1 (ix1 ⟨t.val / 256, by omega⟩) = BitVec.ofNat 32 e.val
    · rw [if_pos h, if_pos ⟨hl, h⟩]
    · rw [if_neg h, if_neg (fun h2 => h h2.2)]
  · rw [if_neg (fun h : val_main_v8 (F := Ideal) x3 (ix1 t) = (1 : BitVec 1) => hl (h8.mp h)), if_neg (fun h => hl h.1)]
    pointwise

/-- The rows taken from the tokens. -/
theorem rows_apply (x0 : (⟨S9216x2048, .f32⟩ : BufTy).Contents (Elt Ideal)) (x2 : (⟨S22528, .i32⟩ : BufTy).Contents (Elt Ideal)) (t : Fin 22528) (k : Fin 2048) (b : Fin 9216) (hb : (x2 (ix1 t)).toNat = b.val) :
    val_main_v0 (F := Ideal) x0 x2 (ix2 t k) = x0 (ix2 b k) := by
  unfold val_main_v0
  rw [ix2_eq_valueIdx, ix2_eq_valueIdx]
  refine Routing.gather_row _ rfl rfl rfl rfl rfl x0 _ t k b ?_ (by decide)
  rw [val_main_call0_v0_apply]
  apply BitVec.eq_of_toNat_eq
  rw [BitVec.toNat_ofNat, Nat.mod_eq_of_lt (by omega)]
  rw [show idx_main_call0_v0 (ValueIdx.ix2 t 0) = ix1 t from by funext a; match a with | ⟨0, _⟩ => rfl]
  exact hb

theorem gate_apply (x0 : (⟨S9216x2048, .f32⟩ : BufTy).Contents (Elt Ideal)) (x2 : (⟨S22528, .i32⟩ : BufTy).Contents (Elt Ideal)) (x4 : (⟨S4x16x2048x512, .f32⟩ : BufTy).Contents (Elt Ideal)) (t : Fin 22528) (e : Fin 16) (f : Fin 512) :
    val_main_v14 (F := Ideal) x0 x2 x4 (ix3 t e f) = ∑ k : Fin 2048, val_main_v0 (F := Ideal) x0 x2 (ix2 t k) * x4 (ix4 0 e k f) := by
  pointwise [val_main_v14, val_main_v13, val_main_v12]

theorem up_apply (x0 : (⟨S9216x2048, .f32⟩ : BufTy).Contents (Elt Ideal)) (x2 : (⟨S22528, .i32⟩ : BufTy).Contents (Elt Ideal)) (x5 : (⟨S4x16x2048x512, .f32⟩ : BufTy).Contents (Elt Ideal)) (t : Fin 22528) (e : Fin 16) (f : Fin 512) :
    val_main_v18 (F := Ideal) x0 x2 x5 (ix3 t e f) = ∑ k : Fin 2048, val_main_v0 (F := Ideal) x0 x2 (ix2 t k) * x5 (ix4 0 e k f) := by
  pointwise [val_main_v18, val_main_v17, val_main_v16]

open Cert.KernelIdeal.Gen (gate through) in
/-- A row's hidden unit of an expert, with its weight. -/
theorem hidden_apply (x0 : (⟨S9216x2048, .f32⟩ : BufTy).Contents (Elt Ideal)) (x1 : (⟨S88, .i32⟩ : BufTy).Contents (Elt Ideal)) (x2 : (⟨S22528, .i32⟩ : BufTy).Contents (Elt Ideal)) (x3 : (⟨S1, .i32⟩ : BufTy).Contents (Elt Ideal)) (x4 x5 : (⟨S4x16x2048x512, .f32⟩ : BufTy).Contents (Elt Ideal)) (t : Fin 22528) (e : Fin 16) (f : Fin 512) :
    val_main_v22 (F := Ideal) x0 x1 x2 x3 x4 x5 (ix3 t e f)
      = gate (val_main_v14 (F := Ideal) x0 x2 x4 (ix3 t e f)) (val_main_v18 (F := Ideal) x0 x2 x5 (ix3 t e f)) * val_main_v11 (F := Ideal) x1 x3 (ix2 t e) := by
  unfold gate
  rw [zero_sub]
  pointwise [val_main_v22, val_main_v19, val_main_v15, val_main_call4_v5, val_main_call4_v4, val_main_call4_v3, val_main_call4_v2, val_main_call4_v1, val_main_call4_v0, val_main_call4_cst, val_main_call4_cst_0, val_main_v21, val_main_v20]

theorem out_apply (x0 : (⟨S9216x2048, .f32⟩ : BufTy).Contents (Elt Ideal)) (x1 : (⟨S88, .i32⟩ : BufTy).Contents (Elt Ideal)) (x2 : (⟨S22528, .i32⟩ : BufTy).Contents (Elt Ideal)) (x3 : (⟨S1, .i32⟩ : BufTy).Contents (Elt Ideal)) (x4 x5 : (⟨S4x16x2048x512, .f32⟩ : BufTy).Contents (Elt Ideal)) (x6 : (⟨S4x16x512x2048, .f32⟩ : BufTy).Contents (Elt Ideal)) (t : Fin 22528) (d : Fin 2048) :
    val_main_v25 (F := Ideal) x0 x1 x2 x3 x4 x5 x6 (ix2 t d) = ∑ e : Fin 16, ∑ f : Fin 512, val_main_v22 (F := Ideal) x0 x1 x2 x3 x4 x5 (ix3 t e f) * x6 (ix4 0 e f d) := by
  pointwise [val_main_v25, val_main_v24, val_main_v23]

open Cert.KernelIdeal.Gen (gate through live) in
/-- The reference at a row and a column: the row's token through its tile's expert while the tile is in use, nought after. -/
theorem value_apply (x0 : (⟨S9216x2048, .f32⟩ : BufTy).Contents (Elt Ideal)) (x1 : (⟨S88, .i32⟩ : BufTy).Contents (Elt Ideal)) (x2 : (⟨S22528, .i32⟩ : BufTy).Contents (Elt Ideal)) (x3 : (⟨S1, .i32⟩ : BufTy).Contents (Elt Ideal)) (x4 x5 : (⟨S4x16x2048x512, .f32⟩ : BufTy).Contents (Elt Ideal)) (x6 : (⟨S4x16x512x2048, .f32⟩ : BufTy).Contents (Elt Ideal)) (t : Fin 22528) (d : Fin 2048)
    (b : Fin 9216) (hb : (x2 (ix1 t)).toNat = b.val) (e : Fin 16) (he : (x1 (ix1 ⟨t.val / 256, by omega⟩)).toNat = e.val) :
    val_main_v25 (F := Ideal) x0 x1 x2 x3 x4 x5 x6 (ix2 t d) = if live (t.val / 256) (x3 (ix1 0)) then through x0 x4 x5 x6 b e d else 0 := by
  have he' : x1 (ix1 ⟨t.val / 256, by omega⟩) = BitVec.ofNat 32 e.val := BitVec.eq_of_toNat_eq (by rw [he, BitVec.toNat_ofNat]; omega)
  rw [out_apply]
  simp only [hidden_apply, comb_apply, gate_apply, up_apply, rows_apply x0 x2 t _ b hb]
  by_cases hl : live (t.val / 256) (x3 (ix1 0))
  · rw [if_pos hl, Finset.sum_eq_single e]
    · refine Finset.sum_congr rfl fun f _ => ?_
      rw [if_pos ⟨hl, he'⟩, mul_one]
    · intro e' _ hne
      refine Finset.sum_eq_zero fun f _ => ?_
      rw [if_neg, mul_zero, zero_mul]
      rintro ⟨-, h⟩
      refine hne (Fin.ext ?_)
      have h2 := congrArg BitVec.toNat h
      rw [he, BitVec.toNat_ofNat] at h2
      omega
    · intro h; exact absurd (Finset.mem_univ e) h
  · rw [if_neg hl]
    refine Finset.sum_eq_zero fun e' _ => Finset.sum_eq_zero fun f _ => ?_
    rw [if_neg (fun h => hl h.1), mul_zero, zero_mul]

open Cert.KernelIdeal.Gen (gate through live result resultAt V Ok srcRow srcW nuW teW expert_lt) in
/-- The kernel's result array is the reference's, from tables in range. -/
theorem agree (m : (ℓ : Loc Cert.KernelIdeal.nD Cert.KernelIdeal.τ Cert.KernelIdeal.sig) → Buf (Elt Ideal) ℓ) (hO : Ok m) (c : Dev Cert.KernelIdeal.nD)
    (hS : ∀ j : Fin 22528, ((V m c Cert.KernelIdeal.main_arg2 : (⟨S22528, .i32⟩ : BufTy).Contents (Elt Ideal)) (ix1 j)).toNat < 9216) :
    result m hO c = val_main_v25 (F := Ideal) (V m c Cert.KernelIdeal.main_arg0) (V m c Cert.KernelIdeal.main_arg1) (V m c Cert.KernelIdeal.main_arg2) (V m c Cert.KernelIdeal.main_arg3) (V m c Cert.KernelIdeal.main_arg4) (V m c Cert.KernelIdeal.main_arg5) (V m c Cert.KernelIdeal.main_arg6) := by
  obtain rfl : c = 0 := Subsingleton.elim _ _
  funext i
  obtain ⟨t, d, rfl⟩ : ∃ (t : Fin 22528) (d : Fin 2048), i = ix2 t d := ⟨i 0, i 1, eq_ix2 i⟩
  have hT : ((Cert.KernelIdeal.grid0.coords ⟨t.val / 256, by show _ < 88; omega⟩) 0).val = t.val / 256 := Cert.KernelIdeal.Gen.coord_val _
  refine Eq.trans ?_ (value_apply _ _ _ _ _ _ _ t d (srcRow 0 (V m 0 Cert.KernelIdeal.main_arg2) t.val) ?_ ⟨_, expert_lt m hO (Cert.KernelIdeal.grid0.coords ⟨t.val / 256, by show _ < 88; omega⟩)⟩ ?_).symm
  · unfold result resultAt
    have hq : t.val / 256 * 256 + t.val % 256 = t.val := by omega
    show (if live (t.val / 256) _ then through _ _ _ _ (srcRow 0 (V m 0 Cert.KernelIdeal.main_arg2) (t.val / 256 * 256 + t.val % 256)) _ d else 0) = _
    rw [hq]
    rfl
  · have h1 : srcW 0 (V m 0 Cert.KernelIdeal.main_arg2) t.val = (V m 0 Cert.KernelIdeal.main_arg2 : (⟨S22528, .i32⟩ : BufTy).Contents (Elt Ideal)) (ix1 t) := by
      unfold srcW
      exact congrArg (V m 0 Cert.KernelIdeal.main_arg2) (by funext a; match a with | ⟨0, _⟩ => exact Fin.ext (by show min t.val 22527 = t.val; omega))
    have h2 := hS t
    unfold srcRow
    show _ = min (srcW 0 (V m 0 Cert.KernelIdeal.main_arg2) t.val).toNat 9215
    rw [h1]
    omega
  · show _ = (teW 0 (V m 0 Cert.KernelIdeal.main_arg1) _).toNat
    rw [hT]
    unfold teW
    exact congrArg (fun z => BitVec.toNat (V m 0 Cert.KernelIdeal.main_arg1 z)) (by funext a; match a with | ⟨0, _⟩ => exact Fin.ext (by show t.val / 256 = min (t.val / 256) 87; omega))

end Cert.ReferenceIdeal.Read
-- ==== Proof.Gated.lean ====
module

public import proofs.«01_k».proof.Proof.Gen.Kernel2Ideal.Value
public import proofs.«01_k».proof.Proof.Gen.Reference2Ideal.Run
public import proofs.«01_k».proof.Proof.Gen.Reference2Ideal.Read
public import Idealize.ShloMosaic.Lib.Pipeline.ValueKit
public import Idealize.ShloMosaic.Lib.Pointwise
public import proofs.«01_k».proof.Defs

@[expose] public section

set_option maxRecDepth 16384

noncomputable section

namespace Cert.Kernel2Ideal.Gen

open Cert.Kernel2Ideal Idealize.ShloMosaic Idealize.ShloMosaic.TcCoe
open Idealize.SL.Sem

/-- A quarter of a block's columns: rows against columns of the weights. -/
theorem pay1_apply (a : Vec Ideal S1024x2048 .bf16) (b : Vec Ideal S1x2048x256 .f32) (r : Fin 1024) (f : Fin 256) :
    k0_pay1 a b (ix2 r f) = ∑ k : Fin 2048, a (ix2 r k) * b (ix3 0 k f) := by
  pointwise [k0_pay1]

/-- A quarter of a block's columns, read at its place. -/
theorem cols_apply (w : Vec Ideal S1x2048x1024 .f32) (o : ℕ) (h : ∀ a, (![0, 0, o] : Fin 3 → ℕ) a + S1x2048x256.size a ≤ S1x2048x1024.size a) (ho : o + 256 ≤ 1024) (k : Fin 2048) (f : Fin 256) :
    View.ld w (Rect.unit (s := S1x2048x1024) ![0, 0, o] S1x2048x256.size h) (ix3 0 k f) = w (ix3 0 k ⟨o + f.val, by omega⟩) := by
  unfold View.ld
  refine congrArg w (funext fun a => Fin.ext ?_)
  match a with
  | ⟨0, _⟩ => rfl
  | ⟨1, _⟩ => show 0 + 1 * k.val = k.val; omega
  | ⟨2, _⟩ => show o + 1 * f.val = o + f.val; omega

/-- A quarter of the result's columns: where its elements lie. -/
theorem place (o : ℕ) (h : ∀ a, (![0, o] : Fin 2 → ℕ) a + S1024x256.size a ≤ S1024x1024.size a) (ho : o + 256 ≤ 1024) (r : Fin 1024) (f : Fin 256) :
    (Rect.unit (s := S1024x1024) ![0, o] S1024x256.size h).emb (ix2 r f) = ix2 r ⟨o + f.val, by omega⟩ := by
  funext a
  refine Fin.ext ?_
  match a with
  | ⟨0, _⟩ => show 0 + 1 * r.val = r.val; omega
  | ⟨1, _⟩ => show o + 1 * f.val = o + f.val; omega

theorem zeros : (![0, 0] : Fin 2 → ℕ) = fun _ => 0 := funext fun a => by fin_cases a <;> rfl

/-- The block that a point leaves. -/
def block (x : Vec Ideal S1024x2048 .bf16) (w : Vec Ideal S1x2048x1024 .f32) : Vec Ideal S1024x1024 .f32 :=
  fun y => ∑ k : Fin 2048, x (ix2 (y 0) k) * w (ix3 0 k (y 1))

theorem out_eq (x : Vec Ideal S1024x2048 .bf16) (w : Vec Ideal S1x2048x1024 .f32) : out0_2 x w = block x w := by
  funext y
  unfold out0_2
  refine View.canon_apply_of_pieces (block x w) _ (fun p hp j => ?_) y (cover0_2 _ _ _ _ y)
  simp only [List.mem_cons, List.mem_nil_iff, or_false] at hp
  rcases hp with rfl | rfl | rfl | rfl
  all_goals
    obtain ⟨r, f, rfl⟩ : ∃ (r : Fin 1024) (f : Fin 256), j = ix2 r f := ⟨j 0, j 1, eq_ix2 (n0 := 1024) (n1 := 256) j⟩
    refine (pay1_apply _ _ r f).trans ?_
    rw [place _ _ (by omega)]
    refine Finset.sum_congr rfl fun k _ => ?_
    rw [cols_apply _ _ _ (by omega), View.ld_unit_zero zeros]
    rfl

variable (m : (ℓ : Loc nD τ sig) → Buf (Elt Ideal) ℓ) (ρ : Dev nD → PrngReg)

/-- Rows against the last 4096 columns of a layer's weights. -/
def product (x : Vec Ideal S9216x2048 .bf16) (w : Vec Ideal S2x2048x12288 .f32) : Vec Ideal S9216x4096 .f32 :=
  fun i => ∑ k : Fin 2048, x (ix2 (i 0) k) * w (ix3 0 k ⟨8192 + (i 1).val, by have h : (i 1).val < 4096 := (i 1).isLt; omega⟩)

/-- The result of the arguments. -/
def result (c : Dev nD) : Vec Ideal S9216x4096 .f32 := product (m ((c : Thread nD τ).loc main_arg0)) (m ((c : Thread nD τ).loc main_arg1))

/-- Where the windows stand at a point. -/
theorem idx : ∀ t : Fin grid0.N, win0_0.index t = ![(grid0.coords t 0).val, 0] ∧ win0_1.index t = ![0, 0, 8 + (grid0.coords t 1).val] ∧ win0_2.index t = ![(grid0.coords t 0).val, (grid0.coords t 1).val] := by
  decide +kernel

theorem arr_eq (c : Dev nD) : (dats m 0 c).arrAt 2 cfg0.N = result m c := by
  refine (dats m 0 c).arrAt_eq_of_covers 2 _ (by decide +kernel) fun t hf y => ?_
  blk_simp
  rw [after0_2, out_eq]
  unfold block result product
  refine Finset.sum_congr (M := EReal) rfl fun k _ => congrArg₂ (fun a b : EReal => a * b) ?_ ?_
  · unfold iblk
    blk_ext [V_main_arg0, (idx t).1, (idx t).2.2]
  · unfold iblk
    blk_ext [V_main_arg1, (idx t).2.1, (idx t).2.2]

/-- The run. -/
theorem run_result : θ_run defs (onTc (τ := τ) (main (F := Ideal))) ⟨m, fun _ => 0, ρ⟩ (fun r => ∀ c : Dev nD,
      r.2.mem ((c.tc : Thread nD τ).loc main_v0) = result m c
      ∧ r.2.mem ((c.tc : Thread nD τ).loc main_arg0) = m ((c.tc : Thread nD τ).loc main_arg0) ∧ r.2.mem ((c.tc : Thread nD τ).loc main_arg1) = m ((c.tc : Thread nD τ).loc main_arg1)) :=
  (θ_run defs _ _).mono (fun _ h c => ⟨(h c).1.trans (arr_eq m c), (h c).2⟩) (Value.run_blocks m ρ)

end Cert.Kernel2Ideal.Gen

namespace Cert.Reference2Ideal.Read

open Cert.Reference2Ideal Cert.Reference2Ideal.Gen Idealize.ShloMosaic Idealize.ShloMosaic.TcCoe Idealize.SL.Sem

/-- The reference's result at a row and a column. -/
theorem result_apply (x : (⟨S9216x2048, .bf16⟩ : BufTy).Contents (Elt Ideal)) (w : (⟨S2x2048x12288, .f32⟩ : BufTy).Contents (Elt Ideal)) (r : Fin 9216) (f : Fin 4096) :
    val_main_v7 (F := Ideal) x w (ix2 r f) = ∑ k : Fin 2048, x (ix2 r k) * w (ix3 0 k ⟨8192 + f.val, by omega⟩) := by
  pointwise [val_main_v7, val_main_v3, val_main_v2, val_main_v1, val_main_v0]

end Cert.Reference2Ideal.Read

namespace Cert.Proof

open Idealize.ShloMosaic Idealize.ShloMosaic.TcCoe
open Idealize.SL.Sem

/-- The gate's projection is the reference's. -/
theorem algebraic2 : Cert.algebraic_Kernel2Ideal_Reference2Ideal := by
  intro m g m' g' _ ha
  refine ⟨fun c => Cert.Kernel2Ideal.Gen.result m c, Cert.Kernel2Ideal.Gen.run_result m g,
    (θ_run Cert.Reference2Ideal.defs _ _).mono (fun r h c => ⟨((h c).1.trans (Cert.Reference2Ideal.Read.val_main_v7_eq ..)).trans ?_, (h c).2⟩) (Cert.Reference2Ideal.Value.run (F := Ideal) m' g')⟩
  obtain ⟨h0, h1⟩ := ha c
  rw [h0, h1]
  funext i
  obtain ⟨t, d, rfl⟩ : ∃ (t : Fin 9216) (d : Fin 4096), i = ix2 t d := ⟨i 0, i 1, eq_ix2 (n0 := 9216) (n1 := 4096) i⟩
  exact Cert.Reference2Ideal.Read.result_apply _ _ t d

end Cert.Proof

end
-- ==== Proof.Mixed.lean ====
module

public import proofs.«01_k».proof.Proof.Gen.Kernel3Ideal.Value
public import proofs.«01_k».proof.Proof.Gen.Reference3Ideal.Run
public import proofs.«01_k».proof.Proof.Gen.Reference3Ideal.Read
public import Idealize.ShloMosaic.Lib.Pipeline.ValueKit
public import Idealize.ShloMosaic.Lib.Pointwise
public import proofs.«01_k».proof.Defs

@[expose] public section

set_option maxRecDepth 16384

noncomputable section

namespace Cert.Kernel3Ideal.Gen

open Cert.Kernel3Ideal Idealize.ShloMosaic Idealize.ShloMosaic.TcCoe
open Idealize.SL.Sem

/-- Half of a block's columns: rows against columns of the weights, and the rows that are carried past. -/
theorem pay1_apply (a : Vec Ideal S1024x4096 .bf16) (b : Vec Ideal S1x4096x256 .f32) (e : Vec Ideal S1024x256 .f32) (r : Fin 1024) (f : Fin 256) :
    k0_pay1 a b e (ix2 r f) = ∑ k : Fin 4096, a (ix2 r k) * b (ix3 0 k f) + e (ix2 r f) := by
  pointwise [k0_pay1]

/-- Half of a block's columns, read at its place. -/
theorem cols_apply (w : Vec Ideal S1x4096x512 .f32) (o : ℕ) (h : ∀ a, (![0, 0, o] : Fin 3 → ℕ) a + S1x4096x256.size a ≤ S1x4096x512.size a) (ho : o + 256 ≤ 512) (k : Fin 4096) (f : Fin 256) :
    View.ld w (Rect.unit (s := S1x4096x512) ![0, 0, o] S1x4096x256.size h) (ix3 0 k f) = w (ix3 0 k ⟨o + f.val, by omega⟩) := by
  unfold View.ld
  refine congrArg w (funext fun a => Fin.ext ?_)
  match a with
  | ⟨0, _⟩ => rfl
  | ⟨1, _⟩ => show 0 + 1 * k.val = k.val; omega
  | ⟨2, _⟩ => show o + 1 * f.val = o + f.val; omega

/-- Half of the result's columns: where its elements lie. -/
theorem place (o : ℕ) (h : ∀ a, (![0, o] : Fin 2 → ℕ) a + S1024x256.size a ≤ S1024x512.size a) (ho : o + 256 ≤ 512) (r : Fin 1024) (f : Fin 256) :
    (Rect.unit (s := S1024x512) ![0, o] S1024x256.size h).emb (ix2 r f) = ix2 r ⟨o + f.val, by omega⟩ := by
  funext a
  refine Fin.ext ?_
  match a with
  | ⟨0, _⟩ => show 0 + 1 * r.val = r.val; omega
  | ⟨1, _⟩ => show o + 1 * f.val = o + f.val; omega

theorem zeros : (![0, 0] : Fin 2 → ℕ) = fun _ => 0 := funext fun a => by fin_cases a <;> rfl

/-- The block that a point leaves. -/
def block (x : Vec Ideal S1024x4096 .bf16) (w : Vec Ideal S1x4096x512 .f32) (e : Vec Ideal S1024x512 .f32) : Vec Ideal S1024x512 .f32 :=
  fun y => e y + ∑ k : Fin 4096, x (ix2 (y 0) k) * w (ix3 0 k (y 1))

theorem out_eq (x : Vec Ideal S1024x4096 .bf16) (w : Vec Ideal S1x4096x512 .f32) (e : Vec Ideal S1024x512 .f32) : out0_3 x w e = block x w e := by
  funext y
  unfold out0_3
  refine View.canon_apply_of_pieces (block x w e) _ (fun p hp j => ?_) y (cover0_3 _ _ y)
  simp only [List.mem_cons, List.mem_nil_iff, or_false] at hp
  rcases hp with rfl | rfl
  all_goals
    obtain ⟨r, f, rfl⟩ : ∃ (r : Fin 1024) (f : Fin 256), j = ix2 r f := ⟨j 0, j 1, eq_ix2 (n0 := 1024) (n1 := 256) j⟩
    refine (pay1_apply _ _ _ r f).trans ?_
    unfold block
    rw [add_comm]
    refine congrArg₂ (fun a b : EReal => a + b) rfl ?_
    rw [place _ _ (by omega)]
    refine Finset.sum_congr rfl fun k _ => ?_
    rw [cols_apply _ _ _ (by omega), View.ld_unit_zero zeros]
    rfl

variable (m : (ℓ : Loc nD τ sig) → Buf (Elt Ideal) ℓ) (ρ : Dev nD → PrngReg)

/-- The carried rows, and rows against the columns of a layer's weights. -/
def product (x : Vec Ideal S9216x4096 .bf16) (w : Vec Ideal S2x4096x2048 .f32) (e : Vec Ideal S9216x2048 .f32) : Vec Ideal S9216x2048 .f32 :=
  fun i => e i + ∑ k : Fin 4096, x (ix2 (i 0) k) * w (ix3 0 k (i 1))

/-- The result of the arguments. -/
def result (c : Dev nD) : Vec Ideal S9216x2048 .f32 := product (m ((c : Thread nD τ).loc main_arg0)) (m ((c : Thread nD τ).loc main_arg1)) (m ((c : Thread nD τ).loc main_arg2))

/-- Where the windows stand at a point. -/
theorem idx : ∀ t : Fin grid0.N, win0_0.index t = ![(grid0.coords t 0).val, 0] ∧ win0_1.index t = ![0, 0, (grid0.coords t 1).val] ∧ win0_2.index t = ![(grid0.coords t 0).val, (grid0.coords t 1).val] ∧ win0_3.index t = ![(grid0.coords t 0).val, (grid0.coords t 1).val] := by
  decide +kernel

/-- The result array after the run. -/
theorem arr_eq (c : Dev nD) : (dats m 0 c).arrAt 3 cfg0.N = result m c := by
  refine (dats m 0 c).arrAt_eq_of_covers 3 _ (by decide +kernel) fun t hf y => ?_
  blk_simp
  rw [after0_3, out_eq]
  unfold block result product
  refine congrArg₂ (fun a b : EReal => a + b) ?_ (Finset.sum_congr (M := EReal) rfl fun k _ => congrArg₂ (fun a b : EReal => a * b) ?_ ?_)
  · unfold iblk
    blk_ext [V_main_arg2, (idx t).2.2.1, (idx t).2.2.2]
  · unfold iblk
    blk_ext [V_main_arg0, (idx t).1, (idx t).2.2.2]
  · unfold iblk
    blk_ext [V_main_arg1, (idx t).2.1, (idx t).2.2.2]

/-- The run. -/
theorem run_result : θ_run defs (onTc (τ := τ) (main (F := Ideal))) ⟨m, fun _ => 0, ρ⟩ (fun r => ∀ c : Dev nD,
      r.2.mem ((c.tc : Thread nD τ).loc main_v0) = result m c
      ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2)) :=
  (θ_run defs _ _).mono (fun _ h c => ⟨(h c).1.trans (arr_eq m c), (h c).2⟩) (Value.run_blocks m ρ)

end Cert.Kernel3Ideal.Gen

namespace Cert.Reference3Ideal.Read

open Cert.Reference3Ideal Cert.Reference3Ideal.Gen Idealize.ShloMosaic Idealize.ShloMosaic.TcCoe Idealize.SL.Sem

/-- The reference's result at a row and a column. -/
theorem result_apply (x : (⟨S9216x4096, .bf16⟩ : BufTy).Contents (Elt Ideal)) (w : (⟨S2x4096x2048, .f32⟩ : BufTy).Contents (Elt Ideal)) (e : (⟨S9216x2048, .f32⟩ : BufTy).Contents (Elt Ideal)) (r : Fin 9216) (f : Fin 2048) :
    val_main_v4 (F := Ideal) x w e (ix2 r f) = e (ix2 r f) + ∑ k : Fin 4096, x (ix2 r k) * w (ix3 0 k f) := by
  pointwise [val_main_v4, val_main_v3, val_main_v2, val_main_v1, val_main_v0]

end Cert.Reference3Ideal.Read

namespace Cert.Proof

open Idealize.ShloMosaic Idealize.ShloMosaic.TcCoe
open Idealize.SL.Sem

/-- The mixed rows' projection, with the rows carried past it, is the reference's. -/
theorem algebraic3 : Cert.algebraic_Kernel3Ideal_Reference3Ideal := by
  intro m g m' g' _ ha
  refine ⟨fun c => Cert.Kernel3Ideal.Gen.result m c, Cert.Kernel3Ideal.Gen.run_result m g,
    (θ_run Cert.Reference3Ideal.defs _ _).mono (fun r h c => ⟨((h c).1.trans (Cert.Reference3Ideal.Read.val_main_v4_eq ..)).trans ?_, (h c).2⟩) (Cert.Reference3Ideal.Value.run (F := Ideal) m' g')⟩
  obtain ⟨h0, h1, h2⟩ := ha c
  rw [h0, h1, h2]
  funext i
  obtain ⟨t, d, rfl⟩ : ∃ (t : Fin 9216) (d : Fin 2048), i = ix2 t d := ⟨i 0, i 1, eq_ix2 (n0 := 9216) (n1 := 2048) i⟩
  exact Cert.Reference3Ideal.Read.result_apply _ _ _ t d

end Cert.Proof

end
-- ==== Proof.Norm.lean ====
module

public import Idealize.ShloMosaic.Lib.Pipeline.ValueKit
public import Idealize.ShloMosaic.Lib.WholeRead

@[expose] public section

noncomputable section

namespace Cert

open Idealize.ShloMosaic

/-- An entry of a row, normed by the row's root mean square and scaled. -/
def normed (x : Fin 2048 → EReal) (f : Fin 2048) (g : EReal) : EReal :=
  x f * Ideal.rsqrt (Ideal.div (∑ k, x k * x k) (Ideal.ofBits .f32 1157627904#32) + Ideal.ofBits .f32 897988541#32) * g

theorem zeros2 : (![0, 0] : Fin 2 → ℕ) = fun _ => 0 := funext fun a => by fin_cases a <;> rfl

theorem zeros3 : (![0, 0, 0] : Fin 3 → ℕ) = fun _ => 0 := funext fun a => by fin_cases a <;> rfl

/-- A whole buffer's load is its contents. -/
theorem load_whole {sig : RefSig} {s : Shape} {e : EltTy} {sp : Space} (a : Memref sig .tc sp s e) (h : a.IsWhole) (x : Vec Ideal s e) (o : Fin s.rank → ℕ) (ho : o = fun _ => 0) (inb : ∀ b, o b + s.size b ≤ s.size b) :
    View.readAt (Elt Ideal) a.view (Rect.unit (s := s) o s.size inb).toLoadRect (h.unread x) = x := by
  subst ho
  funext j
  rw [h.readAt_unread]
  refine congrArg x (funext fun b => Fin.ext ?_)
  show 0 + 1 * (j b).val = _
  omega

end Cert

end
-- ==== Proof.State.lean ====
module

public import proofs.«01_k».proof.Proof.Gen.Kernel4Ideal.Value
public import proofs.«01_k».proof.Proof.Gen.Reference4Ideal.Run
public import proofs.«01_k».proof.Proof.Gen.Reference4Ideal.Read
public import Idealize.ShloMosaic.Lib.Pointwise
public import proofs.«01_k».proof.Proof.Norm
public import proofs.«01_k».proof.Defs

@[expose] public section

set_option maxRecDepth 16384

noncomputable section

namespace Cert.Kernel4Ideal.Gen

open Cert.Kernel4Ideal Idealize.ShloMosaic Idealize.ShloMosaic.TcCoe
open Idealize.SL.Sem

/-- The state is the last rows, given a leading axis. -/
theorem pay3_apply (v : Vec Ideal S15x2048 .f32) (k : Fin 15) (f : Fin 2048) : k0_pay3 v (ix3 0 k f) = v (ix2 k f) := by
  pointwise [k0_pay3]

/-- The block's rows, normed. -/
theorem pay5_apply (x : Vec Ideal S512x2048 .f32) (g : Vec Ideal S1x2048 .f32) (r : Fin 512) (f : Fin 2048) :
    k0_pay5 x g (ix2 r f) = normed (fun k => x (ix2 r k)) f (g (ix2 0 f)) := by
  unfold normed
  pointwise [k0_pay5]

/-- The buffer's last rows are the last rows of the block stored behind its first sixteen. -/
theorem tail_apply (P : Vec Ideal S512x2048 .f32) (k : Fin 15) (f : Fin 2048) :
    View.canon (Val := Elt Ideal) (e := .f32) [⟨Rect.unit (s := S528x2048) ![16, 0] S512x2048.size inb_S528x2048_S512x2048_16_0, P⟩] ((Rect.unit (s := S528x2048) ![513, 0] ![15, 2048] inb_S528x2048_S15x2048_513_0).idx (ix2 k f)) = P (ix2 ⟨497 + k.val, by omega⟩ f) := by
  have h : (Rect.unit (s := S528x2048) ![513, 0] ![15, 2048] inb_S528x2048_S15x2048_513_0).idx (ix2 k f) = (Rect.unit (s := S528x2048) ![16, 0] S512x2048.size inb_S528x2048_S512x2048_16_0).emb (ix2 (⟨497 + k.val, by omega⟩ : Fin 512) f) := by
    funext a
    refine Fin.ext ?_
    match a with
    | ⟨0, _⟩ => show 513 + 1 * k.val = 16 + 1 * (497 + k.val); omega
    | ⟨1, _⟩ => rfl
  rw [h, View.canon_cons_emb]

/-- The last point of a sequence leaves its block's last rows, normed. -/
theorem out_C (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S4x512x512 .bf16) (harg4 : arg4.IsWhole) (arg5 : Memref sig .tc .vmem S1x2048 .f32) (harg5 : arg5.IsWhole) (arg6 : Memref sig .tc .vmem S512x2048 .f32) (harg6 : arg6.IsWhole) (arg7 : Memref sig .tc .vmem S1x15x2048 .f32) (harg7 : arg7.IsWhole) (arg8 : Memref sig .tc .vmem S528x2048 .f32) (harg8 : arg8.IsWhole) (hc0 : ¬cond0_0 i) (hc1 : cond0_1 i)
    (x0 : Vec Ideal S512x2048 .f32) (x1 : Vec Ideal S1x2048 .f32) (x2 : Vec Ideal S4x512x512 .bf16) (x3 : Vec Ideal S1x2048 .f32) (xs0 : Vec Ideal S528x2048 .f32) (k : Fin 15) (f : Fin 2048) :
    out0_C_5 c i arg2 harg2 arg3 harg3 arg4 harg4 arg5 harg5 arg6 harg6 arg7 harg7 arg8 harg8 hc0 hc1 x0 x1 x2 x3 xs0 (ix3 0 k f) = normed (fun q => x0 (ix2 ⟨497 + k.val, by omega⟩ q)) f (x1 (ix2 0 f)) := by
  unfold out0_C_5 kernelRun0_C
  dsimp only
  rw [View.read_writes_junk_apply_eq_canon, View.canon_unit_zero zeros3]
  unfold kernelRun0_C.sl.v158
  refine (pay3_apply _ k f).trans ?_
  rw [View.readCov_eq_canon']
  unfold kernelRun0_C.sl.HS0_1
  refine (tail_apply _ k f).trans ((pay5_apply _ _ _ f).trans ?_)
  simp only [load_whole arg2 harg2 x0 ![0, 0] zeros2 inb_S512x2048_S512x2048_0_0, load_whole arg3 harg3 x1 ![0, 0] zeros2 inb_S1x2048_S1x2048_0_0]

variable (m : (ℓ : Loc nD τ sig) → Buf (Elt Ideal) ℓ) (ρ : Dev nD → PrngReg)

/-- The state: the last rows of each sequence, normed. -/
def state (x : Vec Ideal S9216x2048 .f32) (g : Vec Ideal S2048 .f32) : Vec Ideal S2x15x2048 .f32 :=
  fun i => normed (fun q => x (ix2 ⟨4096 * (i 0).val + 4081 + (i 1).val, by have h0 : (i 0).val < 2 := (i 0).isLt; have h1 : (i 1).val < 15 := (i 1).isLt; omega⟩ q)) (i 2) (g (ix1 (i 2)))

/-- The result of the arguments. -/
def result (c : Dev nD) : Vec Ideal S2x15x2048 .f32 := state (m ((c : Thread nD τ).loc main_arg0)) (m ((c : Thread nD τ).loc main_arg1))

/-- The scales as a row. -/
theorem V_scales (c : Dev nD) : V m c main_v0 = shapeCast S1x2048 (m ((c : Thread nD τ).loc main_arg1)) shapeCasts_S2048_S1x2048 := by
  unfold_abbrev_sides
  after_results
  rfl

/-- Where the windows stand at a point. -/
theorem idx : ∀ t : Fin grid0.N, win0_0.index t = ![t.val, 0] ∧ win0_1.index t = ![0, 0] ∧ win0_5.index t = ![t.val / 8, 0, 0] := by
  decide +kernel

/-- The result array after the run. -/
theorem arr_eq (c : Dev nD) : (dats m 0 c).arrAt 5 cfg0.N = result m c := by
  refine (dats m 0 c).arrAt_eq_of_covers 5 _ (by decide +kernel) fun t hf y => ?_
  have h7 : t.val % 8 = 7 := (flush0_5 t).mp hf
  blk_simp
  rw [after0_5, outsAt0_C m c t (by omega) h7]
  dsimp only
  obtain ⟨z, k, f, rfl⟩ : ∃ (z : Fin 1) (k : Fin 15) (f : Fin 2048), y = ix3 z k f := ⟨y 0, y 1, y 2, eq_ix3 (n0 := 1) (n1 := 15) (n2 := 2048) y⟩
  obtain rfl : z = 0 := Subsingleton.elim _ _
  refine (out_C ..).trans ?_
  have hb : t.val < 16 := t.isLt
  have ht : 512 * t.val + 497 = 4096 * (t.val / 8) + 4081 := by omega
  have he : ((View.whole main_v2_1).slice (win0_5.rect t)).emb (ix3 0 k f) = ix3 (⟨t.val / 8, by omega⟩ : Fin 2) k f := by
    blk_ext [(idx t).2.2]
  rw [he]
  unfold result state
  refine congrArg₂ (fun (a : Fin 2048 → EReal) (b : EReal) => normed a f b) (funext fun q => ?_) ?_
  · unfold iblk
    blk_ext [V_main_arg0, (idx t).1, (idx t).2.2]
  · unfold iblk
    show V m c main_v0 ((win0_1.blk t).view.emb (ix2 0 f)) = m (c.tc.loc main_arg1) (ix1 f)
    have hg : (win0_1.blk t).view.emb (ix2 0 f) = ix2 (0 : Fin 1) f := by
      blk_ext [(idx t).2.1]
    rw [hg, V_scales]
    pointwise

/-- The run. -/
theorem run_result : θ_run defs (onTc (τ := τ) (main (F := Ideal))) ⟨m, fun _ => 0, ρ⟩ (fun r => ∀ c : Dev nD,
      r.2.mem ((c.tc : Thread nD τ).loc main_v2_1) = result m c
      ∧ r.2.mem ((c.tc : Thread nD τ).loc main_arg0) = m ((c.tc : Thread nD τ).loc main_arg0) ∧ r.2.mem ((c.tc : Thread nD τ).loc main_arg1) = m ((c.tc : Thread nD τ).loc main_arg1)
      ∧ r.2.mem ((c.tc : Thread nD τ).loc main_arg2) = m ((c.tc : Thread nD τ).loc main_arg2) ∧ r.2.mem ((c.tc : Thread nD τ).loc main_arg3) = m ((c.tc : Thread nD τ).loc main_arg3)) :=
  (θ_run defs _ _).mono (fun _ h c => ⟨(h c).2.1.trans (arr_eq m c), (h c).2.2⟩) (Value.run_blocks m ρ)

end Cert.Kernel4Ideal.Gen

namespace Cert.Reference4Ideal.Read

open Cert.Reference4Ideal Cert.Reference4Ideal.Gen Idealize.ShloMosaic Idealize.ShloMosaic.TcCoe Idealize.SL.Sem

/-- The reference's result at a sequence, a row and a column. -/
theorem result_apply (x : (⟨S9216x2048, .f32⟩ : BufTy).Contents (Elt Ideal)) (g : (⟨S2048, .f32⟩ : BufTy).Contents (Elt Ideal)) (b : Fin 2) (k : Fin 15) (f : Fin 2048) :
    val_main_v17 (F := Ideal) x g (ix3 b k f) = normed (fun q => x (ix2 ⟨4096 * b.val + 4081 + k.val, by omega⟩ q)) f (g (ix1 f)) := by
  have e : b.val * 4096 + (4096 + k.val - 15) = 4096 * b.val + 4081 + k.val := by omega
  have n : ¬ 4096 + k.val < 15 := by omega
  unfold normed
  pointwise [val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2]
  rw [dif_neg n]
  simp only [e]

end Cert.Reference4Ideal.Read

namespace Cert.Proof

open Idealize.ShloMosaic Idealize.ShloMosaic.TcCoe
open Idealize.SL.Sem

/-- The prompt's state is the reference's. -/
theorem algebraic4 : Cert.algebraic_Kernel4Ideal_Reference4Ideal := by
  intro m g m' g' _ ha
  refine ⟨fun c => Cert.Kernel4Ideal.Gen.result m c, Cert.Kernel4Ideal.Gen.run_result m g,
    (θ_run Cert.Reference4Ideal.defs _ _).mono (fun r h c => ⟨((h c).1.trans (Cert.Reference4Ideal.Read.val_main_v17_eq ..)).trans ?_, (h c).2⟩) (Cert.Reference4Ideal.Value.run (F := Ideal) m' g')⟩
  obtain ⟨h0, h1, h2, h3⟩ := ha c
  rw [h0, h1]
  funext i
  obtain ⟨b, k, f, rfl⟩ : ∃ (b : Fin 2) (k : Fin 15) (f : Fin 2048), i = ix3 b k f := ⟨i 0, i 1, i 2, eq_ix3 (n0 := 2) (n1 := 15) (n2 := 2048) i⟩
  exact Cert.Reference4Ideal.Read.result_apply _ _ b k f

end Cert.Proof

end
-- ==== Proof.StateNext.lean ====
module

public import proofs.«01_k».proof.Proof.Gen.Kernel5Ideal.Value
public import proofs.«01_k».proof.Proof.Gen.Reference5Ideal.Run
public import proofs.«01_k».proof.Proof.Gen.Reference5Ideal.Read
public import Idealize.ShloMosaic.Lib.Pointwise
public import proofs.«01_k».proof.Proof.Norm
public import proofs.«01_k».proof.Defs

@[expose] public section

set_option maxRecDepth 16384

noncomputable section

namespace Cert.Kernel5Ideal.Gen

open Cert.Kernel5Ideal Idealize.ShloMosaic Idealize.ShloMosaic.TcCoe
open Idealize.SL.Sem

/-- The state is the last rows, given a leading axis. -/
theorem pay3_apply (v : Vec Ideal S15x2048 .f32) (k : Fin 15) (f : Fin 2048) : k0_pay3 v (ix3 0 k f) = v (ix2 k f) := by
  pointwise [k0_pay3]

/-- The block's rows, normed. -/
theorem pay6_apply (x : Vec Ideal S32x2048 .f32) (g : Vec Ideal S1x2048 .f32) (r : Fin 32) (f : Fin 2048) :
    k0_pay6 x g (ix2 r f) = normed (fun k => x (ix2 r k)) f (g (ix2 0 f)) := by
  unfold normed
  pointwise [k0_pay6]

/-- The buffer's last rows are the last rows of the block stored behind its first sixteen. -/
theorem tail_apply (P : Vec Ideal S32x2048 .f32) (L : List (View.Piece (Elt Ideal) S48x2048 .f32)) (k : Fin 15) (f : Fin 2048) :
    View.canon (Val := Elt Ideal) (e := .f32) (⟨Rect.unit (s := S48x2048) ![16, 0] S32x2048.size inb_S48x2048_S32x2048_16_0, P⟩ :: L) ((Rect.unit (s := S48x2048) ![33, 0] ![15, 2048] inb_S48x2048_S15x2048_33_0).idx (ix2 k f)) = P (ix2 ⟨17 + k.val, by omega⟩ f) := by
  have h : (Rect.unit (s := S48x2048) ![33, 0] ![15, 2048] inb_S48x2048_S15x2048_33_0).idx (ix2 k f) = (Rect.unit (s := S48x2048) ![16, 0] S32x2048.size inb_S48x2048_S32x2048_16_0).emb (ix2 (⟨17 + k.val, by omega⟩ : Fin 32) f) := by
    funext a
    refine Fin.ext ?_
    match a with
    | ⟨0, _⟩ => show 33 + 1 * k.val = 16 + 1 * (17 + k.val); omega
    | ⟨1, _⟩ => rfl
  rw [h, View.canon_cons_emb]

/-- A point leaves its block's last rows, normed. -/
theorem out_A (c : Dev nD) (i : grid0.Coords) (arg2 : Memref sig .tc .vmem S32x2048 .f32) (harg2 : arg2.IsWhole) (arg3 : Memref sig .tc .vmem S1x2048 .f32) (harg3 : arg3.IsWhole) (arg4 : Memref sig .tc .vmem S1x15x2048 .f32) (harg4 : arg4.IsWhole) (arg5 : Memref sig .tc .vmem S4x512x512 .bf16) (harg5 : arg5.IsWhole) (arg6 : Memref sig .tc .vmem S1x2048 .f32) (harg6 : arg6.IsWhole) (arg8 : Memref sig .tc .vmem S32x2048 .f32) (harg8 : arg8.IsWhole) (arg9 : Memref sig .tc .vmem S1x15x2048 .f32) (harg9 : arg9.IsWhole) (arg10 : Memref sig .tc .vmem S48x2048 .f32) (harg10 : arg10.IsWhole) (hc0 : cond0_0 i) (hc1 : cond0_1 i)
    (x0 : Vec Ideal S32x2048 .f32) (x1 : Vec Ideal S1x2048 .f32) (x2 : Vec Ideal S1x15x2048 .f32) (x3 : Vec Ideal S4x512x512 .bf16) (x4 : Vec Ideal S1x2048 .f32) (k : Fin 15) (f : Fin 2048) :
    out0_A_6 c i arg2 harg2 arg3 harg3 arg4 harg4 arg5 harg5 arg6 harg6 arg8 harg8 arg9 harg9 arg10 harg10 hc0 hc1 x0 x1 x2 x3 x4 (ix3 0 k f) = normed (fun q => x0 (ix2 ⟨17 + k.val, by omega⟩ q)) f (x1 (ix2 0 f)) := by
  unfold out0_A_6 kernelRun0_A
  dsimp only
  rw [View.read_writes_junk_apply_eq_canon, View.canon_unit_zero zeros3]
  unfold kernelRun0_A.sl.v158
  refine (pay3_apply _ k f).trans ?_
  rw [View.readCov_eq_canon']
  unfold kernelRun0_A.sl.HS0_3
  refine (tail_apply _ _ k f).trans ((pay6_apply _ _ _ f).trans ?_)
  simp only [load_whole arg2 harg2 x0 ![0, 0] zeros2 inb_S32x2048_S32x2048_0_0, load_whole arg3 harg3 x1 ![0, 0] zeros2 inb_S1x2048_S1x2048_0_0]

variable (m : (ℓ : Loc nD τ sig) → Buf (Elt Ideal) ℓ) (ρ : Dev nD → PrngReg)

/-- The state: the last rows of each sequence, normed. -/
def state (x : Vec Ideal S9216x2048 .f32) (g : Vec Ideal S2048 .f32) : Vec Ideal S32x15x2048 .f32 :=
  fun i => normed (fun q => x (ix2 ⟨8192 + 32 * (i 0).val + 17 + (i 1).val, by have h0 : (i 0).val < 32 := (i 0).isLt; have h1 : (i 1).val < 15 := (i 1).isLt; omega⟩ q)) (i 2) (g (ix1 (i 2)))

/-- The result of the arguments. -/
def result (c : Dev nD) : Vec Ideal S32x15x2048 .f32 := state (m ((c : Thread nD τ).loc main_arg0)) (m ((c : Thread nD τ).loc main_arg1))

/-- The scales as a row. -/
theorem V_scales (c : Dev nD) : V m c main_v1 = shapeCast S1x2048 (m ((c : Thread nD τ).loc main_arg1)) shapeCasts_S2048_S1x2048 := by
  unfold_abbrev_sides
  after_results
  rfl

/-- Where the windows stand at a point. -/
theorem idx : ∀ t : Fin grid0.N, win0_0.index t = ![256 + t.val, 0] ∧ win0_1.index t = ![0, 0] ∧ win0_6.index t = ![t.val, 0, 0] := by
  decide +kernel

/-- The result array after the run. -/
theorem arr_eq (c : Dev nD) : (dats m 0 c).arrAt 6 cfg0.N = result m c := by
  refine (dats m 0 c).arrAt_eq_of_covers 6 _ (by decide +kernel) fun t hf y => ?_
  blk_simp
  rw [after0_6]
  unfold outsAt0
  dsimp only
  obtain ⟨z, k, f, rfl⟩ : ∃ (z : Fin 1) (k : Fin 15) (f : Fin 2048), y = ix3 z k f := ⟨y 0, y 1, y 2, eq_ix3 (n0 := 1) (n1 := 15) (n2 := 2048) y⟩
  obtain rfl : z = 0 := Subsingleton.elim _ _
  refine (out_A ..).trans ?_
  have hb : t.val < 32 := t.isLt
  have ht : 32 * (256 + t.val) + 17 = 8192 + 32 * t.val + 17 := by omega
  have he : ((View.whole main_v3_1).slice (win0_6.rect t)).emb (ix3 0 k f) = ix3 (⟨t.val, by omega⟩ : Fin 32) k f := by
    blk_ext [(idx t).2.2]
  rw [he]
  unfold result state
  refine congrArg₂ (fun (a : Fin 2048 → EReal) (b : EReal) => normed a f b) (funext fun q => ?_) ?_
  · unfold iblk
    blk_ext [V_main_arg0, (idx t).1, (idx t).2.2]
  · unfold iblk
    show V m c main_v1 ((win0_1.blk t).view.emb (ix2 0 f)) = m (c.tc.loc main_arg1) (ix1 f)
    have hg : (win0_1.blk t).view.emb (ix2 0 f) = ix2 (0 : Fin 1) f := by
      blk_ext [(idx t).2.1]
    rw [hg, V_scales]
    pointwise

/-- The run. -/
theorem run_result : θ_run defs (onTc (τ := τ) (main (F := Ideal))) ⟨m, fun _ => 0, ρ⟩ (fun r => ∀ c : Dev nD,
      r.2.mem ((c.tc : Thread nD τ).loc main_v3_1) = result m c
      ∧ r.2.mem ((c.tc : Thread nD τ).loc main_arg0) = m ((c.tc : Thread nD τ).loc main_arg0) ∧ r.2.mem ((c.tc : Thread nD τ).loc main_arg1) = m ((c.tc : Thread nD τ).loc main_arg1)
      ∧ r.2.mem ((c.tc : Thread nD τ).loc main_arg2) = m ((c.tc : Thread nD τ).loc main_arg2) ∧ r.2.mem ((c.tc : Thread nD τ).loc main_arg3) = m ((c.tc : Thread nD τ).loc main_arg3)
      ∧ r.2.mem ((c.tc : Thread nD τ).loc main_arg4) = m ((c.tc : Thread nD τ).loc main_arg4) ∧ r.2.mem ((c.tc : Thread nD τ).loc main_arg5) = m ((c.tc : Thread nD τ).loc main_arg5)) :=
  (θ_run defs _ _).mono (fun _ h c => ⟨(h c).2.1.trans (arr_eq m c), (h c).2.2⟩) (Value.run_blocks m ρ)

end Cert.Kernel5Ideal.Gen

namespace Cert.Reference5Ideal.Read

open Cert.Reference5Ideal Cert.Reference5Ideal.Gen Idealize.ShloMosaic Idealize.ShloMosaic.TcCoe Idealize.SL.Sem

/-- The reference's result at a sequence, a row and a column. -/
theorem result_apply (x : (⟨S9216x2048, .f32⟩ : BufTy).Contents (Elt Ideal)) (g : (⟨S2048, .f32⟩ : BufTy).Contents (Elt Ideal)) (p : (⟨S1x32x15x2048, .f32⟩ : BufTy).Contents (Elt Ideal)) (b : Fin 32) (k : Fin 15) (f : Fin 2048) :
    val_main_v17 (F := Ideal) x g p (ix3 b k f) = normed (fun q => x (ix2 ⟨8192 + 32 * b.val + 17 + k.val, by omega⟩ q)) f (g (ix1 f)) := by
  have e : 8192 + (b.val * 32 + (32 + k.val - 15)) = 8192 + 32 * b.val + 17 + k.val := by omega
  have n : ¬ 32 + k.val < 15 := by omega
  unfold normed
  pointwise [val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  rw [dif_neg n]
  simp only [e]

end Cert.Reference5Ideal.Read

namespace Cert.Proof

open Idealize.ShloMosaic Idealize.ShloMosaic.TcCoe
open Idealize.SL.Sem

/-- The samples' state is the reference's. -/
theorem algebraic5 : Cert.algebraic_Kernel5Ideal_Reference5Ideal := by
  intro m g m' g' _ ha
  refine ⟨fun c => Cert.Kernel5Ideal.Gen.result m c, Cert.Kernel5Ideal.Gen.run_result m g,
    (θ_run Cert.Reference5Ideal.defs _ _).mono (fun r h c => ⟨((h c).1.trans (Cert.Reference5Ideal.Read.val_main_v17_eq ..)).trans ?_, (h c).2⟩) (Cert.Reference5Ideal.Value.run (F := Ideal) m' g')⟩
  obtain ⟨h0, h1, h2, h3, h4, h5⟩ := ha c
  rw [h0, h1, h2]
  funext i
  obtain ⟨b, k, f, rfl⟩ : ∃ (b : Fin 32) (k : Fin 15) (f : Fin 2048), i = ix3 b k f := ⟨i 0, i 1, i 2, eq_ix3 (n0 := 32) (n1 := 15) (n2 := 2048) i⟩
  exact Cert.Reference5Ideal.Read.result_apply _ _ _ b k f

end Cert.Proof

end
-- ==== Proof.Turn.lean ====
module

public import proofs.«01_k».proof.Proof.Gen.Kernel6Ideal.Frame
public import Idealize.ShloMosaic.Lib.Pipeline.ValueKit
public import Idealize.ShloMosaic.Lib.Pointwise
public import Idealize.ShloMosaic.Lib.StableHlo.Run

@[expose] public section

set_option maxRecDepth 16384

noncomputable section

namespace Cert.Proof

open Idealize.ShloMosaic

/-- The angle by which a pair of a head's elements is turned at a position. -/
def angle (p : BitVec 32) (d : ℕ) : EReal :=
  (FloatOps.sitofp (F := Ideal) FTy.f32 p : EReal) * Ideal.div 1 (Ideal.pow (Ideal.ofBits FTy.f32 1176256512#32) (Ideal.div (FloatOps.sitofp (F := Ideal) FTy.f32 (BitVec.ofNat 32 d)) (Ideal.ofBits FTy.f32 1107296256#32)))

/-- A column of a row, its head of 64 turned by the position's angles. -/
def turned (p : BitVec 32) (P : ℕ → EReal) (f : ℕ) : EReal :=
  if f % 64 < 32 then P f * Ideal.cos (angle p (f % 64)) + P (f + 32) * -Ideal.sin (angle p (f % 64))
  else P f * Ideal.cos (angle p (f % 64 - 32)) + P (f - 32) * Ideal.sin (angle p (f % 64 - 32))

/-- The position of a row: the prompt's two sequences, then the samples' 32. -/
def position (r : ℕ) : BitVec 32 :=
  if r < 8192 then BitVec.ofNat 32 (r % 4096) else IntOp.addi (4096#32) (BitVec.ofNat 32 ((r - 8192) % 32))

end Cert.Proof

namespace Cert.Kernel6Ideal.Gen

open Cert.Kernel6Ideal Cert.Proof Idealize.ShloMosaic Idealize.ShloMosaic.TcCoe
open Idealize.SL.Sem

/-- A column stands in the first half of its head. -/
theorem first_half : ∀ f : Fin 256, IntOp.cmpi CmpIPredicate.slt
              (Scalar.select
                (IntOp.andi
                  (IntOp.xori
                    (IntOp.cmpi CmpIPredicate.slt
                      (IntOp.remsi ArithUnit.vector (BitVec.ofNat 32 f.val)
                        (Scalar.select (Scalar.cmpi CmpIPredicate.eq 64#32 0#32) 1#32 64#32))
                      0#32)
                    (Scalar.cmpi CmpIPredicate.slt (Scalar.select (Scalar.cmpi CmpIPredicate.eq 64#32 0#32) 1#32 64#32)
                      0#32))
                  (IntOp.cmpi CmpIPredicate.ne
                    (IntOp.remsi ArithUnit.vector (BitVec.ofNat 32 f.val)
                      (Scalar.select (Scalar.cmpi CmpIPredicate.eq 64#32 0#32) 1#32 64#32))
                    0#32))
                (IntOp.addi
                  (IntOp.remsi ArithUnit.vector (BitVec.ofNat 32 f.val)
                    (Scalar.select (Scalar.cmpi CmpIPredicate.eq 64#32 0#32) 1#32 64#32))
                  (Scalar.select (Scalar.cmpi CmpIPredicate.eq 64#32 0#32) 1#32 64#32))
                (IntOp.remsi ArithUnit.vector (BitVec.ofNat 32 f.val)
                  (Scalar.select (Scalar.cmpi CmpIPredicate.eq 64#32 0#32) 1#32 64#32)))
              32#32 = if f.val % 64 < 32 then 1#1 else 0#1 := by decide +kernel

/-- Whether a point's columns are turned. -/
theorem turns (o : BitVec 32) (ho : o = 0#32 ∨ o = 256#32) : ∀ j : Fin 6, Scalar.cmpi CmpIPredicate.slt (Scalar.addi (Scalar.muli (BitVec.ofNat 32 j.val) 512#32) o) 2560#32 = if j.val < 5 then 1#1 else 0#1 := by
  rcases ho with rfl | rfl <;> decide +kernel

/-- Half of a block's columns, from the rows' products `P`, the tables' rows and whether they are turned. -/
def half (b : BitVec 1) (P : Fin 256 → EReal) (c s : Fin 128 → EReal) (f : Fin 256) : EReal :=
  if b = 1#1 then P f * c ⟨f.val % 128, by omega⟩ + (if f.val % 64 < 32 then P ⟨(f.val + 32) % 256, by omega⟩ else P ⟨(f.val + 224) % 256, by omega⟩) * s ⟨f.val % 128, by omega⟩ else P f

theorem table_fold (c : Fin 128 → EReal) (f : Fin 256) : (if h : f.val < 128 then c ⟨f.val, h⟩ else c ⟨f.val - 128, by omega⟩) = c ⟨f.val % 128, by omega⟩ := by
  split
  · exact congrArg c (Fin.ext (by show f.val = f.val % 128; omega))
  · exact congrArg c (Fin.ext (by show f.val - 128 = f.val % 128; omega))

theorem half_eq (b : BitVec 1) (P : Fin 256 → EReal) (c s : Fin 128 → EReal) (f : Fin 256) :
    Scalar.select b (P f * (if h : f.val < 128 then c ⟨f.val, h⟩ else c ⟨f.val - 128, by omega⟩)
      + Scalar.select (if f.val % 64 < 32 then 1#1 else 0#1) (P ⟨(f.val + 256 - 224) % 256, by omega⟩) (P ⟨(f.val + 256 - 32) % 256, by omega⟩)
        * (if h : f.val < 128 then s ⟨f.val, h⟩ else s ⟨f.val - 128, by omega⟩)) (P f) = half b P c s f := by
  have e1 : (⟨(f.val + 256 - 224) % 256, by omega⟩ : Fin 256) = ⟨(f.val + 32) % 256, by omega⟩ := Fin.ext (by show (f.val + 256 - 224) % 256 = (f.val + 32) % 256; omega)
  have e2 : (⟨(f.val + 256 - 32) % 256, by omega⟩ : Fin 256) = ⟨(f.val + 224) % 256, by omega⟩ := Fin.ext (by show (f.val + 256 - 32) % 256 = (f.val + 224) % 256; omega)
  rw [table_fold, table_fold, e1, e2]
  unfold half Scalar.select
  by_cases h : f.val % 64 < 32
  · simp only [h, if_true]
    rfl
  · simp only [h, if_false]
    rfl

/-- The first half's columns. -/
theorem pay5_apply (x : Vec Ideal S1024x2048 .bf16) (w : Vec Ideal S1x2048x256 .f32) (c s : Vec Ideal S1024x128 .f32) (v : BitVec 32) (r : Fin 1024) (f : Fin 256) :
    k0_pay5 (k0_pay2 x w) v (k0_pay3 x w c) (k0_pay4 x w s) (ix2 r f)
      = half (Scalar.cmpi .slt v 2560#32) (fun g => ∑ q : Fin 2048, x (ix2 r q) * w (ix3 0 q g)) (fun l => c (ix2 r l)) (fun l => s (ix2 r l)) f := by
  pointwise [k0_pay5, k0_pay2, k0_pay3, k0_pay4]
  rw [first_half f]
  exact half_eq _ (fun g => ∑ q : Fin 2048, x (ix2 r q) * w (ix3 0 q g)) (fun l => c (ix2 r l)) (fun l => s (ix2 r l)) f

/-- The second half's columns. -/
theorem pay1_apply (x : Vec Ideal S1024x2048 .bf16) (w : Vec Ideal S1x2048x256 .f32) (c s : Vec Ideal S1024x128 .f32) (v : BitVec 32) (r : Fin 1024) (f : Fin 256) :
    k0_pay1 (k0_pay6 x w) v (k0_pay7 c) (k0_pay8 s) k0_pay9 (k0_pay10 x w) (k0_pay11 x w) (ix2 r f)
      = half (Scalar.cmpi .slt v 2560#32) (fun g => ∑ q : Fin 2048, x (ix2 r q) * w (ix3 0 q g)) (fun l => c (ix2 r l)) (fun l => s (ix2 r l)) f := by
  pointwise [k0_pay1, k0_pay6, k0_pay7, k0_pay8, k0_pay9, k0_pay10, k0_pay11]
  rw [first_half f]
  exact half_eq _ (fun g => ∑ q : Fin 2048, x (ix2 r q) * w (ix3 0 q g)) (fun l => c (ix2 r l)) (fun l => s (ix2 r l)) f

/-- Half of a block's weights, read at its place. -/
theorem cols_apply (w : Vec Ideal S1x2048x512 .f32) (o : ℕ) (h : ∀ a, (![0, 0, o] : Fin 3 → ℕ) a + S1x2048x256.size a ≤ S1x2048x512.size a) (ho : o + 256 ≤ 512) (k : Fin 2048) (f : Fin 256) :
    View.ld w (Rect.unit (s := S1x2048x512) ![0, 0, o] S1x2048x256.size h) (ix3 0 k f) = w (ix3 0 k ⟨o + f.val, by omega⟩) := by
  unfold View.ld
  refine congrArg w (funext fun a => Fin.ext ?_)
  match a with
  | ⟨0, _⟩ => rfl
  | ⟨1, _⟩ => show 0 + 1 * k.val = k.val; omega
  | ⟨2, _⟩ => show o + 1 * f.val = o + f.val; omega

/-- Half of the result's columns: where its elements lie. -/
theorem place (o : ℕ) (h : ∀ a, (![0, o] : Fin 2 → ℕ) a + S1024x256.size a ≤ S1024x512.size a) (ho : o + 256 ≤ 512) (r : Fin 1024) (f : Fin 256) :
    (Rect.unit (s := S1024x512) ![0, o] S1024x256.size h).emb (ix2 r f) = ix2 r ⟨o + f.val, by omega⟩ := by
  funext a
  refine Fin.ext ?_
  match a with
  | ⟨0, _⟩ => show 0 + 1 * r.val = r.val; omega
  | ⟨1, _⟩ => show o + 1 * f.val = o + f.val; omega

theorem zeros : (![0, 0] : Fin 2 → ℕ) = fun _ => 0 := funext fun a => by fin_cases a <;> rfl

/-- The block that a point leaves, from its column of the grid. -/
def block (j : ℕ) (x : Vec Ideal S1024x2048 .bf16) (w : Vec Ideal S1x2048x512 .f32) (c s : Vec Ideal S1024x128 .f32) : Vec Ideal S1024x512 .f32 :=
  fun y => let P : ℕ → EReal := fun g => ∑ q : Fin 2048, x (ix2 (y 0) q) * w (ix3 0 q ⟨g % 512, by omega⟩)
    if j < 5 then P (y 1).val * c (ix2 (y 0) ⟨(y 1).val % 128, by omega⟩)
      + (if (y 1).val % 64 < 32 then P ((y 1).val + 32) else P ((y 1).val - 32)) * s (ix2 (y 0) ⟨(y 1).val % 128, by omega⟩)
    else P (y 1).val

/-- A half of a block. -/
theorem half_block (j : ℕ) (b : BitVec 1) (hb : b = if j < 5 then 1#1 else 0#1) (x : Vec Ideal S1024x2048 .bf16) (w : Vec Ideal S1x2048x512 .f32) (c s : Vec Ideal S1024x128 .f32)
    (o : ℕ) (h : ∀ a, (![0, 0, o] : Fin 3 → ℕ) a + S1x2048x256.size a ≤ S1x2048x512.size a) (ho : o = 0 ∨ o = 256) (r : Fin 1024) (f : Fin 256) :
    half b (fun g => ∑ q : Fin 2048, x (ix2 r q) * View.ld w (Rect.unit (s := S1x2048x512) ![0, 0, o] S1x2048x256.size h) (ix3 0 q g)) (fun l => c (ix2 r l)) (fun l => s (ix2 r l)) f
      = block j x w c s (ix2 r ⟨o + f.val, by omega⟩) := by
  have hP : ∀ (g : Fin 256) (n : ℕ), n < 512 → o + g.val = n → (∑ q : Fin 2048, x (ix2 r q) * View.ld w (Rect.unit (s := S1x2048x512) ![0, 0, o] S1x2048x256.size h) (ix3 0 q g))
      = ∑ q : Fin 2048, x (ix2 r q) * w (ix3 0 q ⟨n % 512, by omega⟩) := by
    intro g n hn e
    refine Finset.sum_congr rfl fun q _ => ?_
    rw [cols_apply _ _ _ (by omega)]
    exact congrArg (fun z => x (ix2 r q) * w (ix3 0 q z)) (Fin.ext (by show o + g.val = n % 512; omega))
  have hl : (⟨f.val % 128, by omega⟩ : Fin 128) = ⟨(o + f.val) % 128, by omega⟩ := Fin.ext (by show f.val % 128 = (o + f.val) % 128; omega)
  have hm : (o + f.val) % 64 = f.val % 64 := by omega
  subst hb
  show half _ _ _ _ f = if j < 5 then (∑ q : Fin 2048, x (ix2 r q) * w (ix3 0 q ⟨(o + f.val) % 512, by omega⟩)) * c (ix2 r ⟨(o + f.val) % 128, by omega⟩)
      + (if (o + f.val) % 64 < 32 then (∑ q : Fin 2048, x (ix2 r q) * w (ix3 0 q ⟨(o + f.val + 32) % 512, by omega⟩)) else (∑ q : Fin 2048, x (ix2 r q) * w (ix3 0 q ⟨(o + f.val - 32) % 512, by omega⟩))) * s (ix2 r ⟨(o + f.val) % 128, by omega⟩)
    else (∑ q : Fin 2048, x (ix2 r q) * w (ix3 0 q ⟨(o + f.val) % 512, by omega⟩))
  unfold half
  rw [← hl, hm]
  by_cases hj : j < 5
  · simp only [hj, if_true]
    refine congrArg₂ (fun u v : EReal => u + v) (congrArg (fun u : EReal => u * _) (hP f _ (by omega) rfl)) (congrArg (fun u : EReal => u * _) ?_)
    by_cases hf : f.val % 64 < 32
    · simp only [hf, if_true]
      exact hP ⟨(f.val + 32) % 256, by omega⟩ _ (by omega) (by show o + (f.val + 32) % 256 = o + f.val + 32; omega)
    · simp only [hf, if_false]
      exact hP ⟨(f.val + 224) % 256, by omega⟩ _ (by omega) (by show o + (f.val + 224) % 256 = o + f.val - 32; omega)
  · simp only [hj, if_false]
    rw [if_neg (by decide)]
    exact hP f _ (by omega) rfl

theorem out_eq (i : grid0.Coords) (x : Vec Ideal S1024x2048 .bf16) (w : Vec Ideal S1x2048x512 .f32) (c s : Vec Ideal S1024x128 .f32) : out0_4 i x w c s = block (i 1).val x w c s := by
  funext y
  unfold out0_4
  refine View.canon_apply_of_pieces (block (i 1).val x w c s) _ (fun p hp j => ?_) y (cover0_4 _ _ y)
  simp only [List.mem_cons, List.mem_nil_iff, or_false] at hp
  rcases hp with rfl | rfl
  all_goals obtain ⟨r, f, rfl⟩ : ∃ (r : Fin 1024) (f : Fin 256), j = ix2 r f := ⟨j 0, j 1, eq_ix2 (n0 := 1024) (n1 := 256) j⟩
  · refine (pay1_apply _ _ _ _ _ r f).trans ?_
    rw [place _ _ (by omega), View.ld_unit_zero zeros, View.ld_unit_zero zeros, View.ld_unit_zero zeros]
    exact half_block _ _ (turns _ (.inr rfl) (i 1)) x w c s 256 _ (.inr rfl) r f
  · refine (pay5_apply _ _ _ _ _ r f).trans ?_
    rw [place _ _ (by omega), View.ld_unit_zero zeros, View.ld_unit_zero zeros, View.ld_unit_zero zeros]
    exact half_block _ _ (turns _ (.inl rfl) (i 1)) x w c s 0 _ (.inl rfl) r f

end Cert.Kernel6Ideal.Gen

end
-- ==== Proof.Keys.lean ====
module

public import proofs.«01_k».proof.Proof.Turn
public import Idealize.ShloMosaic.Lib.Claim

@[expose] public section

set_option maxRecDepth 16384

noncomputable section

namespace Cert.Kernel6Ideal.Gen

open Cert.Kernel6Ideal Cert.Proof Idealize.ShloMosaic Idealize.ShloMosaic.TcCoe
open Idealize.SL.Sem

variable (m : (ℓ : Loc nD τ sig) → Buf (Elt Ideal) ℓ) (ρ : Dev nD → PrngReg)

/-- The table of cosines that the calls read. -/
def cosines : Vec Ideal S9216x128 .f32 :=
  fun i => if (i 1).val % 64 < 32 then Ideal.cos (angle (position (i 0).val) ((i 1).val % 64)) else Ideal.cos (angle (position (i 0).val) ((i 1).val % 64 - 32))

/-- The table of sines, negated over each head's first half. -/
def sines : Vec Ideal S9216x128 .f32 :=
  fun i => if (i 1).val % 64 < 32 then -Ideal.sin (angle (position (i 0).val) ((i 1).val % 64)) else Ideal.sin (angle (position (i 0).val) ((i 1).val % 64 - 32))

theorem V_cosines (c : Dev nD) : V m c main_v31 = cosines := by
  obtain ⟨t, ht, he⟩ : ∃ t : Vec Ideal S9216x128 .f32, V m c main_v31 = t ∧ ∀ r l, t (ix2 r l) = cosines (ix2 r l) := by
    refine ⟨?t, ?h, ?e⟩
    case h =>
      unfold_abbrev_sides
      simp only [hostOps0, List.flatten_cons, List.flatten_nil, List.append_nil, List.cons_append, List.nil_append]
      simp only [StableHlo.after_cons, StableHlo.after_nil]
      after_results_simp
      after_results_loop
      try rfl
    intro r l
    unfold cosines angle position
    pointwise
    rfl
  rw [ht]
  funext i
  obtain ⟨r, l, rfl⟩ : ∃ (r : Fin 9216) (l : Fin 128), i = ix2 r l := ⟨i 0, i 1, eq_ix2 (n0 := 9216) (n1 := 128) i⟩
  exact he r l

theorem V_sines (c : Dev nD) : V m c main_v34 = sines := by
  obtain ⟨t, ht, he⟩ : ∃ t : Vec Ideal S9216x128 .f32, V m c main_v34 = t ∧ ∀ r l, t (ix2 r l) = sines (ix2 r l) := by
    refine ⟨?t, ?h, ?e⟩
    case h =>
      unfold_abbrev_sides
      simp only [hostOps0, List.flatten_cons, List.flatten_nil, List.append_nil, List.cons_append, List.nil_append]
      simp only [StableHlo.after_cons, StableHlo.after_nil]
      after_results_simp
      after_results_loop
      try rfl
    intro r l
    unfold sines angle position
    pointwise
    rfl
  rw [ht]
  funext i
  obtain ⟨r, l, rfl⟩ : ∃ (r : Fin 9216) (l : Fin 128), i = ix2 r l := ⟨i 0, i 1, eq_ix2 (n0 := 9216) (n1 := 128) i⟩
  exact he r l

/-- A row against a column of the weights. -/
def product (x : Vec Ideal S9216x2048 .bf16) (w : Vec Ideal S1x2048x3072 .f32) (r : Fin 9216) (f : ℕ) : EReal :=
  ∑ q : Fin 2048, x (ix2 r q) * w (ix3 0 q ⟨f % 3072, by omega⟩)

/-- The projection: queries and keys turned, values not. -/
def projected (x : Vec Ideal S9216x2048 .bf16) (w : Vec Ideal S1x2048x3072 .f32) : Vec Ideal S9216x3072 .f32 :=
  fun i => if (i 1).val < 2560 then turned (position (i 0).val) (product x w (i 0)) (i 1).val else product x w (i 0) (i 1).val

/-- A block from the blocks it reads is the projection's. -/
theorem block_eq (i j : ℕ) (hi : i < 9) (hj : j < 6) (x0 : Vec Ideal S1024x2048 .bf16) (w0 : Vec Ideal S1x2048x512 .f32) (c0 s0 : Vec Ideal S1024x128 .f32)
    (x : Vec Ideal S9216x2048 .bf16) (w : Vec Ideal S1x2048x3072 .f32) (r : Fin 1024) (f : Fin 512)
    (hx : ∀ q, x0 (ix2 r q) = x (ix2 ⟨1024 * i + r.val, by omega⟩ q)) (hw : ∀ q g, w0 (ix3 0 q g) = w (ix3 0 q ⟨512 * j + g.val, by omega⟩))
    (hc : ∀ l, c0 (ix2 r l) = cosines (ix2 ⟨1024 * i + r.val, by omega⟩ l)) (hs : ∀ l, s0 (ix2 r l) = sines (ix2 ⟨1024 * i + r.val, by omega⟩ l)) :
    block j x0 w0 c0 s0 (ix2 r f) = projected x w (ix2 ⟨1024 * i + r.val, by omega⟩ ⟨512 * j + f.val, by omega⟩) := by
  have hP : ∀ g n : ℕ, g < 512 → 512 * j + g = n → (∑ q : Fin 2048, x0 (ix2 r q) * w0 (ix3 0 q ⟨g % 512, by omega⟩)) = product x w ⟨1024 * i + r.val, by omega⟩ n := by
    intro g n hg hn
    unfold product
    refine Finset.sum_congr rfl fun q _ => ?_
    rw [hx, hw]
    exact congrArg (fun z => x _ * w (ix3 0 q z)) (Fin.ext (by show 512 * j + g % 512 = n % 3072; omega))
  have e1 : f.val % 128 % 64 = f.val % 64 := by omega
  have e2 : (512 * j + f.val) % 64 = f.val % 64 := by omega
  unfold block projected turned
  show (if j < 5 then (∑ q : Fin 2048, x0 (ix2 r q) * w0 (ix3 0 q ⟨f.val % 512, by omega⟩)) * c0 (ix2 r ⟨f.val % 128, by omega⟩)
      + (if f.val % 64 < 32 then (∑ q : Fin 2048, x0 (ix2 r q) * w0 (ix3 0 q ⟨(f.val + 32) % 512, by omega⟩)) else (∑ q : Fin 2048, x0 (ix2 r q) * w0 (ix3 0 q ⟨(f.val - 32) % 512, by omega⟩))) * s0 (ix2 r ⟨f.val % 128, by omega⟩)
    else (∑ q : Fin 2048, x0 (ix2 r q) * w0 (ix3 0 q ⟨f.val % 512, by omega⟩)))
    = if 512 * j + f.val < 2560 then
        if (512 * j + f.val) % 64 < 32 then product x w ⟨1024 * i + r.val, by omega⟩ (512 * j + f.val) * Ideal.cos (angle (position (1024 * i + r.val)) ((512 * j + f.val) % 64))
          + product x w ⟨1024 * i + r.val, by omega⟩ (512 * j + f.val + 32) * -Ideal.sin (angle (position (1024 * i + r.val)) ((512 * j + f.val) % 64))
        else product x w ⟨1024 * i + r.val, by omega⟩ (512 * j + f.val) * Ideal.cos (angle (position (1024 * i + r.val)) ((512 * j + f.val) % 64 - 32))
          + product x w ⟨1024 * i + r.val, by omega⟩ (512 * j + f.val - 32) * Ideal.sin (angle (position (1024 * i + r.val)) ((512 * j + f.val) % 64 - 32))
      else product x w ⟨1024 * i + r.val, by omega⟩ (512 * j + f.val)
  have hC : cosines (ix2 (⟨1024 * i + r.val, by omega⟩ : Fin 9216) (⟨f.val % 128, by omega⟩ : Fin 128))
      = if f.val % 64 < 32 then Ideal.cos (angle (position (1024 * i + r.val)) (f.val % 64)) else Ideal.cos (angle (position (1024 * i + r.val)) (f.val % 64 - 32)) := by
    show (if f.val % 128 % 64 < 32 then Ideal.cos (angle (position (1024 * i + r.val)) (f.val % 128 % 64)) else Ideal.cos (angle (position (1024 * i + r.val)) (f.val % 128 % 64 - 32))) = _
    rw [e1]
  have hS : sines (ix2 (⟨1024 * i + r.val, by omega⟩ : Fin 9216) (⟨f.val % 128, by omega⟩ : Fin 128))
      = if f.val % 64 < 32 then -Ideal.sin (angle (position (1024 * i + r.val)) (f.val % 64)) else Ideal.sin (angle (position (1024 * i + r.val)) (f.val % 64 - 32)) := by
    show (if f.val % 128 % 64 < 32 then -Ideal.sin (angle (position (1024 * i + r.val)) (f.val % 128 % 64)) else Ideal.sin (angle (position (1024 * i + r.val)) (f.val % 128 % 64 - 32))) = _
    rw [e1]
  rw [hP f.val (512 * j + f.val) (by omega) rfl, hc, hs, e2, hC, hS]
  have hj' : 512 * j + f.val < 2560 ↔ j < 5 := by omega
  simp only [hj']
  by_cases h : j < 5
  · simp only [h, if_true]
    by_cases hf : f.val % 64 < 32
    · simp only [hf, if_true]
      rw [hP (f.val + 32) (512 * j + f.val + 32) (by omega) rfl]
    · simp only [hf, if_false]
      rw [hP (f.val - 32) (512 * j + f.val - 32) (by omega) (by omega)]
  · simp only [h, if_false]

/-- The projection of the arguments. -/
def result (c : Dev nD) : Vec Ideal S9216x3072 .f32 := projected (m ((c : Thread nD τ).loc main_arg0)) (m ((c : Thread nD τ).loc main_arg1))

/-- Where the windows stand at a point. -/
theorem idx : ∀ t : Fin grid0.N, win0_0.index t = ![(grid0.coords t 0).val, 0] ∧ win0_1.index t = ![0, 0, (grid0.coords t 1).val] ∧ win0_2.index t = ![(grid0.coords t 0).val, 0]
    ∧ win0_3.index t = ![(grid0.coords t 0).val, 0] ∧ win0_4.index t = ![(grid0.coords t 0).val, (grid0.coords t 1).val] := by
  decide +kernel

set_option maxHeartbeats 800000 in
/-- The result array after the run. -/
theorem arr_eq (c : Dev nD) : (dats m 0 c).arrAt 4 cfg0.N = result m c := by
  refine (dats m 0 c).arrAt_eq_of_covers 4 _ (by decide +kernel) fun t hf y => ?_
  blk_simp
  rw [after0_4, out_eq]
  obtain ⟨r, f, rfl⟩ : ∃ (r : Fin 1024) (f : Fin 512), y = ix2 r f := ⟨y 0, y 1, eq_ix2 (n0 := 1024) (n1 := 512) y⟩
  have h0 : (grid0.coords t 0).val < 9 := (grid0.coords t 0).isLt
  have h1 : (grid0.coords t 1).val < 6 := (grid0.coords t 1).isLt
  have he : ((View.whole main_v35).slice (win0_4.rect t)).emb (ix2 r f) = ix2 (⟨1024 * (grid0.coords t 0).val + r.val, by omega⟩ : Fin 9216) (⟨512 * (grid0.coords t 1).val + f.val, by omega⟩ : Fin 3072) := by
    blk_ext [(idx t).2.2.2.2]
  rw [he]
  have hc : ∀ l : Fin 128, iblk m c 2 t (ix2 r l) = cosines (ix2 ⟨1024 * (grid0.coords t 0).val + r.val, by omega⟩ l) := by
    intro l
    unfold iblk
    show V m c main_v31 ((win0_2.blk t).view.emb (ix2 r l)) = _
    have hg : (win0_2.blk t).view.emb (ix2 r l) = ix2 (⟨1024 * (grid0.coords t 0).val + r.val, by omega⟩ : Fin 9216) l := by
      blk_ext [(idx t).2.2.1]
    rw [hg, V_cosines]
  have hs : ∀ l : Fin 128, iblk m c 3 t (ix2 r l) = sines (ix2 ⟨1024 * (grid0.coords t 0).val + r.val, by omega⟩ l) := by
    intro l
    unfold iblk
    show V m c main_v34 ((win0_3.blk t).view.emb (ix2 r l)) = _
    have hg : (win0_3.blk t).view.emb (ix2 r l) = ix2 (⟨1024 * (grid0.coords t 0).val + r.val, by omega⟩ : Fin 9216) l := by
      blk_ext [(idx t).2.2.2.1]
    rw [hg, V_sines]
  refine block_eq (grid0.coords t 0).val (grid0.coords t 1).val (by omega) (by omega) _ _ _ _ (m ((c : Thread nD τ).loc main_arg0)) (m ((c : Thread nD τ).loc main_arg1)) r f (fun q => ?_) (fun q g => ?_) hc hs
  · unfold iblk
    blk_ext [V_main_arg0, (idx t).1]
  · have hg : (win0_1.blk t).view.emb (ix3 0 q g) = ix3 (0 : Fin 1) q (⟨512 * (grid0.coords t 1).val + g.val, by omega⟩ : Fin 3072) := by
      blk_ext [(idx t).2.1]
    unfold iblk
    show V m c main_arg1 ((win0_1.blk t).view.emb (ix3 0 q g)) = _
    rw [hg, V_main_arg1]

/-- The prompt's last 128 rows of a column range, heads apart. -/
def recent (A : Vec Ideal S9216x3072 .f32) (o : ℕ) (ho : o + 512 ≤ 3072) (b : Fin 2) (k : Fin 128) (h : Fin 8) (e : Fin 64) : EReal :=
  A (ix2 ⟨4096 * b.val + 3968 + k.val, by omega⟩ ⟨o + (h.val * 64 + e.val), by omega⟩)

/-- A cache shifted by the samples' 32 rows, these after it. -/
def shifted (A : Vec Ideal S9216x3072 .f32) (p : Vec Ideal S1x32x128x8x64 .f32) (o : ℕ) (ho : o + 512 ≤ 3072) (b : Fin 32) (k : Fin 128) (h : Fin 8) (e : Fin 64) : EReal :=
  if hk : k.val < 96 then p (ix5 0 b ⟨32 + k.val, by omega⟩ h e)
  else A (ix2 ⟨8192 + (b.val * 32 + (k.val - 96)), by omega⟩ ⟨o + (h.val * 64 + e.val), by omega⟩)

/-- The prompt's window over a column range. -/
def prompt (A : Vec Ideal S9216x3072 .f32) (o : ℕ) (ho : o + 512 ≤ 3072) : Vec Ideal S2x128x8x64 .f32 := fun i => recent A o ho (i 0) (i 1) (i 2) (i 3)

/-- The samples' window over a column range. -/
def sample (A : Vec Ideal S9216x3072 .f32) (p : Vec Ideal S1x32x128x8x64 .f32) (o : ℕ) (ho : o + 512 ≤ 3072) : Vec Ideal S32x128x8x64 .f32 := fun i => shifted A p o ho (i 0) (i 1) (i 2) (i 3)

/-- The first or the second sequence's rows, chosen as the version stacks them. -/
theorem recent_eq (A : Vec Ideal S9216x3072 .f32) (o o' : ℕ) (ho : o + 512 ≤ 3072) (b : Fin 2) (k : Fin 128) (h : Fin 8) (e : Fin 64) (h' : o' = o + (h.val * 64 + e.val)) :
    (if _ : b.val < 1 then A (ix2 ⟨3968 + k.val, by omega⟩ ⟨o', by omega⟩) else A (ix2 ⟨8064 + k.val, by omega⟩ ⟨o', by omega⟩)) = recent A o ho b k h e := by
  subst h'
  unfold recent
  split
  · exact congrArg (fun r => A (ix2 r _)) (Fin.ext (by show 3968 + k.val = 4096 * b.val + 3968 + k.val; omega))
  · exact congrArg (fun r => A (ix2 r _)) (Fin.ext (by show 8064 + k.val = 4096 * b.val + 3968 + k.val; omega))

/-- The shifted cache, its columns counted otherwise. -/
theorem shifted_eq (A : Vec Ideal S9216x3072 .f32) (p : Vec Ideal S1x32x128x8x64 .f32) (o o' : ℕ) (ho : o + 512 ≤ 3072) (b : Fin 32) (k : Fin 128) (h : Fin 8) (e : Fin 64) (h' : o' = o + (h.val * 64 + e.val)) :
    (if hk : k.val < 96 then p (ix5 0 b ⟨32 + k.val, by omega⟩ h e) else A (ix2 ⟨8192 + (b.val * 32 + (k.val - 96)), by omega⟩ ⟨o', by omega⟩)) = shifted A p o ho b k h e := by
  subst h'
  rfl

/-- The prompt's keys after the host's lines. -/
theorem tail_kp (U : Valuation τ sig (Elt Ideal)) : StableHlo.after hostOps1 U (Proc.devRef .tc main_v44) = prompt (U (Proc.devRef .tc main_v35)) 2048 (by omega) := by
  obtain ⟨t, ht, he⟩ : ∃ t : Vec Ideal S2x128x8x64 .f32, StableHlo.after hostOps1 U (Proc.devRef .tc main_v44) = t ∧ ∀ b k h e, t (ix4 b k h e) = recent (U (Proc.devRef .tc main_v35)) 2048 (by omega) b k h e := by
    refine ⟨?t, ?h, ?e⟩
    case h =>
      simp only [hostOps1]
      simp only [StableHlo.after_cons, StableHlo.after_nil]
      after_results_simp
      after_results_loop
      rfl
    intro b k h e
    pointwise
    exact recent_eq (U (Proc.devRef .tc main_v35)) 2048 _ (by omega) b k h e (by omega)
  rw [ht]
  funext i
  obtain ⟨b, k, h, e, rfl⟩ : ∃ (b : Fin 2) (k : Fin 128) (h : Fin 8) (e : Fin 64), i = ix4 b k h e := ⟨i 0, i 1, i 2, i 3, eq_ix4 (n0 := 2) (n1 := 128) (n2 := 8) (n3 := 64) i⟩
  exact he b k h e

/-- The prompt's values after the host's lines. -/
theorem tail_vp (U : Valuation τ sig (Elt Ideal)) : StableHlo.after hostOps1 U (Proc.devRef .tc main_v46) = prompt (U (Proc.devRef .tc main_v35)) 2560 (by omega) := by
  obtain ⟨t, ht, he⟩ : ∃ t : Vec Ideal S2x128x8x64 .f32, StableHlo.after hostOps1 U (Proc.devRef .tc main_v46) = t ∧ ∀ b k h e, t (ix4 b k h e) = recent (U (Proc.devRef .tc main_v35)) 2560 (by omega) b k h e := by
    refine ⟨?t, ?h, ?e⟩
    case h =>
      simp only [hostOps1]
      simp only [StableHlo.after_cons, StableHlo.after_nil]
      after_results_simp
      after_results_loop
      rfl
    intro b k h e
    pointwise
    exact recent_eq (U (Proc.devRef .tc main_v35)) 2560 _ (by omega) b k h e (by omega)
  rw [ht]
  funext i
  obtain ⟨b, k, h, e, rfl⟩ : ∃ (b : Fin 2) (k : Fin 128) (h : Fin 8) (e : Fin 64), i = ix4 b k h e := ⟨i 0, i 1, i 2, i 3, eq_ix4 (n0 := 2) (n1 := 128) (n2 := 8) (n3 := 64) i⟩
  exact he b k h e

/-- The samples' keys after the host's lines. -/
theorem tail_ks (U : Valuation τ sig (Elt Ideal)) : StableHlo.after hostOps1 U (Proc.devRef .tc main_v51) = sample (U (Proc.devRef .tc main_v35)) (U (Proc.devRef .tc main_arg2)) 2048 (by omega) := by
  obtain ⟨t, ht, he⟩ : ∃ t : Vec Ideal S32x128x8x64 .f32, StableHlo.after hostOps1 U (Proc.devRef .tc main_v51) = t ∧ ∀ b k h e, t (ix4 b k h e) = shifted (U (Proc.devRef .tc main_v35)) (U (Proc.devRef .tc main_arg2)) 2048 (by omega) b k h e := by
    refine ⟨?t, ?h, ?e⟩
    case h =>
      simp only [hostOps1]
      simp only [StableHlo.after_cons, StableHlo.after_nil]
      after_results_simp
      after_results_loop
      rfl
    intro b k h e
    pointwise
    exact shifted_eq (U (Proc.devRef .tc main_v35)) (U (Proc.devRef .tc main_arg2)) 2048 _ (by omega) b k h e (by omega)
  rw [ht]
  funext i
  obtain ⟨b, k, h, e, rfl⟩ : ∃ (b : Fin 32) (k : Fin 128) (h : Fin 8) (e : Fin 64), i = ix4 b k h e := ⟨i 0, i 1, i 2, i 3, eq_ix4 (n0 := 32) (n1 := 128) (n2 := 8) (n3 := 64) i⟩
  exact he b k h e

/-- The samples' values after the host's lines. -/
theorem tail_vs (U : Valuation τ sig (Elt Ideal)) : StableHlo.after hostOps1 U (Proc.devRef .tc main_v56) = sample (U (Proc.devRef .tc main_v35)) (U (Proc.devRef .tc main_arg3)) 2560 (by omega) := by
  obtain ⟨t, ht, he⟩ : ∃ t : Vec Ideal S32x128x8x64 .f32, StableHlo.after hostOps1 U (Proc.devRef .tc main_v56) = t ∧ ∀ b k h e, t (ix4 b k h e) = shifted (U (Proc.devRef .tc main_v35)) (U (Proc.devRef .tc main_arg3)) 2560 (by omega) b k h e := by
    refine ⟨?t, ?h, ?e⟩
    case h =>
      simp only [hostOps1]
      simp only [StableHlo.after_cons, StableHlo.after_nil]
      after_results_simp
      after_results_loop
      rfl
    intro b k h e
    pointwise
    exact shifted_eq (U (Proc.devRef .tc main_v35)) (U (Proc.devRef .tc main_arg3)) 2560 _ (by omega) b k h e (by omega)
  rw [ht]
  funext i
  obtain ⟨b, k, h, e, rfl⟩ : ∃ (b : Fin 32) (k : Fin 128) (h : Fin 8) (e : Fin 64), i = ix4 b k h e := ⟨i 0, i 1, i 2, i 3, eq_ix4 (n0 := 32) (n1 := 128) (n2 := 8) (n3 := 64) i⟩
  exact he b k h e

/-- What the host's lines read after the region. -/
abbrev after (c : Dev nD) : Valuation τ sig (Elt Ideal) := Pipeline.withArrays (cfgs 0).spec c (V0 m c) fun w => (dats m 0 c).arrAt w (cfgs 0).N

theorem after_result (c : Dev nD) : after m c (Proc.devRef .tc main_v35) = result m c :=
  (Pipeline.withArrays_arr (cfgs 0).spec (by decide) c (V0 m c) (fun w => (dats m 0 c).arrAt w (cfgs 0).N) 4).trans (arr_eq m c)

theorem after_arg2 (c : Dev nD) : after m c (Proc.devRef .tc main_arg2) = m ((c : Thread nD τ).loc main_arg2) :=
  (Pipeline.withArrays_of_ne spec0 c (V0 m c) _ main_arg2 (by exact (by decide : ∀ w, Pipeline.arrRef spec0 w ≠ main_arg2))).trans (V_main_arg2 m c)

theorem after_arg3 (c : Dev nD) : after m c (Proc.devRef .tc main_arg3) = m ((c : Thread nD τ).loc main_arg3) :=
  (Pipeline.withArrays_of_ne spec0 c (V0 m c) _ main_arg3 (by exact (by decide : ∀ w, Pipeline.arrRef spec0 w ≠ main_arg3))).trans (V_main_arg3 m c)

/-- The run. -/
theorem run_result : θ_run defs (onTc (τ := τ) (main (F := Ideal))) ⟨m, fun _ => 0, ρ⟩ (fun r => ∀ c : Dev nD,
      r.2.mem ((c.tc : Thread nD τ).loc main_v44) = prompt (result m c) 2048 (by omega)
      ∧ r.2.mem ((c.tc : Thread nD τ).loc main_v51) = sample (result m c) (m ((c : Thread nD τ).loc main_arg2)) 2048 (by omega)
      ∧ r.2.mem ((c.tc : Thread nD τ).loc main_v46) = prompt (result m c) 2560 (by omega)
      ∧ r.2.mem ((c.tc : Thread nD τ).loc main_v56) = sample (result m c) (m ((c : Thread nD τ).loc main_arg3)) 2560 (by omega)
      ∧ r.2.mem ((c.tc : Thread nD τ).loc main_arg0) = m ((c.tc : Thread nD τ).loc main_arg0) ∧ r.2.mem ((c.tc : Thread nD τ).loc main_arg1) = m ((c.tc : Thread nD τ).loc main_arg1)
      ∧ r.2.mem ((c.tc : Thread nD τ).loc main_arg2) = m ((c.tc : Thread nD τ).loc main_arg2) ∧ r.2.mem ((c.tc : Thread nD τ).loc main_arg3) = m ((c.tc : Thread nD τ).loc main_arg3)) :=
  (θ_run defs _ _).mono (fun _ h c => ⟨
    ((h c).2 main_v44 (Pipeline.mem_restRefs_of main_v44 (by decide) (by decide))).trans ((tail_kp (after m c)).trans (by rw [after_result])),
    ((h c).2 main_v51 (Pipeline.mem_restRefs_of main_v51 (by decide) (by decide))).trans ((tail_ks (after m c)).trans (by rw [after_result, after_arg2])),
    ((h c).2 main_v46 (Pipeline.mem_restRefs_of main_v46 (by decide) (by decide))).trans ((tail_vp (after m c)).trans (by rw [after_result])),
    ((h c).2 main_v56 (Pipeline.mem_restRefs_of main_v56 (by decide) (by decide))).trans ((tail_vs (after m c)).trans (by rw [after_result, after_arg3])),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c)⟩) (run_main m ρ)

end Cert.Kernel6Ideal.Gen

end
-- ==== Proof.Windows.lean ====
module

public import proofs.«01_k».proof.Proof.Keys
public import proofs.«01_k».proof.Proof.Gen.Reference6Ideal.Run
public import proofs.«01_k».proof.Proof.Gen.Reference6Ideal.Read
public import proofs.«01_k».proof.Defs

@[expose] public section

set_option maxRecDepth 16384

noncomputable section

namespace Cert.Proof

open Idealize.ShloMosaic

/-- The position of a prompt's row. -/
theorem position_prompt (b k : ℕ) (hb : b < 2) (hk : k < 128) : position (4096 * b + 3968 + k) = BitVec.ofNat 32 (3968 + k) := by
  unfold position
  rw [if_pos (by omega)]
  exact congrArg _ (by omega)

/-- The position of a sample's row. -/
theorem position_sample (b k : ℕ) (hb : b < 32) (hk : k < 32) : position (8192 + (b * 32 + k)) = IntOp.addi (4096#32) (BitVec.ofNat 32 k) := by
  unfold position
  rw [if_neg (by omega)]
  exact congrArg (fun n => IntOp.addi (4096#32) (BitVec.ofNat 32 n)) (by omega)

/-- A turned column by its place in its head: the pair's two elements. -/
theorem turned_head (p : BitVec 32) (P : ℕ → EReal) (o h e : ℕ) (ho : o % 64 = 0) (he : e < 64) :
    turned p P (o + (h * 64 + e)) = if e < 32 then P (o + (h * 64 + e)) * Ideal.cos (angle p e) - P (o + (h * 64 + (32 + e))) * Ideal.sin (angle p e)
      else P (o + (h * 64 + (e - 32))) * Ideal.sin (angle p (e - 32)) + P (o + (h * 64 + (32 + (e - 32)))) * Ideal.cos (angle p (e - 32)) := by
  have e0 : (o + (h * 64 + e)) % 64 = e := by omega
  unfold turned
  rw [e0]
  by_cases hh : e < 32
  · have e1 : o + (h * 64 + e) + 32 = o + (h * 64 + (32 + e)) := by omega
    rw [if_pos hh, if_pos hh, e1, sub_eq_add_neg, mul_neg]
  · have e1 : o + (h * 64 + e) - 32 = o + (h * 64 + (e - 32)) := by omega
    have e2 : o + (h * 64 + e) = o + (h * 64 + (32 + (e - 32))) := by omega
    rw [if_neg hh, if_neg hh, e1, ← e2, add_comm]

end Cert.Proof

namespace Cert.Reference6Ideal.Read

open Cert.Reference6Ideal Cert.Reference6Ideal.Gen Cert.Proof Cert.Kernel6Ideal.Gen Idealize.ShloMosaic Idealize.ShloMosaic.TcCoe Idealize.SL.Sem

variable (x : (⟨S9216x2048, .bf16⟩ : BufTy).Contents (Elt Ideal)) (w : (⟨S1x2048x3072, .f32⟩ : BufTy).Contents (Elt Ideal)) (p : (⟨S1x32x128x8x64, .f32⟩ : BufTy).Contents (Elt Ideal))

/-- The product at a column of the weights. -/
theorem product_eq (r : Fin 9216) (f : ℕ) (hf : f < 3072) : product x w r f = ∑ q : Fin 2048, x (ix2 r q) * w (ix3 0 q ⟨f, hf⟩) := by
  unfold product
  simp only [Nat.mod_eq_of_lt hf]

/-- The projection at a key's element. -/
theorem key_eq (r : Fin 9216) (h : Fin 8) (e : Fin 64) : projected x w (ix2 r ⟨2048 + (h.val * 64 + e.val), by omega⟩)
    = if e.val < 32 then product x w r (2048 + (h.val * 64 + e.val)) * Ideal.cos (angle (position r.val) e.val) - product x w r (2048 + (h.val * 64 + (32 + e.val))) * Ideal.sin (angle (position r.val) e.val)
      else product x w r (2048 + (h.val * 64 + (e.val - 32))) * Ideal.sin (angle (position r.val) (e.val - 32)) + product x w r (2048 + (h.val * 64 + (32 + (e.val - 32)))) * Ideal.cos (angle (position r.val) (e.val - 32)) := by
  rw [← turned_head (position r.val) (product x w r) 2048 h.val e.val (by omega) (by omega)]
  exact if_pos (show 2048 + (h.val * 64 + e.val) < 2560 by omega)

/-- The projection at a value's element. -/
theorem value_eq (r : Fin 9216) (h : Fin 8) (e : Fin 64) : projected x w (ix2 r ⟨2560 + (h.val * 64 + e.val), by omega⟩) = product x w r (2560 + (h.val * 64 + e.val)) :=
  if_neg (show ¬ 2560 + (h.val * 64 + e.val) < 2560 by omega)

/-- The reference's prompt values. -/
theorem values_prompt (b : Fin 2) (k : Fin 128) (h : Fin 8) (e : Fin 64) : val_main_v42 (F := Ideal) x w (ix4 b k h e) = recent (projected x w) 2560 (by omega) b k h e := by
  have n : b.val * 4096 + (3968 + k.val) = 4096 * b.val + 3968 + k.val := by omega
  unfold recent
  rw [value_eq, product_eq x w _ _ (by omega)]
  pointwise [val_main_v42, val_main_v40, val_main_v8, val_main_v5, val_main_v4, val_main_v2, val_main_v1, val_main_v0]
  simp only [n]

/-- The reference's prompt keys. -/
theorem keys_prompt (b : Fin 2) (k : Fin 128) (h : Fin 8) (e : Fin 64) : val_main_v41 (F := Ideal) x w (ix4 b k h e) = recent (projected x w) 2048 (by omega) b k h e := by
  have n : b.val * 4096 + (3968 + k.val) = 4096 * b.val + 3968 + k.val := by omega
  unfold recent
  rw [key_eq]
  show _ = if e.val < 32 then _ * Ideal.cos (angle (position (4096 * b.val + 3968 + k.val)) e.val) - _ * Ideal.sin (angle (position (4096 * b.val + 3968 + k.val)) e.val)
    else _ * Ideal.sin (angle (position (4096 * b.val + 3968 + k.val)) (e.val - 32)) + _ * Ideal.cos (angle (position (4096 * b.val + 3968 + k.val)) (e.val - 32))
  rw [position_prompt b.val k.val (by omega) (by omega)]
  pointwise [val_main_v41, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_cst_1, val_main_v14, val_main_v13, val_main_cst_0, val_main_v12, val_main_v11, val_main_cst, val_main_v10, val_main_v9, val_main_v7, val_main_v5, val_main_v4, val_main_v3, val_main_v2, val_main_v1, val_main_v0]
  simp only [n]
  by_cases hh : e.val < 32
  · rw [dif_pos hh, if_pos hh, product_eq x w _ _ (by omega), product_eq x w _ _ (by omega)]
    rfl
  · rw [dif_neg hh, if_neg hh, product_eq x w _ _ (by omega), product_eq x w _ _ (by omega)]
    rfl

/-- The reference's sample values. -/
theorem values_sample (b : Fin 32) (k : Fin 128) (h : Fin 8) (e : Fin 64) : val_main_v90 (F := Ideal) x w p (ix4 b k h e) = shifted (projected x w) p 2560 (by omega) b k h e := by
  have n : 32 + k.val - 128 = k.val - 96 := by omega
  unfold shifted
  pointwise [val_main_v90, val_main_v88, val_main_v86, val_main_v54, val_main_v51, val_main_v50, val_main_v48, val_main_v44, val_main_v43, val_main_v0]
  by_cases hk : k.val < 96
  · rw [dif_pos (by omega), dif_pos hk]
  · rw [dif_neg (by omega), dif_neg hk, value_eq, product_eq x w _ _ (by omega)]
    simp only [n]

/-- The reference's sample keys. -/
theorem keys_sample (b : Fin 32) (k : Fin 128) (h : Fin 8) (e : Fin 64) : val_main_v89 (F := Ideal) x w p (ix4 b k h e) = shifted (projected x w) p 2048 (by omega) b k h e := by
  have n : 32 + k.val - 128 = k.val - 96 := by omega
  by_cases hk : k.val < 96
  · have hs : shifted (projected x w) p 2048 (by omega) b k h e = p (ix5 0 b ⟨32 + k.val, by omega⟩ h e) := dif_pos hk
    rw [hs]
    pointwise [val_main_v89, val_main_v87, val_main_v85, val_main_v84, val_main_v83, val_main_v82, val_main_v81, val_main_v80, val_main_v79, val_main_v78, val_main_v77, val_main_v76, val_main_v75, val_main_v74, val_main_v73, val_main_v72, val_main_v71, val_main_v70, val_main_v69, val_main_v68, val_main_v67, val_main_v66, val_main_v65, val_main_v64, val_main_v63, val_main_v62, val_main_v61, val_main_cst_4, val_main_v60, val_main_v59, val_main_cst_3, val_main_v58, val_main_v57, val_main_cst_2, val_main_v56, val_main_v55, val_main_v53, val_main_v51, val_main_v49, val_main_v48, val_main_v47, val_main_v46, val_main_c, val_main_v45, val_main_v44, val_main_v43, val_main_v0]
    exact dif_pos (show 32 + k.val < 128 by omega)
  · have hs : shifted (projected x w) p 2048 (by omega) b k h e = projected x w (ix2 ⟨8192 + (b.val * 32 + (k.val - 96)), by omega⟩ ⟨2048 + (h.val * 64 + e.val), by omega⟩) := dif_neg hk
    by_cases hh : e.val < 32
    · rw [hs, key_eq, if_pos hh, product_eq x w _ _ (by omega), product_eq x w _ _ (by omega)]
      show _ = _ * Ideal.cos (angle (position (8192 + (b.val * 32 + (k.val - 96)))) e.val) - _ * Ideal.sin (angle (position (8192 + (b.val * 32 + (k.val - 96)))) e.val)
      rw [position_sample b.val (k.val - 96) (by omega) (by omega)]
      unfold angle
      pointwise [val_main_v89, val_main_v87, val_main_v85, val_main_v84, val_main_v83, val_main_v82, val_main_v81, val_main_v80, val_main_v79, val_main_v78, val_main_v77, val_main_v76, val_main_v75, val_main_v74, val_main_v73, val_main_v72, val_main_v71, val_main_v70, val_main_v69, val_main_v68, val_main_v67, val_main_v66, val_main_v65, val_main_v64, val_main_v63, val_main_v62, val_main_v61, val_main_cst_4, val_main_v60, val_main_v59, val_main_cst_3, val_main_v58, val_main_v57, val_main_cst_2, val_main_v56, val_main_v55, val_main_v53, val_main_v51, val_main_v49, val_main_v48, val_main_v47, val_main_v46, val_main_c, val_main_v45, val_main_v44, val_main_v43, val_main_v0]
      rw [dif_neg (show ¬ 32 + k.val < 128 by omega), dif_pos hh]
      simp only [n]
    · rw [hs, key_eq, if_neg hh, product_eq x w _ _ (by omega), product_eq x w _ _ (by omega)]
      show _ = _ * Ideal.sin (angle (position (8192 + (b.val * 32 + (k.val - 96)))) (e.val - 32)) + _ * Ideal.cos (angle (position (8192 + (b.val * 32 + (k.val - 96)))) (e.val - 32))
      rw [position_sample b.val (k.val - 96) (by omega) (by omega)]
      unfold angle
      pointwise [val_main_v89, val_main_v87, val_main_v85, val_main_v84, val_main_v83, val_main_v82, val_main_v81, val_main_v80, val_main_v79, val_main_v78, val_main_v77, val_main_v76, val_main_v75, val_main_v74, val_main_v73, val_main_v72, val_main_v71, val_main_v70, val_main_v69, val_main_v68, val_main_v67, val_main_v66, val_main_v65, val_main_v64, val_main_v63, val_main_v62, val_main_v61, val_main_cst_4, val_main_v60, val_main_v59, val_main_cst_3, val_main_v58, val_main_v57, val_main_cst_2, val_main_v56, val_main_v55, val_main_v53, val_main_v51, val_main_v49, val_main_v48, val_main_v47, val_main_v46, val_main_c, val_main_v45, val_main_v44, val_main_v43, val_main_v0]
      rw [dif_neg (show ¬ 32 + k.val < 128 by omega), dif_neg hh]
      simp only [n]

end Cert.Reference6Ideal.Read

namespace Cert.Proof

open Idealize.ShloMosaic Idealize.ShloMosaic.TcCoe
open Idealize.SL.Sem

/-- The windows of keys and values, the prompt's and the samples', are the reference's. -/
theorem algebraic6 : Cert.algebraic_Kernel6Ideal_Reference6Ideal := by
  intro m g m' g' _ ha
  refine ⟨fun c => Cert.Kernel6Ideal.Gen.prompt (Cert.Kernel6Ideal.Gen.result m c) 2048 (by omega),
    fun c => Cert.Kernel6Ideal.Gen.sample (Cert.Kernel6Ideal.Gen.result m c) (m ((c.tc : Thread Cert.Kernel6Ideal.nD Cert.Kernel6Ideal.τ).loc Cert.Kernel6Ideal.main_arg2)) 2048 (by omega),
    fun c => Cert.Kernel6Ideal.Gen.prompt (Cert.Kernel6Ideal.Gen.result m c) 2560 (by omega),
    fun c => Cert.Kernel6Ideal.Gen.sample (Cert.Kernel6Ideal.Gen.result m c) (m ((c.tc : Thread Cert.Kernel6Ideal.nD Cert.Kernel6Ideal.τ).loc Cert.Kernel6Ideal.main_arg3)) 2560 (by omega),
    Cert.Kernel6Ideal.Gen.run_result m g,
    (θ_run Cert.Reference6Ideal.defs _ _).mono (fun r h c => ⟨((h c).1.trans (Cert.Reference6Ideal.Read.val_main_v41_eq ..)).trans ?_,
      ((h c).2.1.trans (Cert.Reference6Ideal.Read.val_main_v89_eq ..)).trans ?_, ((h c).2.2.1.trans (Cert.Reference6Ideal.Read.val_main_v42_eq ..)).trans ?_,
      ((h c).2.2.2.1.trans (Cert.Reference6Ideal.Read.val_main_v90_eq ..)).trans ?_, (h c).2.2.2.2⟩) (Cert.Reference6Ideal.Value.run (F := Ideal) m' g')⟩
  all_goals
    obtain ⟨h0, h1, h2, h3⟩ := ha c
    rw [h0, h1]
  · funext i
    obtain ⟨b, k, h, e, rfl⟩ : ∃ (b : Fin 2) (k : Fin 128) (h : Fin 8) (e : Fin 64), i = ix4 b k h e := ⟨i 0, i 1, i 2, i 3, eq_ix4 (n0 := 2) (n1 := 128) (n2 := 8) (n3 := 64) i⟩
    exact Cert.Reference6Ideal.Read.keys_prompt _ _ b k h e
  · rw [h2]
    funext i
    obtain ⟨b, k, h, e, rfl⟩ : ∃ (b : Fin 32) (k : Fin 128) (h : Fin 8) (e : Fin 64), i = ix4 b k h e := ⟨i 0, i 1, i 2, i 3, eq_ix4 (n0 := 32) (n1 := 128) (n2 := 8) (n3 := 64) i⟩
    exact Cert.Reference6Ideal.Read.keys_sample _ _ _ b k h e
  · funext i
    obtain ⟨b, k, h, e, rfl⟩ : ∃ (b : Fin 2) (k : Fin 128) (h : Fin 8) (e : Fin 64), i = ix4 b k h e := ⟨i 0, i 1, i 2, i 3, eq_ix4 (n0 := 2) (n1 := 128) (n2 := 8) (n3 := 64) i⟩
    exact Cert.Reference6Ideal.Read.values_prompt _ _ b k h e
  · rw [h3]
    funext i
    obtain ⟨b, k, h, e, rfl⟩ : ∃ (b : Fin 32) (k : Fin 128) (h : Fin 8) (e : Fin 64), i = ix4 b k h e := ⟨i 0, i 1, i 2, i 3, eq_ix4 (n0 := 32) (n1 := 128) (n2 := 8) (n3 := 64) i⟩
    exact Cert.Reference6Ideal.Read.values_sample _ _ _ b k h e

end Cert.Proof

end
-- ==== Proof.States.lean ====
module

public import proofs.«01_k».proof.Proof.Gen.Kernel7Ideal.Frame
public import Idealize.ShloMosaic.Lib.Pipeline.ValueKit
public import Idealize.ShloMosaic.Lib.Pipeline.ReadBack
public import Idealize.ShloMosaic.Lib.Pointwise
public import Idealize.ShloMosaic.Lib.StableHlo.Run

@[expose] public section

set_option maxRecDepth 16384

noncomputable section

namespace Cert.Kernel7Ideal.Gen

open Cert.Kernel7Ideal Idealize.ShloMosaic Idealize.ShloMosaic.TcCoe
open Idealize.SL.Sem

/-- The decay of a whole block of 32 rows, from a head's logarithm. -/
def fade (g : EReal) : EReal := Ideal.exp (Ideal.ofBits FTy.f32 1107296256#32 * g)

/-- The decay from a row to the block's last. -/
def fadeFrom (g : EReal) (l : ℕ) : EReal :=
  Ideal.exp ((Ideal.ofBits FTy.f32 1106771968#32 - (FloatOps.sitofp (F := Ideal) FTy.f32 (BitVec.ofNat 32 l) : EReal)) * g)

/-- The states that a sample's block leaves, one a head, from the block's keys and values and the states before it. -/
def kept (g : Vec Ideal S8 .f32) (k : Vec Ideal S32x2048 .bf16) (v : Vec Ideal S32x4096 .bf16) (s : Vec Ideal S1x1x8x256x512 .f32) : Vec Ideal S8x256x512 .f32 :=
  fun y => s (ix5 0 0 (y 0) (y 1) (y 2)) * fade (g (ix1 (y 0)))
    + ∑ l : Fin 32, k (ix2 l ⟨256 * (y 0).val + (y 1).val, by have h0 : (y 0).val < 8 := (y 0).isLt; have h1 : (y 1).val < 256 := (y 1).isLt; omega⟩) * fadeFrom (g (ix1 (y 0))) l.val
      * v (ix2 l ⟨512 * (y 0).val + (y 2).val, by have h0 : (y 0).val < 8 := (y 0).isLt; have h1 : (y 2).val < 512 := (y 2).isLt; omega⟩)

/-- A head's step at an element. -/
theorem pay22_apply (g : Elt Ideal .f32) (k : Vec Ideal S32x256 .bf16) (v : Vec Ideal S32x512 .bf16) (s : Vec Ideal S1x1x1x256x512 .f32) (d : Fin 256) (e : Fin 512) :
    k0_pay22 k0_pay3 g k v (k0_pay4 s) (ix3 0 d e) = s (ix5 0 0 0 d e) * fade g + ∑ l : Fin 32, k (ix2 l d) * fadeFrom g l.val * v (ix2 l e) := by
  unfold fade fadeFrom
  pointwise [k0_pay22, k0_pay3, k0_pay4, k0_pay21]

/-- The word read for a head is its own. -/
theorem word (i : grid0.Coords) (n : Fin 8) : k0_off1 i (BitVec.ofNat 32 n.val) 0 = n.val := by
  have h : (i 1).val = 0 := by
    have : (i 1).val < 1 := (i 1).isLt
    omega
  unfold k0_off1
  rw [h]
  revert n
  decide +kernel

/-- What is stored for a head is its part of the states. -/
theorem head_eq (g : Vec Ideal S8 .f32) (k : Vec Ideal S32x2048 .bf16) (v : Vec Ideal S32x4096 .bf16) (s : Vec Ideal S1x1x8x256x512 .f32) (n a b : ℕ) (o : Fin 1 → ℕ)
    (hg : ∀ a, o a + S1.size a ≤ S8.size a) (hk : ∀ i, (![0, a] : Fin 2 → ℕ) i + S32x256.size i ≤ S32x2048.size i) (hv : ∀ i, (![0, b] : Fin 2 → ℕ) i + S32x512.size i ≤ S32x4096.size i)
    (hs : ∀ i, (![0, 0, n, 0, 0] : Fin 5 → ℕ) i + S1x1x1x256x512.size i ≤ S1x1x8x256x512.size i) (hy : ∀ i, (![n, 0, 0] : Fin 3 → ℕ) i + S1x256x512.size i ≤ S8x256x512.size i)
    (j : (Rect.unit (s := S8) o S1.size hg).shape.Idx)
    (ho : o 0 = n) (ha : a = 256 * n) (hb : b = 512 * n) (hn : n < 8) (x : S1x256x512.Idx) :
    k0_pay22 k0_pay3 (View.ld g (Rect.unit (s := S8) o S1.size hg) j) (View.ld k (Rect.unit (s := S32x2048) ![0, a] S32x256.size hk)) (View.ld v (Rect.unit (s := S32x4096) ![0, b] S32x512.size hv))
      (k0_pay4 (View.ld s (Rect.unit (s := S1x1x8x256x512) ![0, 0, n, 0, 0] S1x1x1x256x512.size hs))) x
      = kept g k v s ((Rect.unit (s := S8x256x512) ![n, 0, 0] S1x256x512.size hy).emb x) := by
  obtain ⟨z, d, e, rfl⟩ : ∃ (z : Fin 1) (d : Fin 256) (e : Fin 512), x = ix3 z d e := ⟨x 0, x 1, x 2, eq_ix3 (n0 := 1) (n1 := 256) (n2 := 512) x⟩
  obtain rfl : z = 0 := Subsingleton.elim _ _
  have hp : (Rect.unit (s := S8x256x512) ![n, 0, 0] S1x256x512.size hy).emb (ix3 0 d e) = ix3 ⟨n, hn⟩ d e := by
    funext i
    refine Fin.ext ?_
    match i with
    | ⟨0, _⟩ => show n + 1 * 0 = n; omega
    | ⟨1, _⟩ => show 0 + 1 * d.val = d.val; omega
    | ⟨2, _⟩ => show 0 + 1 * e.val = e.val; omega
  have eg : View.ld g (Rect.unit (s := S8) o S1.size hg) j = g (ix1 ⟨n, hn⟩) := by
    refine congrArg g (funext fun i => Fin.ext ?_)
    match i with
    | ⟨0, _⟩ =>
      have hj : (j 0).val < 1 := (j 0).isLt
      show o 0 + 1 * (j 0).val = n
      omega
  have ek : ∀ l : Fin 32, View.ld k (Rect.unit (s := S32x2048) ![0, a] S32x256.size hk) (ix2 l d) = k (ix2 l ⟨256 * n + d.val, by omega⟩) := by
    intro l
    refine congrArg k (funext fun i => Fin.ext ?_)
    match i with
    | ⟨0, _⟩ => show 0 + 1 * l.val = l.val; omega
    | ⟨1, _⟩ => show a + 1 * d.val = 256 * n + d.val; omega
  have ev : ∀ l : Fin 32, View.ld v (Rect.unit (s := S32x4096) ![0, b] S32x512.size hv) (ix2 l e) = v (ix2 l ⟨512 * n + e.val, by omega⟩) := by
    intro l
    refine congrArg v (funext fun i => Fin.ext ?_)
    match i with
    | ⟨0, _⟩ => show 0 + 1 * l.val = l.val; omega
    | ⟨1, _⟩ => show b + 1 * e.val = 512 * n + e.val; omega
  have es : View.ld s (Rect.unit (s := S1x1x8x256x512) ![0, 0, n, 0, 0] S1x1x1x256x512.size hs) (ix5 0 0 0 d e) = s (ix5 0 0 ⟨n, hn⟩ d e) := by
    refine congrArg s (funext fun i => Fin.ext ?_)
    match i with
    | ⟨0, _⟩ => rfl
    | ⟨1, _⟩ => rfl
    | ⟨2, _⟩ => show n + 1 * 0 = n; omega
    | ⟨3, _⟩ => show 0 + 1 * d.val = d.val; omega
    | ⟨4, _⟩ => show 0 + 1 * e.val = e.val; omega
  refine (pay22_apply _ _ _ _ d e).trans ?_
  rw [hp, eg, es]
  simp only [ek, ev]
  rfl

/-- The whole of the states, under the block's two unit axes. -/
theorem pay2_apply (x : Vec Ideal S8x256x512 .f32) (h : Fin 8) (d : Fin 256) (e : Fin 512) : k0_pay2 x (ix5 0 0 h d e) = x (ix3 h d e) := by
  pointwise [k0_pay2]

variable (m : (ℓ : Loc nD τ sig) → Buf (Elt Ideal) ℓ) (ρ : Dev nD → PrngReg)

/-- What a point leaves in the block of states. -/
theorem states_at (c : Dev nD) (t : Fin cfg0.N) (h : Fin 8) (d : Fin 256) (e : Fin 512) :
    (outsAt0 m c t).2 (ix5 0 0 h d e) = kept (iblk m c 0 t) (iblk m c 2 t) (iblk m c 3 t) (iblk m c 5 t) (ix3 h d e) := by
  unfold outsAt0
  frame_open
  simp (disch := decide) only [↓ View.readCov_skip, ↓ View.readCov_cons_toLoadRect, ↓ View.readCov_fill]
  frame_out
  rw [pay2_apply, View.readCov_eq_canon']
  have hz : (Rect.unit (s := S8x256x512) ![0, 0, 0] S8x256x512.size inb_S8x256x512_S8x256x512_0_0_0).toLoadRect.idx (ix3 h d e) = ix3 h d e := by
    funext i
    refine Fin.ext ?_
    match i with
    | ⟨0, _⟩ => show 0 + 1 * h.val = h.val; omega
    | ⟨1, _⟩ => show 0 + 1 * d.val = d.val; omega
    | ⟨2, _⟩ => show 0 + 1 * e.val = e.val; omega
  refine (congrArg _ hz).trans ?_
  refine View.canon_append_of_piecesOf (kept (iblk m c 0 t) (iblk m c 2 t) (iblk m c 3 t) (iblk m c 5 t)) [_, _, _, _, _, _, _, _] [_, _, _, _, _, _, _, _] ⟨?_, ?_, ?_, ?_, ?_, ?_, ?_, ?_, trivial⟩ _ ?_
  · exact fun x => head_eq _ _ _ _ 7 _ _ _ _ _ _ _ inb_S8x256x512_S1x256x512_7_0_0 _ (word _ 7) rfl rfl (by decide) x
  · exact fun x => head_eq _ _ _ _ 6 _ _ _ _ _ _ _ inb_S8x256x512_S1x256x512_6_0_0 _ (word _ 6) rfl rfl (by decide) x
  · exact fun x => head_eq _ _ _ _ 5 _ _ _ _ _ _ _ inb_S8x256x512_S1x256x512_5_0_0 _ (word _ 5) rfl rfl (by decide) x
  · exact fun x => head_eq _ _ _ _ 4 _ _ _ _ _ _ _ inb_S8x256x512_S1x256x512_4_0_0 _ (word _ 4) rfl rfl (by decide) x
  · exact fun x => head_eq _ _ _ _ 3 _ _ _ _ _ _ _ inb_S8x256x512_S1x256x512_3_0_0 _ (word _ 3) rfl rfl (by decide) x
  · exact fun x => head_eq _ _ _ _ 2 _ _ _ _ _ _ _ inb_S8x256x512_S1x256x512_2_0_0 _ (word _ 2) rfl rfl (by decide) x
  · exact fun x => head_eq _ _ _ _ 1 _ _ _ _ _ _ _ inb_S8x256x512_S1x256x512_1_0_0 _ (word _ 1) rfl rfl (by decide) x
  · exact fun x => head_eq _ _ _ _ 0 _ _ _ _ _ _ _ inb_S8x256x512_S1x256x512_0_0_0 _ (word _ 0) rfl rfl (by decide) x
  · exact View.cover_of_tiledL (s := S8x256x512) _ S1x256x512.size (by sl_kernel_rfl) _

end Cert.Kernel7Ideal.Gen

end
-- ==== Proof.StatesNext.lean ====
module

public import proofs.«01_k».proof.Proof.States
public import proofs.«01_k».proof.Proof.Gen.Reference7Ideal.Run
public import proofs.«01_k».proof.Proof.Gen.Reference7Ideal.Read
public import proofs.«01_k».proof.Defs

@[expose] public section

set_option maxRecDepth 16384

noncomputable section

namespace Cert.Kernel7Ideal.Gen

open Cert.Kernel7Ideal Idealize.ShloMosaic Idealize.ShloMosaic.TcCoe
open Idealize.SL.Sem

variable (m : (ℓ : Loc nD τ sig) → Buf (Elt Ideal) ℓ) (ρ : Dev nD → PrngReg)

/-- The logarithm of a head's decay. -/
def decay (h : ℕ) : EReal :=
  Ideal.log1p (-Ideal.exp (Ideal.ofBits FTy.f32 1060205080#32 * (Ideal.ofBits FTy.f32 3231711232#32 - (FloatOps.sitofp (F := Ideal) FTy.f32 (BitVec.ofNat 32 h) : EReal))))

/-- The second layer's states after the samples' rows, behind the first layer's. -/
def next (x : Vec Ideal S9216x8192 .bf16) (s st : Vec Ideal S2x32x8x256x512 .f32) : Vec Ideal S2x32x8x256x512 .f32 :=
  fun i => if (i 0).val = 1 then
    s i * fade (decay (i 2).val)
      + ∑ l : Fin 32, x (ix2 ⟨8192 + ((i 1).val * 32 + l.val), by have h1 : (i 1).val < 32 := (i 1).isLt; omega⟩ ⟨2048 + ((i 2).val * 256 + (i 3).val), by have h2 : (i 2).val < 8 := (i 2).isLt; have h3 : (i 3).val < 256 := (i 3).isLt; omega⟩)
        * fadeFrom (decay (i 2).val) l.val
        * x (ix2 ⟨8192 + ((i 1).val * 32 + l.val), by have h1 : (i 1).val < 32 := (i 1).isLt; omega⟩ ⟨4096 + ((i 2).val * 512 + (i 4).val), by have h2 : (i 2).val < 8 := (i 2).isLt; have h4 : (i 4).val < 512 := (i 4).isLt; omega⟩)
    else st i

/-- The result of the arguments. -/
def result (c : Dev nD) : Vec Ideal S2x32x8x256x512 .f32 :=
  next (m ((c : Thread nD τ).loc main_arg0)) (m ((c : Thread nD τ).loc main_arg2)) (m ((c : Thread nD τ).loc main_arg5))

/-- The table of decays. -/
theorem V_decays (c : Dev nD) : ∃ t : Vec Ideal S8 .f32, V m c main_v7 = t ∧ ∀ h : Fin 8, t (ix1 h) = decay h.val := by
  refine ⟨?t, ?h, ?e⟩
  case h =>
    unfold_abbrev_sides
    after_results
    try rfl
  intro h
  unfold decay
  pointwise

/-- The array written on is the one given. -/
theorem V_states (c : Dev nD) : V m c main_v9_1 = m ((c : Thread nD τ).loc main_arg5) := by
  unfold_abbrev_sides
  after_results
  rfl

/-- Where the windows stand at a point. -/
theorem idx : ∀ t : Fin grid0.N, win0_0.index t = ![0] ∧ win0_2.index t = ![256 + t.val, 1] ∧ win0_3.index t = ![256 + t.val, 1] ∧ win0_5.index t = ![1, t.val, 0, 0, 0] ∧ win0_8.index t = ![1, t.val, 0, 0, 0] := by
  decide +kernel

/-- The result array after the run, cell by cell. -/
theorem arr_cells (c : Dev nD) : (dats m 0 c).arrAt 8 cfg0.N = fun i : S2x32x8x256x512.Idx => if (i 0).val = 1 then result m c i else (V m c main_v9_1 : Vec Ideal S2x32x8x256x512 .f32) i := by
  refine (dats m 0 c).arrAt_eq_of_coversWhere 8 _ (fun β => β (0 : Fin _) = 1) (by decide +kernel) (fun t hf y => ?_) (fun j => by
    blk_simp [Pipeline.Window.cell_apply]; omega)
  blk_simp
  rw [after0_8]
  obtain ⟨z, w, h, d, e, rfl⟩ : ∃ (z w : Fin 1) (h : Fin 8) (d : Fin 256) (e : Fin 512), y = ix5 z w h d e := ⟨y 0, y 1, y 2, y 3, y 4, eq_ix5 (n0 := 1) (n1 := 1) (n2 := 8) (n3 := 256) (n4 := 512) y⟩
  obtain rfl : z = 0 := Subsingleton.elim _ _
  obtain rfl : w = 0 := Subsingleton.elim _ _
  refine (states_at m c t h d e).trans ?_
  have hb : t.val < 32 := t.isLt
  have he : ((View.whole main_v9_1).slice (win0_8.rect t)).emb (ix5 0 0 h d e) = ix5 (1 : Fin 2) (⟨t.val, hb⟩ : Fin 32) h d e := by
    blk_ext [(idx t).2.2.2.2]
  obtain ⟨g, hg, hgd⟩ := V_decays m c
  have eg : iblk m c 0 t = g := by
    funext a
    obtain ⟨h, rfl⟩ : ∃ h : Fin 8, a = ix1 h := ⟨a 0, eq_ix1 (n0 := 8) a⟩
    unfold iblk
    show V m c main_v7 ((win0_0.blk t).view.emb (ix1 h)) = _
    have hq : (win0_0.blk t).view.emb (ix1 h) = ix1 h := by
      blk_ext [(idx t).1]
    rw [hq, hg]
  have ek : ∀ (l : Fin 32) (p : Fin 2048), iblk m c 2 t (ix2 l p) = (m ((c : Thread nD τ).loc main_arg0) : Vec Ideal S9216x8192 .bf16) (ix2 ⟨8192 + (t.val * 32 + l.val), by omega⟩ ⟨2048 + p.val, by omega⟩) := by
    intro l p
    unfold iblk
    blk_ext [V_main_arg0, (idx t).2.1]
  have ev : ∀ (l : Fin 32) (p : Fin 4096), iblk m c 3 t (ix2 l p) = (m ((c : Thread nD τ).loc main_arg0) : Vec Ideal S9216x8192 .bf16) (ix2 ⟨8192 + (t.val * 32 + l.val), by omega⟩ ⟨4096 + p.val, by omega⟩) := by
    intro l p
    unfold iblk
    blk_ext [V_main_arg0, (idx t).2.2.1]
  have es : iblk m c 5 t (ix5 0 0 h d e) = (m ((c : Thread nD τ).loc main_arg2) : Vec Ideal S2x32x8x256x512 .f32) (ix5 1 ⟨t.val, hb⟩ h d e) := by
    unfold iblk
    blk_ext [V_main_arg2, (idx t).2.2.2.1]
  rw [he]
  unfold kept result next
  rw [if_pos (by rfl)]
  refine congrArg₂ (fun a b : EReal => a + b) ?_ (Finset.sum_congr rfl fun l _ => ?_)
  · exact congrArg₂ (fun a b : EReal => a * fade b) es ((congrFun eg _).trans (hgd h))
  · refine congrArg₂ (fun a b : EReal => a * b) (congrArg₂ (fun a b : EReal => a * fadeFrom b l.val) ((ek l _).trans ?_) ((congrFun eg _).trans (hgd h))) ((ev l _).trans ?_)
    · have e1 : 256 * h.val + d.val = h.val * 256 + d.val := by omega
      simp only [ix3_0, ix3_1, e1]
      rfl
    · have e2 : 512 * h.val + e.val = h.val * 512 + e.val := by omega
      simp only [ix3_0, ix3_2, e2]
      rfl

/-- The result array after the run: the second layer's states new, the first layer's as given. -/
theorem arr_eq (c : Dev nD) : (dats m 0 c).arrAt 8 cfg0.N = result m c := by
  refine (arr_cells m c).trans (funext fun i => ?_)
  by_cases h : (i 0).val = 1
  · exact if_pos h
  · refine (if_neg h).trans ((congrFun (V_states m c) i).trans ?_)
    unfold result next
    exact (if_neg h).symm

/-- The run. -/
theorem run_result : θ_run defs (onTc (τ := τ) (main (F := Ideal))) ⟨m, fun _ => 0, ρ⟩ (fun r => ∀ c : Dev nD,
      r.2.mem ((c.tc : Thread nD τ).loc main_v9_1) = result m c
      ∧ r.2.mem ((c.tc : Thread nD τ).loc main_arg0) = m ((c.tc : Thread nD τ).loc main_arg0) ∧ r.2.mem ((c.tc : Thread nD τ).loc main_arg1) = m ((c.tc : Thread nD τ).loc main_arg1)
      ∧ r.2.mem ((c.tc : Thread nD τ).loc main_arg2) = m ((c.tc : Thread nD τ).loc main_arg2) ∧ r.2.mem ((c.tc : Thread nD τ).loc main_arg3) = m ((c.tc : Thread nD τ).loc main_arg3)
      ∧ r.2.mem ((c.tc : Thread nD τ).loc main_arg4) = m ((c.tc : Thread nD τ).loc main_arg4) ∧ r.2.mem ((c.tc : Thread nD τ).loc main_arg5) = m ((c.tc : Thread nD τ).loc main_arg5)) :=
  (θ_run defs _ _).mono (fun _ h c => ⟨((h c).1 8).trans (arr_eq m c),
    ((h c).1 3).trans (((dats m 0 c).arrAt_in 3 rfl _).trans ((A_eq m c 3).trans (V_main_arg0 m c))),
    ((h c).1 4).trans (((dats m 0 c).arrAt_in 4 rfl _).trans ((A_eq m c 4).trans (V_main_arg1 m c))),
    ((h c).1 5).trans (((dats m 0 c).arrAt_in 5 rfl _).trans ((A_eq m c 5).trans (V_main_arg2 m c))),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c)⟩) (run_main m ρ)

end Cert.Kernel7Ideal.Gen

namespace Cert.Reference7Ideal.Read

open Cert.Reference7Ideal Cert.Reference7Ideal.Gen Idealize.ShloMosaic Idealize.ShloMosaic.TcCoe Idealize.SL.Sem

/-- The reference's result at an element. -/
theorem result_apply (x : (⟨S9216x8192, .bf16⟩ : BufTy).Contents (Elt Ideal)) (s st : (⟨S2x32x8x256x512, .f32⟩ : BufTy).Contents (Elt Ideal)) (j : Fin 2) (b : Fin 32) (h : Fin 8) (d : Fin 256) (e : Fin 512) :
    val_main_v40 (F := Ideal) x s st (ix5 j b h d e) = Cert.Kernel7Ideal.Gen.next x s st (ix5 j b h d e) := by
  unfold Cert.Kernel7Ideal.Gen.next Cert.Kernel7Ideal.Gen.fade Cert.Kernel7Ideal.Gen.fadeFrom Cert.Kernel7Ideal.Gen.decay
  pointwise [val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2]
  match j with
  | ⟨0, _⟩ => rfl
  | ⟨1, _⟩ => rfl

end Cert.Reference7Ideal.Read

namespace Cert.Proof

open Idealize.ShloMosaic Idealize.ShloMosaic.TcCoe
open Idealize.SL.Sem

/-- The samples' retention states are the reference's. -/
theorem algebraic7 : Cert.algebraic_Kernel7Ideal_Reference7Ideal := by
  intro m g m' g' _ ha
  refine ⟨fun c => Cert.Kernel7Ideal.Gen.result m c, Cert.Kernel7Ideal.Gen.run_result m g,
    (θ_run Cert.Reference7Ideal.defs _ _).mono (fun r h c => ⟨((h c).1.trans (Cert.Reference7Ideal.Read.val_main_v40_eq ..)).trans ?_, (h c).2⟩) (Cert.Reference7Ideal.Value.run (F := Ideal) m' g')⟩
  obtain ⟨h0, h1, h2, h3, h4, h5⟩ := ha c
  rw [h0, h2, h5]
  funext i
  obtain ⟨j, b, h, d, e, rfl⟩ : ∃ (j : Fin 2) (b : Fin 32) (h : Fin 8) (d : Fin 256) (e : Fin 512), i = ix5 j b h d e := ⟨i 0, i 1, i 2, i 3, i 4, eq_ix5 (n0 := 2) (n1 := 32) (n2 := 8) (n3 := 256) (n4 := 512) i⟩
  exact Cert.Reference7Ideal.Read.result_apply _ _ _ j b h d e

end Cert.Proof

end
-- ==== Proof.Carry.lean ====
module

public import proofs.«01_k».proof.Proof.Gen.Kernel8Ideal.Frame
public import Idealize.ShloMosaic.Lib.Pipeline.ValueKit
public import Idealize.ShloMosaic.Lib.Pipeline.ReadBack
public import Idealize.ShloMosaic.Lib.Pointwise
public import Idealize.ShloMosaic.Lib.StableHlo.Run

@[expose] public section

set_option maxRecDepth 16384

noncomputable section

namespace Cert.Kernel8Ideal.Gen

open Cert.Kernel8Ideal Idealize.ShloMosaic Idealize.ShloMosaic.TcCoe
open Idealize.SL.Sem

/-- The decay of a whole chunk of 256 rows, from a head's logarithm. -/
def fade (g : EReal) : EReal := Ideal.exp (Ideal.ofBits FTy.f32 1132462080#32 * g)

/-- The decay from a row to the chunk's last. -/
def fadeFrom (g : EReal) (l : ℕ) : EReal :=
  Ideal.exp ((Ideal.ofBits FTy.f32 1132396544#32 - (FloatOps.sitofp (F := Ideal) FTy.f32 (BitVec.ofNat 32 l) : EReal)) * g)

/-- The states that a chunk leaves, one for each of a point's two heads, from the chunk's keys and values and the states before it. -/
def grown (g : Fin 2 → EReal) (k : Vec Ideal S256x512 .bf16) (v : Vec Ideal S256x1024 .bf16) (s : Vec Ideal S2x256x512 .f32) : Vec Ideal S2x256x512 .f32 :=
  fun y => s (ix3 (y 0) (y 1) (y 2)) * fade (g (y 0))
    + ∑ l : Fin 256, k (ix2 l ⟨256 * (y 0).val + (y 1).val, by have h0 : (y 0).val < 2 := (y 0).isLt; have h1 : (y 1).val < 256 := (y 1).isLt; omega⟩) * fadeFrom (g (y 0)) l.val
      * v (ix2 l ⟨512 * (y 0).val + (y 2).val, by have h0 : (y 0).val < 2 := (y 0).isLt; have h1 : (y 2).val < 512 := (y 2).isLt; omega⟩)

/-- A head's step at an element. -/
theorem pay10_apply (g : Elt Ideal .f32) (k : Vec Ideal S256x256 .bf16) (v : Vec Ideal S256x512 .bf16) (s : Vec Ideal S1x256x512 .f32) (d : Fin 256) (e : Fin 512) :
    k0_pay10 k0_pay3 g k v (k0_pay9 s) (ix3 0 d e) = s (ix3 0 d e) * fade g + ∑ l : Fin 256, k (ix2 l d) * fadeFrom g l.val * v (ix2 l e) := by
  unfold fade fadeFrom
  pointwise [k0_pay10, k0_pay3, k0_pay9]

/-- Where the grid's second axis stands. -/
def pair (i : grid0.Coords) : Fin 4 := i 1

/-- The word read for a head is its own. -/
theorem word (i : grid0.Coords) (n : Fin 2) : k0_off1 i (BitVec.ofNat 32 n.val) 0 = 2 * (pair i).val + n.val := by
  have key : ∀ (n : Fin 2) (q : Fin 4), (Scalar.indexCast (Scalar.addi (Scalar.muli (BitVec.ofNat 32 q.val) 2#32) (BitVec.ofNat 32 n.val))).toNat = 2 * q.val + n.val := by
    decide +kernel
  exact key n (pair i)

/-- A pair's two words of the table. -/
def words (g : Vec Ideal S8 .f32) (p : Fin 4) (n : Fin 2) : EReal := g (ix1 ⟨2 * p.val + n.val, by omega⟩)

/-- What is stored for a head is its part of the states. -/
theorem head_eq (p : Fin 4) (g : Vec Ideal S8 .f32) (k : Vec Ideal S256x512 .bf16) (v : Vec Ideal S256x1024 .bf16) (s : Vec Ideal S2x256x512 .f32) (s1 : Vec Ideal S1x256x512 .f32) (n : Fin 2) (q a b : ℕ) (o : Fin 1 → ℕ)
    (hg : ∀ a, o a + S1.size a ≤ S8.size a) (hk : ∀ i, (![0, a] : Fin 2 → ℕ) i + S256x256.size i ≤ S256x512.size i) (hv : ∀ i, (![0, b] : Fin 2 → ℕ) i + S256x512.size i ≤ S256x1024.size i)
    (hy : ∀ i, (![q, 0, 0] : Fin 3 → ℕ) i + S1x256x512.size i ≤ S2x256x512.size i)
    (j : (Rect.unit (s := S8) o S1.size hg).shape.Idx)
    (ho : o 0 = 2 * p.val + n.val) (hn : q = n.val) (ha : a = 256 * n.val) (hb : b = 512 * n.val)
    (hs : ∀ d e, s1 (ix3 0 d e) = s (ix3 n d e)) (x : S1x256x512.Idx) :
    k0_pay10 k0_pay3 (View.ld g (Rect.unit (s := S8) o S1.size hg) j) (View.ld k (Rect.unit (s := S256x512) ![0, a] S256x256.size hk)) (View.ld v (Rect.unit (s := S256x1024) ![0, b] S256x512.size hv))
      (k0_pay9 s1) x
      = grown (words g p) k v s ((Rect.unit (s := S2x256x512) ![q, 0, 0] S1x256x512.size hy).emb x) := by
  obtain ⟨z, d, e, rfl⟩ : ∃ (z : Fin 1) (d : Fin 256) (e : Fin 512), x = ix3 z d e := ⟨x 0, x 1, x 2, eq_ix3 (n0 := 1) (n1 := 256) (n2 := 512) x⟩
  obtain rfl : z = 0 := Subsingleton.elim _ _
  have hp : (Rect.unit (s := S2x256x512) ![q, 0, 0] S1x256x512.size hy).emb (ix3 0 d e) = ix3 n d e := by
    funext i
    refine Fin.ext ?_
    match i with
    | ⟨0, _⟩ => show q + 1 * 0 = n.val; omega
    | ⟨1, _⟩ => show 0 + 1 * d.val = d.val; omega
    | ⟨2, _⟩ => show 0 + 1 * e.val = e.val; omega
  have eg : View.ld g (Rect.unit (s := S8) o S1.size hg) j = words g p n := by
    refine congrArg g (funext fun i => Fin.ext ?_)
    match i with
    | ⟨0, _⟩ =>
      have hj : (j 0).val < 1 := (j 0).isLt
      show o 0 + 1 * (j 0).val = 2 * p.val + n.val
      omega
  have ek : ∀ l : Fin 256, View.ld k (Rect.unit (s := S256x512) ![0, a] S256x256.size hk) (ix2 l d) = k (ix2 l ⟨256 * n.val + d.val, by omega⟩) := by
    intro l
    refine congrArg k (funext fun i => Fin.ext ?_)
    match i with
    | ⟨0, _⟩ => show 0 + 1 * l.val = l.val; omega
    | ⟨1, _⟩ => show a + 1 * d.val = 256 * n.val + d.val; omega
  have ev : ∀ l : Fin 256, View.ld v (Rect.unit (s := S256x1024) ![0, b] S256x512.size hv) (ix2 l e) = v (ix2 l ⟨512 * n.val + e.val, by omega⟩) := by
    intro l
    refine congrArg v (funext fun i => Fin.ext ?_)
    match i with
    | ⟨0, _⟩ => show 0 + 1 * l.val = l.val; omega
    | ⟨1, _⟩ => show b + 1 * e.val = 512 * n.val + e.val; omega
  refine (pay10_apply _ _ _ _ d e).trans ?_
  rw [hp, eg, hs]
  simp only [ek, ev]
  rfl

/-- The whole of the states, under the block's two unit axes. -/
theorem pay2_apply (x : Vec Ideal S2x256x512 .f32) (h : Fin 2) (d : Fin 256) (e : Fin 512) : k0_pay2 x (ix5 0 0 h d e) = x (ix3 h d e) := by
  pointwise [k0_pay2]

/-- The first of the two heads' stored zeros. -/
theorem pay4_apply (d : Fin 256) (e : Fin 512) : k0_pay4 (F := Ideal) (ix3 0 d e) = 0 := by
  pointwise [k0_pay4]

/-- A head's part of the carried states. -/
theorem read_head (s : Vec Ideal S2x256x512 .f32) (n : Fin 2) (q : ℕ) (hn : q = n.val) (hy : ∀ i, (![q, 0, 0] : Fin 3 → ℕ) i + S1x256x512.size i ≤ S2x256x512.size i) (d : Fin 256) (e : Fin 512) :
    View.ld s (Rect.unit (s := S2x256x512) ![q, 0, 0] S1x256x512.size hy) (ix3 0 d e) = s (ix3 n d e) := by
  refine congrArg s (funext fun i => Fin.ext ?_)
  match i with
  | ⟨0, _⟩ => show q + 1 * 0 = n.val; omega
  | ⟨1, _⟩ => show 0 + 1 * d.val = d.val; omega
  | ⟨2, _⟩ => show 0 + 1 * e.val = e.val; omega

variable (m : (ℓ : Loc nD τ sig) → Buf (Elt Ideal) ℓ) (ρ : Dev nD → PrngReg)

/-- The states that a point's chunk leaves, from the states before it. -/
def after (c : Dev nD) (t : Fin cfg0.N) (s : Vec Ideal S2x256x512 .f32) : Vec Ideal S2x256x512 .f32 :=
  grown (words (iblk m c 0 t) (pair (grid0.coords t))) (iblk m c 2 t) (iblk m c 3 t) s

/-- A sequence's first chunk starts from nothing. -/
theorem carried_A (c : Dev nD) (t : Fin cfg0.N) (h0 : t.val % 16 = 0) (h2 : ¬ t.val % 16 = 15) (h : Fin 2) (d : Fin 256) (e : Fin 512) :
    (outsAt0 m c t.val t.isLt).2.2.1 (ix3 h d e) = after m c t (fun _ => 0) (ix3 h d e) := by
  rw [outsAt0_A m c t h0 h0 h2]
  dsimp only
  unfold sout0_A_0
  frame_open
  simp (disch := decide) only [↓ View.readCov_skip, ↓ View.readCov_cons_toLoadRect, ↓ View.readCov_fill]
  frame_out
  refine View.canon_append_of_piecesOf (after m c t (fun _ => 0)) [_, _] [_, _] ⟨?_, ?_, trivial⟩ _ ?_
  · exact fun x => head_eq (pair (grid0.coords t)) _ _ _ _ _ 1 1 _ _ _ _ _ _ inb_S2x256x512_S1x256x512_1_0_0 _ (word _ 1) rfl rfl rfl pay4_apply x
  · exact fun x => head_eq (pair (grid0.coords t)) _ _ _ _ _ 0 0 _ _ _ _ _ _ inb_S2x256x512_S1x256x512_0_0_0 _ (word _ 0) rfl rfl rfl pay4_apply x
  · exact View.cover_of_tiledL (s := S2x256x512) _ S1x256x512.size (by sl_kernel_rfl) _

/-- A later chunk starts from the states carried. -/
theorem carried_B (c : Dev nD) (t : Fin cfg0.N) (h0 : ¬ t.val % 16 = 0) (h2 : ¬ t.val % 16 = 15) (h : Fin 2) (d : Fin 256) (e : Fin 512) :
    (outsAt0 m c t.val t.isLt).2.2.1 (ix3 h d e) = after m c t (outsAt0 m c (t.val - 1) (Nat.lt_of_le_of_lt (Nat.sub_le t.val 1) t.isLt)).2.2.1 (ix3 h d e) := by
  rw [outsAt0_B m c t h0 h0 h2]
  dsimp only
  unfold sout0_B_0
  frame_open
  simp (disch := decide) only [↓ View.readCov_skip, ↓ View.readCov_cons_toLoadRect, ↓ View.readCov_fill]
  frame_out
  simp only [(Memref.isWhole_whole _).read_unread]
  refine View.canon_append_of_piecesOf (after m c t (outsAt0 m c (t.val - 1) (Nat.lt_of_le_of_lt (Nat.sub_le t.val 1) t.isLt)).2.2.1) [] [_, _] ⟨?_, ?_, trivial⟩ _ ?_
  · exact fun x => head_eq (pair (grid0.coords t)) _ _ _ _ _ 1 1 _ _ _ _ _ _ inb_S2x256x512_S1x256x512_1_0_0 _ (word _ 1) rfl rfl rfl (read_head _ 1 1 rfl _) x
  · exact fun x => head_eq (pair (grid0.coords t)) _ _ _ _ _ 0 0 _ _ _ _ _ _ inb_S2x256x512_S1x256x512_0_0_0 _ (word _ 0) rfl rfl rfl (read_head _ 0 0 rfl _) x
  · exact View.cover_of_tiledL (s := S2x256x512) _ S1x256x512.size (by sl_kernel_rfl) _

/-- A sequence's last chunk leaves the states in the block of the result. -/
theorem carried_C (c : Dev nD) (t : Fin cfg0.N) (h0 : ¬ t.val % 16 = 0) (h2 : t.val % 16 = 15) (h : Fin 2) (d : Fin 256) (e : Fin 512) :
    (outsAt0 m c t.val t.isLt).2.1 (ix5 0 0 h d e) = after m c t (outsAt0 m c (t.val - 1) (Nat.lt_of_le_of_lt (Nat.sub_le t.val 1) t.isLt)).2.2.1 (ix3 h d e) := by
  rw [outsAt0_C m c t h0 h0 h2]
  dsimp only
  unfold out0_C_7
  frame_open
  simp (disch := decide) only [↓ View.readCov_skip, ↓ View.readCov_cons_toLoadRect, ↓ View.readCov_fill]
  frame_out
  rw [pay2_apply, View.readCov_eq_canon']
  have hz : (Rect.unit (s := S2x256x512) ![0, 0, 0] S2x256x512.size inb_S2x256x512_S2x256x512_0_0_0).toLoadRect.idx (ix3 h d e) = ix3 h d e := by
    funext i
    refine Fin.ext ?_
    match i with
    | ⟨0, _⟩ => show 0 + 1 * h.val = h.val; omega
    | ⟨1, _⟩ => show 0 + 1 * d.val = d.val; omega
    | ⟨2, _⟩ => show 0 + 1 * e.val = e.val; omega
  refine (congrArg _ hz).trans ?_
  simp only [(Memref.isWhole_whole _).read_unread]
  refine View.canon_append_of_piecesOf (after m c t (outsAt0 m c (t.val - 1) (Nat.lt_of_le_of_lt (Nat.sub_le t.val 1) t.isLt)).2.2.1) [] [_, _] ⟨?_, ?_, trivial⟩ _ ?_
  · exact fun x => head_eq (pair (grid0.coords t)) _ _ _ _ _ 1 1 _ _ _ _ _ _ inb_S2x256x512_S1x256x512_1_0_0 _ (word _ 1) rfl rfl rfl (read_head _ 1 1 rfl _) x
  · exact fun x => head_eq (pair (grid0.coords t)) _ _ _ _ _ 0 0 _ _ _ _ _ _ inb_S2x256x512_S1x256x512_0_0_0 _ (word _ 0) rfl rfl rfl (read_head _ 0 0 rfl _) x
  · exact View.cover_of_tiledL (s := S2x256x512) _ S1x256x512.size (by sl_kernel_rfl) _

end Cert.Kernel8Ideal.Gen

end
-- ==== Proof.Scan.lean ====
module

public import Idealize.ShloMosaic.Lib.IdealHost
public import Idealize.ShloMosaic.Lib.Pointwise

@[expose] public section

noncomputable section

namespace Cert.Scan

open Idealize.ShloMosaic

/-- The logarithm of a head's decay. -/
def decay (h : ℕ) : EReal :=
  Ideal.log1p (-Ideal.exp (Ideal.ofBits FTy.f32 1060205080#32 * (Ideal.ofBits FTy.f32 3231711232#32 - (FloatOps.sitofp (F := Ideal) FTy.f32 (BitVec.ofNat 32 h) : EReal))))

/-- A small number converted from its word is itself. -/
theorem sitofp_ofNat (n : ℕ) (h : n < 2 ^ 31) : (FloatOps.sitofp (F := Ideal) FTy.f32 (BitVec.ofNat 32 n) : EReal) = ((n : ℝ) : EReal) := by
  show ((((BitVec.ofNat 32 n).toInt : ℤ) : ℝ) : EReal) = _
  have : (BitVec.ofNat 32 n).toInt = (n : ℤ) := by
    rw [BitVec.toInt_eq_toNat_cond, BitVec.toNat_ofNat]
    omega
  rw [this]
  simp

/-- A head's decay has a finite logarithm. -/
theorem decay_real (h : ℕ) (hh : h < 2 ^ 31) : ∃ g : ℝ, decay h = (g : EReal) := by
  obtain ⟨a, ha, ea⟩ : ∃ a : ℝ, 0 < a ∧ Ideal.ofBits FTy.f32 1060205080#32 = (a : EReal) :=
    ⟨11629080 / 16777216, by norm_num, by simp [Ideal.ofBits, Ideal.ieee, -EReal.coe_mul]; norm_num⟩
  have eb : Ideal.ofBits FTy.f32 3231711232#32 = ((-5 : ℝ) : EReal) := by
    simp [Ideal.ofBits, Ideal.ieee, -EReal.coe_mul, -EReal.coe_neg]; norm_num
  have hlt : Real.exp (a * (-5 - (h : ℝ))) < 1 := by
    rw [Real.exp_lt_one_iff]
    have : (0 : ℝ) ≤ h := Nat.cast_nonneg h
    nlinarith
  refine ⟨Real.log (1 + -Real.exp (a * (-5 - (h : ℝ)))), ?_⟩
  unfold decay
  rw [ea, eb, sitofp_ofNat h hh]
  show Ideal.log (1 + -((Real.exp (a * (-5 - (h : ℝ))) : ℝ) : EReal)) = _
  rw [← EReal.coe_neg, ← EReal.coe_one, ← EReal.coe_add]
  show (if 1 + -Real.exp (a * (-5 - (h : ℝ))) ≤ 0 then ⊥ else _) = _
  rw [if_neg (by linarith)]

/-- What the first rows leave in a state's entry: each row's key times its value, decayed to the last of the rows. -/
def held (g : ℝ) (k v : ℕ → EReal) (N : ℕ) : EReal :=
  ∑ i ∈ Finset.range N, k i * ((Real.exp (((N : ℝ) - 1 - i) * g) : ℝ) : EReal) * v i

/-- A factor that is finite and not negative goes into a sum. -/
theorem sum_mul_of_nonneg (N : ℕ) (f : ℕ → EReal) (c : ℝ) (hc : 0 ≤ c) : (∑ i ∈ Finset.range N, f i) * (c : EReal) = ∑ i ∈ Finset.range N, f i * (c : EReal) := by
  induction N with
  | zero => simp
  | succ N ih =>
    rw [Finset.sum_range_succ, Finset.sum_range_succ, EReal.right_distrib_of_nonneg_of_ne_top (by exact_mod_cast hc) (EReal.coe_ne_top c), ih]

/-- The rows of a further chunk come on top of the state decayed over the chunk. -/
theorem held_add (g : ℝ) (k v : ℕ → EReal) (N L : ℕ) :
    held g k v (N + L) = held g k v N * ((Real.exp ((L : ℝ) * g) : ℝ) : EReal)
      + ∑ l : Fin L, k (N + l.val) * ((Real.exp (((L : ℝ) - 1 - l.val) * g) : ℝ) : EReal) * v (N + l.val) := by
  unfold held
  rw [Finset.sum_range_add, sum_mul_of_nonneg _ _ _ (Real.exp_pos _).le]
  refine congrArg₂ (fun a b : EReal => a + b) (Finset.sum_congr rfl fun i _ => ?_) ?_
  · rw [mul_right_comm (k i * _) (v i), mul_assoc (k i) _ ((Real.exp ((L : ℝ) * g) : ℝ) : EReal), ← EReal.coe_mul, ← Real.exp_add]
    refine congrArg (fun r : ℝ => k i * ((Real.exp r : ℝ) : EReal) * v i) ?_
    push_cast
    ring
  · rw [Finset.sum_range]
    refine Finset.sum_congr rfl fun l _ => ?_
    refine congrArg (fun r : ℝ => k (N + l.val) * ((Real.exp r : ℝ) : EReal) * v (N + l.val)) ?_
    push_cast
    ring

/-- Nothing is held before the first row. -/
theorem held_zero (g : ℝ) (k v : ℕ → EReal) : held g k v 0 = 0 := by
  unfold held
  simp

/-- An entry of a matrix by its numbers. -/
def entry {n0 n1 : ℕ} (x : Shape.Idx ⟨2, ![n0, n1]⟩ → EReal) (r q : ℕ) : EReal :=
  if h : r < n0 ∧ q < n1 then x (ix2 ⟨r, h.1⟩ ⟨q, h.2⟩) else 0

theorem entry_eq {n0 n1 : ℕ} (x : Shape.Idx ⟨2, ![n0, n1]⟩ → EReal) (r : Fin n0) (q : Fin n1) : x (ix2 r q) = entry x r.val q.val := by
  unfold entry
  rw [dif_pos ⟨r.isLt, q.isLt⟩]

end Cert.Scan

end
-- ==== Proof.PromptStates.lean ====
module

public import proofs.«01_k».proof.Proof.Carry
public import proofs.«01_k».proof.Proof.Scan

@[expose] public section

set_option maxRecDepth 16384

noncomputable section

namespace Cert.Scan

open Idealize.ShloMosaic

/-- A head's decay has its logarithm as a real number. -/
def logDecay (h : ℕ) : ℝ := (decay h).toReal

theorem decay_eq (h : ℕ) (hh : h < 2 ^ 31) : decay h = ((logDecay h : ℝ) : EReal) := by
  obtain ⟨g, hg⟩ := decay_real h hh
  unfold logDecay
  rw [hg, EReal.toReal_coe]

/-- A prompt's rows in one column. -/
def rows (x : Shape.Idx ⟨2, ![9216, 8192]⟩ → EReal) (b q i : ℕ) : EReal := entry x (4096 * b + i) q

/-- What the first rows of a prompt leave in an entry of a head's state. -/
def heldAt (x : Shape.Idx ⟨2, ![9216, 8192]⟩ → EReal) (b h d e N : ℕ) : EReal :=
  held (logDecay h) (rows x b (2048 + (h * 256 + d))) (rows x b (4096 + (h * 512 + e))) N

/-- The second layer's states after the prompts' rows, behind the first layer's. -/
def next (x : Shape.Idx ⟨2, ![9216, 8192]⟩ → EReal) (st : Shape.Idx ⟨5, ![2, 2, 8, 256, 512]⟩ → EReal) : Shape.Idx ⟨5, ![2, 2, 8, 256, 512]⟩ → EReal :=
  fun i => if (i 0).val = 1 then heldAt x (i 1).val (i 2).val (i 3).val (i 4).val 4096 else st i

end Cert.Scan

namespace Cert.Kernel8Ideal.Gen

open Cert.Kernel8Ideal Idealize.ShloMosaic Idealize.ShloMosaic.TcCoe
open Idealize.SL.Sem Cert.Scan

variable (m : (ℓ : Loc nD τ sig) → Buf (Elt Ideal) ℓ) (ρ : Dev nD → PrngReg)

/-- The result of the arguments. -/
def result (c : Dev nD) : Vec Ideal S2x2x8x256x512 .f32 :=
  next (m ((c : Thread nD τ).loc main_arg0)) (m ((c : Thread nD τ).loc main_arg3))

/-- A chunk's decay as a real number. -/
theorem fade_coe (g : ℝ) : fade (g : EReal) = ((Real.exp (((256 : ℕ) : ℝ) * g) : ℝ) : EReal) := by
  have e : Ideal.ofBits FTy.f32 1132462080#32 = (((256 : ℕ) : ℝ) : EReal) := by
    simp [Ideal.ofBits, Ideal.ieee, -EReal.coe_mul]; norm_num
  unfold fade
  rw [e, ← EReal.coe_mul]
  rfl

/-- A row's decay as a real number. -/
theorem fadeFrom_coe (g : ℝ) (l : ℕ) (hl : l < 2 ^ 31) : fadeFrom (g : EReal) l = ((Real.exp ((((256 : ℕ) : ℝ) - 1 - l) * g) : ℝ) : EReal) := by
  have e : Ideal.ofBits FTy.f32 1132396544#32 = ((((256 : ℕ) : ℝ) - 1 : ℝ) : EReal) := by
    simp [Ideal.ofBits, Ideal.ieee, -EReal.coe_mul, -EReal.coe_sub]; norm_num
  unfold fadeFrom
  rw [e, sitofp_ofNat l hl, ← EReal.coe_sub, ← EReal.coe_mul]
  rfl

/-- The table of decays. -/
theorem V_decays (c : Dev nD) : ∃ t : Vec Ideal S8 .f32, V m c main_v7 = t ∧ ∀ h : Fin 8, t (ix1 h) = decay h.val := by
  refine ⟨?t, ?h, ?e⟩
  case h =>
    unfold_abbrev_sides
    after_results
    try rfl
  intro h
  unfold decay
  pointwise

/-- The array written on is the one given. -/
theorem V_states (c : Dev nD) : V m c main_v9_1 = m ((c : Thread nD τ).loc main_arg3) := by
  unfold_abbrev_sides
  after_results
  rfl

/-- Where the windows stand at a point. -/
theorem idx : ∀ t : Fin grid0.N, win0_0.index t = ![0] ∧ win0_2.index t = ![16 * (t.val / 64) + t.val % 16, 4 + t.val / 16 % 4] ∧ win0_3.index t = ![16 * (t.val / 64) + t.val % 16, 4 + t.val / 16 % 4]
    ∧ win0_7.index t = ![1, t.val / 64, t.val / 16 % 4, 0, 0] ∧ (pair (grid0.coords t)).val = t.val / 16 % 4 := by
  decide +kernel

/-- What a point leaves, in the rows' numbers. -/
theorem after_apply (c : Dev nD) (t : Fin cfg0.N) (s : Vec Ideal S2x256x512 .f32) (h : Fin 2) (d : Fin 256) (e : Fin 512) :
    after m c t s (ix3 h d e) = s (ix3 h d e) * ((Real.exp (((256 : ℕ) : ℝ) * logDecay (2 * (t.val / 16 % 4) + h.val)) : ℝ) : EReal)
      + ∑ l : Fin 256, rows (m ((c : Thread nD τ).loc main_arg0)) (t.val / 64) (2048 + ((2 * (t.val / 16 % 4) + h.val) * 256 + d.val)) (256 * (t.val % 16) + l.val)
        * ((Real.exp ((((256 : ℕ) : ℝ) - 1 - l.val) * logDecay (2 * (t.val / 16 % 4) + h.val)) : ℝ) : EReal)
        * rows (m ((c : Thread nD τ).loc main_arg0)) (t.val / 64) (4096 + ((2 * (t.val / 16 % 4) + h.val) * 512 + e.val)) (256 * (t.val % 16) + l.val) := by
  have ht : t.val < 128 := t.isLt
  obtain ⟨g, hg, hgd⟩ := V_decays m c
  have eg : iblk m c 0 t = g := by
    funext a
    obtain ⟨h, rfl⟩ : ∃ h : Fin 8, a = ix1 h := ⟨a 0, eq_ix1 (n0 := 8) a⟩
    unfold iblk
    show V m c main_v7 ((win0_0.blk t).view.emb (ix1 h)) = _
    have hq : (win0_0.blk t).view.emb (ix1 h) = ix1 h := by
      blk_ext [(idx t).1]
    rw [hq, hg]
  have ek : ∀ (l : Fin 256) (p : Fin 512), iblk m c 2 t (ix2 l p) = rows (m ((c : Thread nD τ).loc main_arg0)) (t.val / 64) (2048 + (t.val / 16 % 4 * 512 + p.val)) (256 * (t.val % 16) + l.val) := by
    intro l p
    have hb : iblk m c 2 t (ix2 l p) = (m ((c : Thread nD τ).loc main_arg0) : Vec Ideal S9216x8192 .bf16) (ix2 ⟨4096 * (t.val / 64) + (256 * (t.val % 16) + l.val), by omega⟩ ⟨2048 + (t.val / 16 % 4 * 512 + p.val), by omega⟩) := by
      unfold iblk
      blk_ext [V_main_arg0, (idx t).2.1]
    exact hb.trans (entry_eq (n0 := 9216) (n1 := 8192) (m ((c : Thread nD τ).loc main_arg0)) _ _)
  have ev : ∀ (l : Fin 256) (p : Fin 1024), iblk m c 3 t (ix2 l p) = rows (m ((c : Thread nD τ).loc main_arg0)) (t.val / 64) (4096 + (t.val / 16 % 4 * 1024 + p.val)) (256 * (t.val % 16) + l.val) := by
    intro l p
    have hb : iblk m c 3 t (ix2 l p) = (m ((c : Thread nD τ).loc main_arg0) : Vec Ideal S9216x8192 .bf16) (ix2 ⟨4096 * (t.val / 64) + (256 * (t.val % 16) + l.val), by omega⟩ ⟨4096 + (t.val / 16 % 4 * 1024 + p.val), by omega⟩) := by
      unfold iblk
      blk_ext [V_main_arg0, (idx t).2.2.1]
    exact hb.trans (entry_eq (n0 := 9216) (n1 := 8192) (m ((c : Thread nD τ).loc main_arg0)) _ _)
  have ew : words (iblk m c 0 t) (pair (grid0.coords t)) h = ((logDecay (2 * (t.val / 16 % 4) + h.val) : ℝ) : EReal) := by
    unfold words
    refine (congrFun eg _).trans ((hgd _).trans ?_)
    refine (congrArg (fun q : ℕ => decay (2 * q + h.val)) (idx t).2.2.2.2).trans (decay_eq _ ?_)
    omega
  unfold after grown
  simp only [ix3_0, ix3_1, ix3_2]
  rw [ew, fade_coe]
  refine congrArg₂ (fun a b : EReal => a + b) rfl (Finset.sum_congr rfl fun l _ => ?_)
  have e1 : 2048 + (t.val / 16 % 4 * 512 + (256 * h.val + d.val)) = 2048 + ((2 * (t.val / 16 % 4) + h.val) * 256 + d.val) := by omega
  have e2 : 4096 + (t.val / 16 % 4 * 1024 + (512 * h.val + e.val)) = 4096 + ((2 * (t.val / 16 % 4) + h.val) * 512 + e.val) := by omega
  refine congrArg₂ (fun a b : EReal => a * b) (congrArg₂ (fun a b : EReal => a * b) ((ek l _).trans ?_) (fadeFrom_coe _ l.val (by omega))) ((ev l _).trans ?_)
  · exact congrArg (fun q : ℕ => rows (m ((c : Thread nD τ).loc main_arg0)) (t.val / 64) q (256 * (t.val % 16) + l.val)) e1
  · exact congrArg (fun q : ℕ => rows (m ((c : Thread nD τ).loc main_arg0)) (t.val / 64) q (256 * (t.val % 16) + l.val)) e2

/-- A point adds its chunk to what the rows before left. -/
theorem after_held (c : Dev nD) (t : Fin cfg0.N) (s : Vec Ideal S2x256x512 .f32) (h : Fin 2) (d : Fin 256) (e : Fin 512)
    (hs : s (ix3 h d e) = heldAt (m ((c : Thread nD τ).loc main_arg0)) (t.val / 64) (2 * (t.val / 16 % 4) + h.val) d.val e.val (256 * (t.val % 16))) :
    after m c t s (ix3 h d e) = heldAt (m ((c : Thread nD τ).loc main_arg0)) (t.val / 64) (2 * (t.val / 16 % 4) + h.val) d.val e.val (256 * (t.val % 16) + 256) := by
  rw [after_apply, hs]
  exact (held_add _ _ _ _ _).symm

/-- The states carried from a point: what the prompt's rows so far left. -/
theorem carried (c : Dev nD) : ∀ (n : ℕ) (hn : n < cfg0.N), n % 16 ≠ 15 → ∀ (h : Fin 2) (d : Fin 256) (e : Fin 512),
    (outsAt0 m c n hn).2.2.1 (ix3 h d e) = heldAt (m ((c : Thread nD τ).loc main_arg0)) (n / 64) (2 * (n / 16 % 4) + h.val) d.val e.val (256 * (n % 16) + 256) := by
  intro n
  induction n using Nat.strong_induction_on with
  | _ n ih =>
    intro hn h2 h d e
    by_cases h0 : n % 16 = 0
    · refine (carried_A m c ⟨n, hn⟩ h0 h2 h d e).trans (after_held m c ⟨n, hn⟩ _ h d e ?_)
      show (0 : EReal) = heldAt _ _ _ _ _ (256 * (n % 16))
      rw [h0]
      exact (held_zero _ _ _).symm
    · refine (carried_B m c ⟨n, hn⟩ h0 h2 h d e).trans (after_held m c ⟨n, hn⟩ _ h d e ?_)
      refine (ih (n - 1) (by omega) _ (by omega) h d e).trans ?_
      show _ = heldAt _ (n / 64) (2 * (n / 16 % 4) + h.val) _ _ (256 * (n % 16))
      have e1 : (n - 1) / 64 = n / 64 := by omega
      have e2 : (n - 1) / 16 = n / 16 := by omega
      have e3 : 256 * ((n - 1) % 16) + 256 = 256 * (n % 16) := by omega
      rw [e1, e2, e3]

/-- What a prompt's last point leaves in the block of the result. -/
theorem left (c : Dev nD) (t : Fin cfg0.N) (h2 : t.val % 16 = 15) (h : Fin 2) (d : Fin 256) (e : Fin 512) :
    (outsAt0 m c t.val t.isLt).2.1 (ix5 0 0 h d e) = heldAt (m ((c : Thread nD τ).loc main_arg0)) (t.val / 64) (2 * (t.val / 16 % 4) + h.val) d.val e.val 4096 := by
  refine (carried_C m c t (by omega) h2 h d e).trans ((after_held m c t _ h d e ?_).trans ?_)
  · refine (carried m c (t.val - 1) _ (by omega) h d e).trans ?_
    have e1 : (t.val - 1) / 64 = t.val / 64 := by omega
    have e2 : (t.val - 1) / 16 = t.val / 16 := by omega
    have e3 : 256 * ((t.val - 1) % 16) + 256 = 256 * (t.val % 16) := by omega
    rw [e1, e2, e3]
  · rw [h2]

/-- The block of the result goes out at a prompt's last point. -/
theorem flushes : ∀ t : Fin cfg0.N, (cfg0.win 7).flush t = true → t.val % 16 = 15 := by
  decide +kernel

/-- The result array after the run, cell by cell. -/
theorem arr_cells (c : Dev nD) : (dats m 0 c).arrAt 7 cfg0.N = fun i : S2x2x8x256x512.Idx => if (i 0).val = 1 then result m c i else (V m c main_v9_1 : Vec Ideal S2x2x8x256x512 .f32) i := by
  refine (dats m 0 c).arrAt_eq_of_coversWhere 7 _ (fun β => β (0 : Fin _) = 1) (by decide +kernel) (fun t hf y => ?_) (fun j => by
    blk_simp [Pipeline.Window.cell_apply]; omega)
  have h2 : t.val % 16 = 15 := flushes t hf
  blk_simp
  rw [after0_7]
  obtain ⟨z, w, h, d, e, rfl⟩ : ∃ (z w : Fin 1) (h : Fin 2) (d : Fin 256) (e : Fin 512), y = ix5 z w h d e := ⟨y 0, y 1, y 2, y 3, y 4, eq_ix5 (n0 := 1) (n1 := 1) (n2 := 2) (n3 := 256) (n4 := 512) y⟩
  obtain rfl : z = 0 := Subsingleton.elim _ _
  obtain rfl : w = 0 := Subsingleton.elim _ _
  refine (left m c t h2 h d e).trans ?_
  have ht : t.val < 128 := t.isLt
  have he : ((View.whole main_v9_1).slice (win0_7.rect t)).emb (ix5 0 0 h d e) = ix5 (1 : Fin 2) (⟨t.val / 64, by omega⟩ : Fin 2) (⟨2 * (t.val / 16 % 4) + h.val, by omega⟩ : Fin 8) d e := by
    blk_ext [(idx t).2.2.2.1]
  rw [he]
  unfold result next
  rw [if_pos (by rfl)]
  rfl

/-- The result array after the run: the second layer's states new, the first layer's as given. -/
theorem arr_eq (c : Dev nD) : (dats m 0 c).arrAt 7 cfg0.N = result m c := by
  refine (arr_cells m c).trans (funext fun i => ?_)
  by_cases h : (i 0).val = 1
  · exact if_pos h
  · refine (if_neg h).trans ((congrFun (V_states m c) i).trans ?_)
    unfold result next
    exact (if_neg h).symm

/-- The run. -/
theorem run_result : θ_run defs (onTc (τ := τ) (main (F := Ideal))) ⟨m, fun _ => 0, ρ⟩ (fun r => ∀ c : Dev nD,
      r.2.mem ((c.tc : Thread nD τ).loc main_v9_1) = result m c
      ∧ r.2.mem ((c.tc : Thread nD τ).loc main_arg0) = m ((c.tc : Thread nD τ).loc main_arg0) ∧ r.2.mem ((c.tc : Thread nD τ).loc main_arg1) = m ((c.tc : Thread nD τ).loc main_arg1)
      ∧ r.2.mem ((c.tc : Thread nD τ).loc main_arg2) = m ((c.tc : Thread nD τ).loc main_arg2) ∧ r.2.mem ((c.tc : Thread nD τ).loc main_arg3) = m ((c.tc : Thread nD τ).loc main_arg3)) :=
  (θ_run defs _ _).mono (fun _ h c => ⟨((h c).1 7).trans (arr_eq m c),
    ((h c).1 3).trans (((dats m 0 c).arrAt_in 3 rfl _).trans ((A_eq m c 3).trans (V_main_arg0 m c))),
    ((h c).1 4).trans (((dats m 0 c).arrAt_in 4 rfl _).trans ((A_eq m c 4).trans (V_main_arg1 m c))),
    ((h c).2 main_arg2 (Pipeline.mem_restRefs_of main_arg2 (by decide) (by decide))).trans (V_main_arg2 m c),
    ((h c).2 main_arg3 (Pipeline.mem_restRefs_of main_arg3 (by decide) (by decide))).trans (V_main_arg3 m c)⟩) (run_main m ρ)

end Cert.Kernel8Ideal.Gen

end
-- ==== Proof.PromptStatesRef.lean ====
module

public import proofs.«01_k».proof.Proof.PromptStates
public import proofs.«01_k».proof.Proof.Gen.Reference8Ideal.Step
public import proofs.«01_k».proof.Proof.Gen.Reference8Ideal.StepRun
public import proofs.«01_k».proof.Defs

@[expose] public section

set_option maxRecDepth 16384

noncomputable section

namespace Cert.Reference8Ideal.Step

open Cert.Reference8Ideal Cert.Reference8Ideal.Gen Idealize.ShloMosaic Idealize.ShloMosaic.TcCoe Idealize.SL.Sem Cert.Scan

/-- A trip's number as a signed word, held within the trips. -/
theorem trip : ∀ j : Fin 64, (min (max (BitVec.toInt (BitVec.ofNat 32 j.val)) 0) ((64 - 1 : Nat) : Int)).toNat = j.val := by
  decide +kernel

/-- A trip's keys. -/
theorem b4_apply (j : Fin 64) (s : State Ideal) (b : Fin 2) (l : Fin 64) (h : Fin 8) (d : Fin 256) : b4 j.val s (ix5 0 b l h d) = s.main_v18_0 (ix5 j b l h d) := by
  unfold b4 Host.dynamicSlice extractStridedSlice
  refine congrArg s.main_v18_0 (funext fun a => Fin.ext ?_)
  match a with
  | ⟨0, _⟩ => exact trip j
  | ⟨1, _⟩ => exact Nat.zero_add _
  | ⟨2, _⟩ => exact Nat.zero_add _
  | ⟨3, _⟩ => exact Nat.zero_add _
  | ⟨4, _⟩ => exact Nat.zero_add _

/-- A trip's values. -/
theorem b10_apply (j : Fin 64) (s : State Ideal) (b : Fin 2) (l : Fin 64) (h : Fin 8) (e : Fin 512) : b10 j.val s (ix5 0 b l h e) = s.main_v18_1 (ix5 j b l h e) := by
  unfold b10 Host.dynamicSlice extractStridedSlice
  refine congrArg s.main_v18_1 (funext fun a => Fin.ext ?_)
  match a with
  | ⟨0, _⟩ => exact trip j
  | ⟨1, _⟩ => exact Nat.zero_add _
  | ⟨2, _⟩ => exact Nat.zero_add _
  | ⟨3, _⟩ => exact Nat.zero_add _
  | ⟨4, _⟩ => exact Nat.zero_add _

/-- The decay of a chunk of 64 rows. -/
theorem fade_coe (g : ℝ) : Ideal.exp (Ideal.ofBits FTy.f32 1115684864#32 * (g : EReal)) = ((Real.exp (((64 : ℕ) : ℝ) * g) : ℝ) : EReal) := by
  have e : Ideal.ofBits FTy.f32 1115684864#32 = (((64 : ℕ) : ℝ) : EReal) := by
    simp [Ideal.ofBits, Ideal.ieee, -EReal.coe_mul]; norm_num
  rw [e, ← EReal.coe_mul]
  rfl

/-- The decay from a row to the chunk's last. -/
theorem fadeFrom_coe (g : ℝ) (l : ℕ) (hl : l < 2 ^ 31) :
    Ideal.exp ((Ideal.ofBits FTy.f32 1115422720#32 - (FloatOps.sitofp (F := Ideal) FTy.f32 (BitVec.ofNat 32 l) : EReal)) * (g : EReal)) = ((Real.exp ((((64 : ℕ) : ℝ) - 1 - l) * g) : ℝ) : EReal) := by
  have e : Ideal.ofBits FTy.f32 1115422720#32 = ((((64 : ℕ) : ℝ) - 1 : ℝ) : EReal) := by
    simp [Ideal.ofBits, Ideal.ieee, -EReal.coe_mul, -EReal.coe_sub]; norm_num
  rw [e, sitofp_ofNat l hl, ← EReal.coe_sub, ← EReal.coe_mul]
  rfl

/-- A head's decay in the reference. -/
theorem decays (h : Fin 8) : (K_main_v7 (F := Ideal)) (ix1 h) = decay h.val := by
  unfold decay
  pointwise [K_main_v7, K_main_v6, K_main_v5, K_main_v4, K_main_v3, K_main_v2, K_main_v1, K_main_v0, K_main_cst, K_main_cst_0]

/-- A trip at an element. -/
theorem b32_apply (j : ℕ) (s : State Ideal) (b : Fin 2) (h : Fin 8) (d : Fin 256) (e : Fin 512) :
    b32 j s (ix4 b h d e) = s.main_v18_5 (ix4 b h d e) * Ideal.exp (Ideal.ofBits FTy.f32 1115684864#32 * (K_main_v7 (F := Ideal)) (ix1 h))
      + ∑ l : Fin 64, b4 j s (ix5 0 b l h d) * Ideal.exp ((Ideal.ofBits FTy.f32 1115422720#32 - (FloatOps.sitofp (F := Ideal) FTy.f32 (BitVec.ofNat 32 l.val) : EReal)) * (K_main_v7 (F := Ideal)) (ix1 h)) * b10 j s (ix5 0 b l h e) := by
  pointwise [b32, b31, b30, b29, b28, b27, b26, b25, b24, b23, b22, b21, b20, b19, b18, b17, b16, b15, b14, b13, b12, b11, b5, K_main_v16]

/-- The keys in the rows' numbers. -/
theorem keys (x : (⟨S9216x8192, .bf16⟩ : BufTy).Contents (Elt Ideal)) (j : Fin 64) (b : Fin 2) (l : Fin 64) (h : Fin 8) (d : Fin 256) :
    A_main_v11 (F := Ideal) x (ix5 j b l h d) = rows x b.val (2048 + (h.val * 256 + d.val)) (64 * j.val + l.val) := by
  have e : A_main_v11 (F := Ideal) x (ix5 j b l h d) = x (ix2 ⟨4096 * b.val + (64 * j.val + l.val), by omega⟩ ⟨2048 + (h.val * 256 + d.val), by omega⟩) := by
    have q : b.val * 4096 + j.val * 64 + l.val = 4096 * b.val + (64 * j.val + l.val) := by omega
    pointwise [A_main_v11, A_main_v10, A_main_v9, A_main_v8]
    simp only [q]
  exact e.trans (entry_eq x _ _)

/-- The values in the rows' numbers. -/
theorem values (x : (⟨S9216x8192, .bf16⟩ : BufTy).Contents (Elt Ideal)) (j : Fin 64) (b : Fin 2) (l : Fin 64) (h : Fin 8) (e : Fin 512) :
    A_main_v15 (F := Ideal) x (ix5 j b l h e) = rows x b.val (4096 + (h.val * 512 + e.val)) (64 * j.val + l.val) := by
  have e : A_main_v15 (F := Ideal) x (ix5 j b l h e) = x (ix2 ⟨4096 * b.val + (64 * j.val + l.val), by omega⟩ ⟨4096 + (h.val * 512 + e.val), by omega⟩) := by
    have q : b.val * 4096 + j.val * 64 + l.val = 4096 * b.val + (64 * j.val + l.val) := by omega
    pointwise [A_main_v15, A_main_v14, A_main_v13, A_main_v12]
    simp only [q]
  exact e.trans (entry_eq x _ _)

/-- The states of the loop. -/
def states (x : (⟨S9216x8192, .bf16⟩ : BufTy).Contents (Elt Ideal)) : ℕ → State Ideal
  | 0 => init x
  | n + 1 => step n (states x n)

/-- The loop keeps its keys and values. -/
theorem states_kept (x : (⟨S9216x8192, .bf16⟩ : BufTy).Contents (Elt Ideal)) (n : ℕ) : (states x n).main_v18_0 = A_main_v11 x ∧ (states x n).main_v18_1 = A_main_v15 x := by
  induction n with
  | zero => exact ⟨rfl, rfl⟩
  | succ n ih => exact ih

/-- After some trips the loop holds what their rows leave. -/
theorem states_held (x : (⟨S9216x8192, .bf16⟩ : BufTy).Contents (Elt Ideal)) (b : Fin 2) (h : Fin 8) (d : Fin 256) (e : Fin 512) (n : ℕ) (hn : n ≤ 64) :
    (states x n).main_v18_5 (ix4 b h d e) = heldAt x b.val h.val d.val e.val (64 * n) := by
  induction n with
  | zero =>
    refine Eq.trans ?_ (held_zero _ _ _).symm
    show K_main_v17 (F := Ideal) (ix4 b h d e) = 0
    pointwise [K_main_v17, K_main_cst_1]
  | succ n ih =>
    show b32 n (states x n) (ix4 b h d e) = _
    rw [b32_apply, ih (by omega), decays, decay_eq h.val (by omega), fade_coe]
    refine Eq.trans ?_ (held_add _ _ _ _ 64).symm
    refine congrArg₂ (fun a b : EReal => a + b) rfl (Finset.sum_congr rfl fun l _ => ?_)
    rw [fadeFrom_coe _ l.val (by omega), b4_apply ⟨n, hn⟩, b10_apply ⟨n, hn⟩, (states_kept x n).1, (states_kept x n).2, keys, values]
    rfl

/-- The reference's result at an element. -/
theorem result_apply (x : (⟨S9216x8192, .bf16⟩ : BufTy).Contents (Elt Ideal)) (st : (⟨S2x2x8x256x512, .f32⟩ : BufTy).Contents (Elt Ideal)) (j : Fin 2) (b : Fin 2) (h : Fin 8) (d : Fin 256) (e : Fin 512) :
    R_main_v23 (F := Ideal) (states x 64) st (ix5 j b h d e) = next x st (ix5 j b h d e) := by
  unfold next
  match j with
  | ⟨0, _⟩ =>
    refine Eq.trans ?_ (if_neg (show ¬ (0 : ℕ) = 1 by decide)).symm
    pointwise [R_main_v23]
  | ⟨1, _⟩ =>
    refine Eq.trans ?_ (if_pos (show (1 : ℕ) = 1 from rfl)).symm
    refine Eq.trans ?_ (states_held x b h d e 64 le_rfl)
    pointwise [R_main_v23]

end Cert.Reference8Ideal.Step

namespace Cert.Proof

open Idealize.ShloMosaic Idealize.ShloMosaic.TcCoe
open Idealize.SL.Sem

/-- The prompts' retention states are the reference's. -/
theorem algebraic8 : Cert.algebraic_Kernel8Ideal_Reference8Ideal := by
  intro m g m' g' _ ha
  refine ⟨fun c => Cert.Kernel8Ideal.Gen.result m c, Cert.Kernel8Ideal.Gen.run_result m g,
    (θ_run Cert.Reference8Ideal.defs _ _).mono (fun r h c => ⟨(h c).1.trans ?_, (h c).2⟩)
      (Cert.Reference8Ideal.StepRun.run_iter (F := Ideal) m' g' (fun c => Cert.Reference8Ideal.Step.states (m' ((c.tc : Thread _ _).loc Cert.Reference8Ideal.main_arg0))) (fun _ => rfl) (fun _ _ => rfl))⟩
  obtain ⟨h0, h1, h2, h3⟩ := ha c
  rw [h0, h3]
  funext i
  obtain ⟨j, b, h, d, e, rfl⟩ : ∃ (j : Fin 2) (b : Fin 2) (h : Fin 8) (d : Fin 256) (e : Fin 512), i = ix5 j b h d e := ⟨i 0, i 1, i 2, i 3, i 4, eq_ix5 (n0 := 2) (n1 := 2) (n2 := 8) (n3 := 256) (n4 := 512) i⟩
  exact Cert.Reference8Ideal.Step.result_apply _ _ j b h d e

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Kernel2
public import proofs.«01_k».proof.Proof.Gen.Kernel2Ideal
public import proofs.«01_k».proof.Proof.Gen.Reference2Ideal
public import proofs.«01_k».proof.Proof.Gen.Kernel3
public import proofs.«01_k».proof.Proof.Gen.Kernel3Ideal
public import proofs.«01_k».proof.Proof.Gen.Reference3Ideal
public import proofs.«01_k».proof.Proof.Gen.Kernel4
public import proofs.«01_k».proof.Proof.Gen.Kernel4Ideal
public import proofs.«01_k».proof.Proof.Gen.Reference4Ideal
public import proofs.«01_k».proof.Proof.Gen.Kernel5
public import proofs.«01_k».proof.Proof.Gen.Kernel5Ideal
public import proofs.«01_k».proof.Proof.Gen.Reference5Ideal
public import proofs.«01_k».proof.Proof.Gen.Kernel6
public import proofs.«01_k».proof.Proof.Gen.Kernel6Ideal
public import proofs.«01_k».proof.Proof.Gen.Reference6Ideal
public import proofs.«01_k».proof.Proof.Gen.Kernel7
public import proofs.«01_k».proof.Proof.Gen.Kernel7Ideal
public import proofs.«01_k».proof.Proof.Gen.Reference7Ideal
public import proofs.«01_k».proof.Proof.Gen.Kernel8
public import proofs.«01_k».proof.Proof.Gen.Kernel8Ideal
public import proofs.«01_k».proof.Proof.Gen.Reference8Ideal
public import proofs.«01_k».proof.Proof.Gen.ReferenceIdeal.Run
public import proofs.«01_k».proof.Proof.Gen.ReferenceIdeal.Read
public import proofs.«01_k».proof.Proof.Gen.Pre_rows_in_range
public import proofs.«01_k».proof.Proof.Run
public import proofs.«01_k».proof.Proof.Range
public import proofs.«01_k».proof.Proof.RefValue
public import proofs.«01_k».proof.Proof.Word.Run
public import proofs.«01_k».proof.Proof.Gen.Kernel2.Frame
public import proofs.«01_k».proof.Proof.Gen.Kernel3.Frame
public import proofs.«01_k».proof.Proof.Gen.Kernel4.Frame
public import proofs.«01_k».proof.Proof.Gen.Kernel5.Frame
public import proofs.«01_k».proof.Proof.Gen.Kernel6.Frame
public import proofs.«01_k».proof.Proof.Gen.Kernel7.Frame
public import proofs.«01_k».proof.Proof.Gen.Kernel8.Frame
public import proofs.«01_k».proof.Proof.Gated
public import proofs.«01_k».proof.Proof.Mixed
public import proofs.«01_k».proof.Proof.State
public import proofs.«01_k».proof.Proof.StateNext
public import proofs.«01_k».proof.Proof.Windows
public import proofs.«01_k».proof.Proof.StatesNext
public import proofs.«01_k».proof.Proof.PromptStatesRef
public import proofs.«01_k».proof.Proof.Word.Range

@[expose] public section

noncomputable section

namespace Cert.Proof

open Idealize.ShloMosaic Idealize.ShloMosaic.TcCoe
open Idealize.SL.Sem

/-- The kernel as written runs and leaves its arguments alone, from tables in range. -/
theorem kernel_frame : Cert.quiescent_Kernel := fun m ρ hp =>
  Cert.Kernel.Gen.frame m ρ (Cert.Kernel.Gen.ok_of_lt m (Cert.Kernel.Gen.experts_lt _ _ _ _ _ _ _ (hp 0)))
    (Cert.Kernel.Gen.rows_of_lt m (Cert.Kernel.Gen.sources_lt _ _ _ _ _ _ _ (hp 0)))

/-- So does the kernel over the extended reals. -/
theorem ideal_frame : Cert.quiescent_KernelIdeal := fun m ρ hp =>
  Cert.KernelIdeal.Gen.frame m ρ (Cert.KernelIdeal.Gen.ok_of_lt m (Cert.KernelIdeal.Gen.experts_lt _ _ _ _ _ _ _ (hp 0)))
    (Cert.KernelIdeal.Gen.rows_of_lt m (Cert.KernelIdeal.Gen.sources_lt _ _ _ _ _ _ _ (hp 0)))

/-- The reference runs and leaves its arguments alone. -/
theorem reference_frame : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel and the reference compute one array. -/
theorem algebraic : Cert.algebraic_KernelIdeal_ReferenceIdeal := by
  intro m g m' g' hp ha
  have hO := Cert.KernelIdeal.Gen.ok_of_lt m (Cert.KernelIdeal.Gen.experts_lt _ _ _ _ _ _ _ (hp 0))
  have hR := Cert.KernelIdeal.Gen.rows_of_lt m (Cert.KernelIdeal.Gen.sources_lt _ _ _ _ _ _ _ (hp 0))
  refine ⟨fun c => Cert.KernelIdeal.Gen.result m hO c, Cert.KernelIdeal.Gen.run_result m g hO hR,
    (θ_run Cert.ReferenceIdeal.defs _ _).mono (fun r h c => ⟨((h c).1.trans (Cert.ReferenceIdeal.Read.val_main_v25_eq ..)).trans ?_, (h c).2⟩) (Cert.ReferenceIdeal.Value.run (F := Ideal) m' g')⟩
  obtain ⟨h0, h1, h2, h3, h4, h5, h6⟩ := ha c
  rw [h0, h1, h2, h3, h4, h5, h6]
  refine (Cert.ReferenceIdeal.Read.agree m hO c fun j => ?_).symm
  exact Cert.KernelIdeal.Gen.sources_lt _ _ _ _ _ _ _ (hp c) j

/-- The gate's projection and its reference run and leave their arguments alone. -/
theorem kernel2_frame : Cert.quiescent_Kernel2 := fun m ρ _ => Cert.Kernel2.Gen.frame m ρ
theorem ideal2_frame : Cert.quiescent_Kernel2Ideal := fun m ρ _ => Cert.Kernel2Ideal.Gen.frame m ρ
theorem reference2_frame : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The projection back and its reference run and leave their arguments alone. -/
theorem kernel3_frame : Cert.quiescent_Kernel3 := fun m ρ _ => Cert.Kernel3.Gen.frame m ρ
theorem ideal3_frame : Cert.quiescent_Kernel3Ideal := fun m ρ _ => Cert.Kernel3Ideal.Gen.frame m ρ
theorem reference3_frame : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- The pooling layer's call on the prompt and its reference run and leave their arguments alone. -/
theorem kernel4_frame : Cert.quiescent_Kernel4 := fun m ρ _ => Cert.Kernel4.Gen.frame m ρ
theorem ideal4_frame : Cert.quiescent_Kernel4Ideal := fun m ρ _ => Cert.Kernel4Ideal.Gen.frame m ρ
theorem reference4_frame : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- The pooling layer's call on the samples and its reference run and leave their arguments alone. -/
theorem kernel5_frame : Cert.quiescent_Kernel5 := fun m ρ _ => Cert.Kernel5.Gen.frame m ρ
theorem ideal5_frame : Cert.quiescent_Kernel5Ideal := fun m ρ _ => Cert.Kernel5Ideal.Gen.frame m ρ
theorem reference5_frame : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- The sliding-window layer's projection and its reference run and leave their arguments alone. -/
theorem kernel6_frame : Cert.quiescent_Kernel6 := fun m ρ _ => Cert.Kernel6.Gen.frame m ρ
theorem ideal6_frame : Cert.quiescent_Kernel6Ideal := fun m ρ _ => Cert.Kernel6Ideal.Gen.frame m ρ
theorem reference6_frame : Cert.quiescent_Reference6Ideal := fun m ρ _ =>
  (θ_run Cert.Reference6Ideal.defs _ _).mono (fun r h => ⟨fun c => (h c).2.2.2.2, sem_eq_zero_of_no_sems (by decide) r.2⟩)
    (Cert.Reference6Ideal.Value.run (F := Ideal) m ρ)

/-- The retention's call on the samples and its reference run and leave their arguments alone. -/
theorem kernel7_frame : Cert.quiescent_Kernel7 := fun m ρ _ => Cert.Kernel7.Gen.frame m ρ
theorem ideal7_frame : Cert.quiescent_Kernel7Ideal := fun m ρ _ => Cert.Kernel7Ideal.Gen.frame m ρ
theorem reference7_frame : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

/-- The retention's call on the prompts and its reference run and leave their arguments alone. -/
theorem kernel8_frame : Cert.quiescent_Kernel8 := fun m ρ _ => Cert.Kernel8.Gen.frame m ρ
theorem ideal8_frame : Cert.quiescent_Kernel8Ideal := fun m ρ _ => Cert.Kernel8Ideal.Gen.frame m ρ
theorem reference8_frame : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

end Cert.Proof

/-- The certificate's claims. -/
theorem Cert.Proof.claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Pre_rows_in_range.Gen.facts,
    Cert.Proof.kernel_frame, Cert.Proof.ideal_frame, Cert.Proof.reference_frame,
    fun m ρ _ => Cert.Proof.reference_frame m ρ trivial,
    Cert.Proof.kernel2_frame, Cert.Proof.ideal2_frame, Cert.Proof.reference2_frame,
    Cert.Proof.kernel3_frame, Cert.Proof.ideal3_frame, Cert.Proof.reference3_frame,
    Cert.Proof.kernel4_frame, Cert.Proof.ideal4_frame, Cert.Proof.reference4_frame,
    Cert.Proof.kernel5_frame, Cert.Proof.ideal5_frame, Cert.Proof.reference5_frame,
    Cert.Proof.kernel6_frame, Cert.Proof.ideal6_frame, Cert.Proof.reference6_frame,
    Cert.Proof.kernel7_frame, Cert.Proof.ideal7_frame, Cert.Proof.reference7_frame,
    Cert.Proof.kernel8_frame, Cert.Proof.ideal8_frame, Cert.Proof.reference8_frame,
    trivial, Cert.Proof.algebraic, trivial, Cert.Proof.algebraic2, trivial, Cert.Proof.algebraic3, trivial, Cert.Proof.algebraic4, trivial, Cert.Proof.algebraic5, trivial, Cert.Proof.algebraic6, trivial, Cert.Proof.algebraic7, trivial, Cert.Proof.algebraic8⟩

end
